-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_window [hPre_finite_window : Cert.Pre_finite_window.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_window.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_window [hPre_finite_window : Cert.Pre_finite_window.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_window.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Kernel10Ideal_pre_finite_window [hKernel10Ideal : Cert.Kernel10Ideal.Facts] [hPre_finite_window : Cert.Pre_finite_window.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_window m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10Ideal_pre_finite_window [hReference10Ideal : Cert.Reference10Ideal.Facts] [hPre_finite_window : Cert.Pre_finite_window.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_window m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.bf16_pair.BufferStatement Cert.Kernel3Ideal.S18432x2x512 Cert.Kernel3Ideal.S18432x1x512
  ∧ IdealRules.bf16_pair.BufferStatement Cert.Kernel3Ideal.S512x2x512 Cert.Kernel3Ideal.S512x1x512
  ∧ IdealRules.bf16_pair.PackStatement Cert.Kernel3Ideal.S512x512
  ∧ IdealRules.bf16_pair.Statement Cert.Kernel3Ideal.S512x2x512 Cert.Kernel3Ideal.S512x1x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v45)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v41)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "mask" .f32 0xF149F2CA#32 ⊥

def algebraic_Kernel10Ideal_Reference10Ideal_pre_finite_window [hKernel10Ideal : Cert.Kernel10Ideal.Facts] [hReference10Ideal : Cert.Reference10Ideal.Facts] [hPre_finite_window : Cert.Pre_finite_window.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_window m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v75) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts) (hPre_finite_window : Cert.Pre_finite_window.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_window (hKernel10Ideal := hKernel10Ideal) (hPre_finite_window := hPre_finite_window)
    ∧ quiescent_Reference10Ideal (hReference10Ideal := hReference10Ideal)
    ∧ quiescent_Reference10Ideal_pre_finite_window (hReference10Ideal := hReference10Ideal) (hPre_finite_window := hPre_finite_window)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_window (hKernel10Ideal := hKernel10Ideal) (hReference10Ideal := hReference10Ideal) (hPre_finite_window := hPre_finite_window)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_scores.lean ====
abbrev S8x2048x1536 : Shape := ⟨3, ![8, 2048, 1536]⟩
abbrev S8x256x1536 : Shape := ⟨3, ![8, 256, 1536]⟩
abbrev S64 : Shape := ⟨1, ![64]⟩
abbrev S128 : Shape := ⟨1, ![128]⟩
abbrev S8x2048x1024 : Shape := ⟨3, ![8, 2048, 1024]⟩
abbrev S8x256x1024 : Shape := ⟨3, ![8, 256, 1024]⟩
abbrev S_ : Shape := ⟨0, ![]⟩

class Facts : Prop where
  slices_S8x2048x1536_S8x2048x1024_0_0_0 : S8x2048x1536.Slices ![0, 0, 0] S8x2048x1024
  bitsLt_bf16_f32 : FTy.bits .bf16 < FTy.bits .f32
  slices_S8x256x1536_S8x256x1024_0_0_0 : S8x256x1536.Slices ![0, 0, 0] S8x256x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn {F : FTy → Type} [FloatOps F] (main_arg0 : FVec F S8x2048x1536 .bf16) (main_arg1 : FVec F S8x256x1536 .bf16) (main_arg2 : FVec F S64 .f32) (main_arg3 : FVec F S64 .f32) (main_arg4 : FVec F S64 .f32) (main_arg5 : FVec F S64 .f32) (main_arg6 : FVec F S128 .f32) : IVec S_ 1 :=
  let main_v0 : FVec F S8x2048x1024 .bf16 := (extractStridedSlice S8x2048x1024 ![0, 0, 0] · slices_S8x2048x1536_S8x2048x1024_0_0_0) main_arg0
  let main_v1 : FVec F S8x2048x1024 .f32 := (extf .f32 · bitsLt_bf16_f32) main_v0
  let main_v2 : FVec F S8x256x1024 .bf16 := (extractStridedSlice S8x256x1024 ![0, 0, 0] · slices_S8x256x1536_S8x256x1024_0_0_0) main_arg1
  let main_v3 : FVec F S8x256x1024 .f32 := (extf .f32 · bitsLt_bf16_f32) main_v2
  let main_v4 : FVec F S8x2048x1024 .f32 := Host.absf main_v1
  let main_cst : FVec F S_ .f32 := constant S_ .f32 0x7F800000#32
  let main_v5 : FVec F S8x2048x1024 .f32 := broadcastInDim S8x2048x1024 ![] bcast_S_S8x2048x1024 main_cst
  let main_v6 : IVec S8x2048x1024 1 := cmpf .olt main_v4 main_v5
  let main_c : IVec S_ 1 := constantI S_ 1 1#1
  let main_v7 : IVec S_ 1 := (fun x v => Host.reduce IntOp.andi x v reducesTo_S8x2048x1024_S_d0_1_2 h_S_) main_v6 main_c
  let main_v8 : FVec F S8x256x1024 .f32 := Host.absf main_v3
  let main_cst_0 : FVec F S_ .f32 := constant S_ .f32 0x7F800000#32
  let main_v9 : FVec F S8x256x1024 .f32 := broadcastInDim S8x256x1024 ![] bcast_S_S8x256x1024 main_cst_0
  let main_v10 : IVec S8x256x1024 1 := cmpf .olt main_v8 main_v9
  let main_c_1 : IVec S_ 1 := constantI S_ 1 1#1
  let main_v11 : IVec S_ 1 := (fun x v => Host.reduce IntOp.andi x v reducesTo_S8x256x1024_S_d0_1_2 h_S_) main_v10 main_c_1
  let main_v12 : IVec S_ 1 := andi main_v7 main_v11
  main_v12
-- ==== Pre_finite_window.lean ====
abbrev S18432x768 : Shape := ⟨2, ![18432, 768]⟩
abbrev S8 : Shape := ⟨1, ![8]⟩
abbrev S18432x640 : Shape := ⟨2, ![18432, 640]⟩
abbrev S_ : Shape := ⟨0, ![]⟩

class Facts : Prop where
  slices_S18432x768_S18432x640_0_0 : S18432x768.Slices ![0, 0] S18432x640
  bitsLt_bf16_f32 : FTy.bits .bf16 < FTy.bits .f32
  bcast_S_S18432x640 : S_.BroadcastsInDim S18432x640 (![] : Fin 0 → Fin S18432x640.rank)
  reducesTo_S18432x640_S_d0_1 : S18432x640.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S18432x768 .bf16) (main_arg1 : FVec F S8 .f32) : IVec S_ 1 :=
  let main_v0 : FVec F S18432x640 .bf16 := (extractStridedSlice S18432x640 ![0, 0] · slices_S18432x768_S18432x640_0_0) main_arg0
  let main_v1 : FVec F S18432x640 .f32 := (extf .f32 · bitsLt_bf16_f32) main_v0
  let main_v2 : FVec F S18432x640 .f32 := Host.absf main_v1
  let main_cst : FVec F S_ .f32 := constant S_ .f32 0x7F800000#32
  let main_v3 : FVec F S18432x640 .f32 := broadcastInDim S18432x640 ![] bcast_S_S18432x640 main_cst
  let main_v4 : IVec S18432x640 1 := cmpf .olt main_v2 main_v3
  let main_c : IVec S_ 1 := constantI S_ 1 1#1
  let main_v5 : IVec S_ 1 := (fun x v => Host.reduce IntOp.andi x v reducesTo_S18432x640_S_d0_1 h_S_) main_v4 main_c
  let main_cst_0 : FVec F S_ .f32 := constant S_ .f32 0x7F800000#32
  let main_v6 : FVec F S8 .f32 := broadcastInDim S8 ![] bcast_S_S8 main_cst_0
  let main_v7 : IVec S8 1 := cmpf .olt main_arg1 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v5 main_v8
  main_v9
-- ==== Kernel.lean ====
abbrev S8x2048x1536 : Shape := ⟨3, ![8, 2048, 1536]⟩
abbrev S8x256x1536 : Shape := ⟨3, ![8, 256, 1536]⟩
abbrev S64 : Shape := ⟨1, ![64]⟩
abbrev S128 : Shape := ⟨1, ![128]⟩
abbrev S16384x1536 : Shape := ⟨2, ![16384, 1536]⟩
abbrev S2048x1536 : Shape := ⟨2, ![2048, 1536]⟩
abbrev S18432x1536 : Shape := ⟨2, ![18432, 1536]⟩
abbrev S1x64 : Shape := ⟨2, ![1, 64]⟩
abbrev S4x64 : Shape := ⟨2, ![4, 64]⟩
abbrev S1x128 : Shape := ⟨2, ![1, 128]⟩
abbrev S18432x512 : Shape := ⟨2, ![18432, 512]⟩
abbrev S256x1536 : Shape := ⟨2, ![256, 1536]⟩
abbrev S256x512 : Shape := ⟨2, ![256, 512]⟩
abbrev S2304x512 : Shape := ⟨2, ![2304, 512]⟩
abbrev S2048x512 : Shape := ⟨2, ![2048, 512]⟩
abbrev S1 : Shape := ⟨1, ![1]⟩
abbrev S1x1 : Shape := ⟨2, ![1, 1]⟩
abbrev S256x64 : Shape := ⟨2, ![256, 64]⟩
abbrev S2304x64 : Shape := ⟨2, ![2304, 64]⟩
abbrev S256x2304 : Shape := ⟨2, ![256, 2304]⟩
abbrev S256 : Shape := ⟨1, ![256]⟩
abbrev S256x1 : Shape := ⟨2, ![256, 1]⟩
abbrev S2304x128 : Shape := ⟨2, ![2304, 128]⟩
abbrev S256x128 : Shape := ⟨2, ![256, 128]⟩
abbrev S256x256 : Shape := ⟨2, ![256, 256]⟩

abbrev nBuf : Space → Nat
  | .hbm => 17
  | .vmem => 10
  | .smem => 0
  | _ => 0

abbrev bufTy : (tb : Table) → Fin (tcTables nBuf tb) → BufTy
  | .hbm, ⟨0, _⟩ => ⟨S8x2048x1536, .bf16⟩
  | .hbm, ⟨1, _⟩ => ⟨S8x256x1536, .bf16⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S16384x1536, .bf16⟩
  | .hbm, ⟨8, _⟩ => ⟨S2048x1536, .bf16⟩
  | .hbm, ⟨9, _⟩ => ⟨S18432x1536, .bf16⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S1x128, .f32⟩
  | .hbm, ⟨16, _⟩ => ⟨S18432x512, .bf16⟩
  | .local _ .vmem, ⟨0, _⟩ => ⟨S2048x1536, .bf16⟩
  | .local _ .vmem, ⟨1, _⟩ => ⟨S2048x1536, .bf16⟩
  | .local _ .vmem, ⟨2, _⟩ => ⟨S256x1536, .bf16⟩
  | .local _ .vmem, ⟨3, _⟩ => ⟨S256x1536, .bf16⟩
  | .local _ .vmem, ⟨4, _⟩ => ⟨S4x64, .f32⟩
  | .local _ .vmem, ⟨5, _⟩ => ⟨S1x128, .f32⟩
  | .local _ .vmem, ⟨6, _⟩ => ⟨S256x512, .bf16⟩
  | .local _ .vmem, ⟨7, _⟩ => ⟨S256x512, .bf16⟩
  | .local _ .vmem, ⟨8, _⟩ => ⟨S2304x512, .bf16⟩
  | .local _ .vmem, ⟨9, _⟩ => ⟨S2304x512, .bf16⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c8_i32 : BitVec 32 := 8#32
  let v22 : BitVec 1 := Scalar.cmpi .slt arg1 c8_i32
  let v23 : BitVec 32 := Scalar.extui v22
  let c0_i32_7 : BitVec 32 := 0#32
  let v24 : BitVec 1 := Scalar.cmpi .ne v23 c0_i32_7
  v24

def k0_mult1 (i : grid0.Coords) : BitVec 32 :=
  let arg1 : BitVec 32 := BitVec.ofNat 32 (i 1).val
  let c256_i32 : BitVec 32 := 256#32
  let v28 : BitVec 32 := Scalar.muli arg1 c256_i32
  v28
def k0_off1 (i : grid0.Coords) : Fin 2 → Nat :=
  let arg1 : BitVec 32 := BitVec.ofNat 32 (i 1).val
  let c256_i32 : BitVec 32 := 256#32
  let v28 : BitVec 32 := Scalar.muli arg1 c256_i32
  let v29 : BitVec 32 := v28
  let v30 : Index := Scalar.indexCast v29
  let c0_10 : Index := 0#32
  ![v30.toNat, 0]
def k0_cond3 (i : grid0.Coords) : BitVec 1 :=
  let arg1 : BitVec 32 := BitVec.ofNat 32 (i 1).val
  let c8_i32_8 : BitVec 32 := 8#32
  let v25 : BitVec 1 := Scalar.cmpi .sge arg1 c8_i32_8
  let v26 : BitVec 32 := Scalar.extui v25
  let c0_i32_9 : BitVec 32 := 0#32
  let v27 : BitVec 1 := Scalar.cmpi .ne v26 c0_i32_9
  v27

def k0_mult2 (i : grid0.Coords) : BitVec 32 :=
  let arg1 : BitVec 32 := BitVec.ofNat 32 (i 1).val
  let c8_i32_10 : BitVec 32 := 8#32
  let v28 : BitVec 32 := Scalar.subi arg1 c8_i32_10
  let c256_i32 : BitVec 32 := 256#32
  let v29 : BitVec 32 := Scalar.muli v28 c256_i32
  v29
def k0_off2 (i : grid0.Coords) : Fin 2 → Nat :=
  let arg1 : BitVec 32 := BitVec.ofNat 32 (i 1).val
  let c8_i32_10 : BitVec 32 := 8#32
  let v28 : BitVec 32 := Scalar.subi arg1 c8_i32_10
  let c256_i32 : BitVec 32 := 256#32
  let v29 : BitVec 32 := Scalar.muli v28 c256_i32
  let v30 : BitVec 32 := v29
  let v31 : Index := Scalar.indexCast v30
  let c0_11 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.muli arg0 c8_i32_0
  let v2 : BitVec 32 := Scalar.addi v1 arg1
  let c1_i32 : BitVec 32 := 1#32
  let v3 : BitVec 32 := Scalar.muli arg0 c1_i32
  let c64_i32 : BitVec 32 := 64#32
  let v4 : BitVec 32 := Scalar.addi c64_i32 v3
  let c8_i32_1 : BitVec 32 := 8#32
  let v5 : BitVec 32 := Scalar.subi arg1 c8_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x1536 : Shape := ⟨3, ![8, 2048, 1536]⟩
abbrev S8x256x1536 : Shape := ⟨3, ![8, 256, 1536]⟩
abbrev S64 : Shape := ⟨1, ![64]⟩
abbrev S128 : Shape := ⟨1, ![128]⟩
abbrev S_ : Shape := ⟨0, ![]⟩
abbrev S8x2048x512 : Shape := ⟨3, ![8, 2048, 512]⟩
abbrev S8x2048x4x2x64 : Shape := ⟨5, ![8, 2048, 4, 2, 64]⟩
abbrev S8x2048x4x128 : Shape := ⟨4, ![8, 2048, 4, 128]⟩
abbrev S8x256x512 : Shape := ⟨3, ![8, 256, 512]⟩
abbrev S8x256x4x2x64 : Shape := ⟨5, ![8, 256, 4, 2, 64]⟩
abbrev S8x256x4x128 : Shape := ⟨4, ![8, 256, 4, 128]⟩
abbrev S8x2304x4x2x64 : Shape := ⟨5, ![8, 2304, 4, 2, 64]⟩
abbrev S8x2304x4x128 : Shape := ⟨4, ![8, 2304, 4, 128]⟩
abbrev S8x4x2x2048x2304 : Shape := ⟨5, ![8, 4, 2, 2048, 2304]⟩
abbrev S8x4x2x2048 : Shape := ⟨4, ![8, 4, 2, 2048]⟩
abbrev S8x4x2x2048x1 : Shape := ⟨5, ![8, 4, 2, 2048, 1]⟩
abbrev S8x4x1x2048x2304 : Shape := ⟨5, ![8, 4, 1, 2048, 2304]⟩
abbrev S8x4x2048x2304 : Shape := ⟨4, ![8, 4, 2048, 2304]⟩
abbrev S8x4x128x2048 : Shape := ⟨4, ![8, 4, 128, 2048]⟩
abbrev S8x4x2x256x256 : Shape := ⟨5, ![8, 4, 2, 256, 256]⟩
abbrev S8x4x2x256 : Shape := ⟨4, ![8, 4, 2, 256]⟩
abbrev S8x4x2x256x1 : Shape := ⟨5, ![8, 4, 2, 256, 1]⟩
abbrev S8x4x1x256x256 : Shape := ⟨5, ![8, 4, 1, 256, 256]⟩
abbrev S8x4x256x256 : Shape := ⟨4, ![8, 4, 256, 256]⟩
abbrev S8x4x128x256 : Shape := ⟨4, ![8, 4, 128, 256]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x256x4 : Shape := ⟨3, ![8, 256, 4]⟩
abbrev S8x256x4x1 : Shape := ⟨4, ![8, 256, 4, 1]⟩
abbrev S16384x512 : Shape := ⟨2, ![16384, 512]⟩
abbrev S2048x512 : Shape := ⟨2, ![2048, 512]⟩
abbrev S18432x512 : Shape := ⟨2, ![18432, 512]⟩

abbrev nBuf : Space → Nat
  | .hbm => 132
  | .vmem => 0
  | .smem => 0
  | _ => 0

abbrev hbmTy0_0 (i : Nat) : BufTy := match i % 128 with
  | 0 => ⟨S8x2048x1536, .bf16⟩
  | 1 => ⟨S8x256x1536, .bf16⟩
  | 2 => ⟨S64, .f32⟩
  | 3 => ⟨S64, .f32⟩
  | 4 => ⟨S64, .f32⟩
  | 5 => ⟨S64, .f32⟩
  | 6 => ⟨S128, .f32⟩
  | 7 => ⟨S64, .f32⟩
  | 8 => ⟨S_, .f32⟩
  | 9 => ⟨S_, .f32⟩
  | 10 => ⟨S_, .f32⟩
  | 11 => ⟨S64, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S8x2048x1536, .f32⟩
  | 19 => ⟨S8x2048x512, .f32⟩
  | 20 => ⟨S8x2048x512, .f32⟩
  | 21 => ⟨S8x2048x512, .f32⟩
  | 22 => ⟨S8x2048x4x2x64, .f32⟩
  | 23 => ⟨S8x2048x4x2x64, .f32⟩
  | 24 => ⟨S8x2048x4x128, .f32⟩
  | 25 => ⟨S8x256x1536, .f32⟩
  | 26 => ⟨S8x256x512, .f32⟩
  | 27 => ⟨S8x256x512, .f32⟩
  | 28 => ⟨S8x256x512, .f32⟩
  | 29 => ⟨S8x256x4x2x64, .f32⟩
  | 30 => ⟨S8x256x4x2x64, .f32⟩
  | 31 => ⟨S8x256x4x128, .f32⟩
  | 32 => ⟨S8x2304x4x2x64, .f32⟩
  | 33 => ⟨S8x2304x4x128, .f32⟩
  | 34 => ⟨S8x4x2x2048x2304, .f32⟩
  | 35 => ⟨S_, .f32⟩
  | 36 => ⟨S8x4x2x2048x2304, .f32⟩
  | 37 => ⟨S8x4x2x2048x2304, .f32⟩
  | 38 => ⟨S_, .f32⟩
  | 39 => ⟨S8x4x2x2048, .f32⟩
  | 40 => ⟨S_, .f32⟩
  | 41 => ⟨S8x4x2x2048, .f32⟩
  | 42 => ⟨S8x4x2x2048, .f32⟩
  | 43 => ⟨S8x4x2x2048x1, .f32⟩
  | 44 => ⟨S8x4x2x2048x2304, .f32⟩
  | 45 => ⟨S8x4x2x2048x2304, .f32⟩
  | 46 => ⟨S8x4x2x2048x2304, .f32⟩
  | 47 => ⟨S_, .f32⟩
  | 48 => ⟨S8x4x2x2048, .f32⟩
  | 49 => ⟨S8x4x2x2048x1, .f32⟩
  | 50 => ⟨S8x4x2x2048x2304, .f32⟩
  | 51 => ⟨S8x4x2x2048x2304, .f32⟩
  | 52 => ⟨S8x4x1x2048x2304, .f32⟩
  | 53 => ⟨S8x4x2048x2304, .f32⟩
  | 54 => ⟨S8x4x1x2048x2304, .f32⟩
  | 55 => ⟨S8x4x2048x2304, .f32⟩
  | 56 => ⟨S8x4x2048x2304, .f32⟩
  | 57 => ⟨S8x4x2048x2304, .f32⟩
  | 58 => ⟨S8x4x2048x2304, .f32⟩
  | 59 => ⟨S8x4x128x2048, .f32⟩
  | 60 => ⟨S8x2048x4x128, .f32⟩
  | 61 => ⟨S8x4x2x256x256, .f32⟩
  | 62 => ⟨S_, .f32⟩
  | 63 => ⟨S8x4x2x256x256, .f32⟩
  | 64 => ⟨S8x4x2x256x256, .f32⟩
  | 65 => ⟨S_, .f32⟩
  | 66 => ⟨S8x4x2x256, .f32⟩
  | 67 => ⟨S_, .f32⟩
  | 68 => ⟨S8x4x2x256, .f32⟩
  | 69 => ⟨S8x4x2x256, .f32⟩
  | 70 => ⟨S8x4x2x256x1, .f32⟩
  | 71 => ⟨S8x4x2x256x256, .f32⟩
  | 72 => ⟨S8x4x2x256x256, .f32⟩
  | 73 => ⟨S8x4x2x256x256, .f32⟩
  | 74 => ⟨S_, .f32⟩
  | 75 => ⟨S8x4x2x256, .f32⟩
  | 76 => ⟨S8x4x2x256x1, .f32⟩
  | 77 => ⟨S8x4x2x256x256, .f32⟩
  | 78 => ⟨S8x4x2x256x256, .f32⟩
  | 79 => ⟨S8x4x1x256x256, .f32⟩
  | 80 => ⟨S8x4x256x256, .f32⟩
  | 81 => ⟨S8x4x1x256x256, .f32⟩
  | 82 => ⟨S8x4x256x256, .f32⟩
  | 83 => ⟨S8x4x256x256, .f32⟩
  | 84 => ⟨S8x4x256x256, .f32⟩
  | 85 => ⟨S8x4x256x256, .f32⟩
  | 86 => ⟨S8x4x128x256, .f32⟩
  | 87 => ⟨S8x256x4x128, .f32⟩
  | 88 => ⟨S8x2048x4x128, .f32⟩
  | 89 => ⟨S_, .f32⟩
  | 90 => ⟨S8x2048x4, .f32⟩
  | 91 => ⟨S8x2048x4x1, .f32⟩
  | 92 => ⟨S_, .f32⟩
  | 93 => ⟨S8x2048x4x1, .f32⟩
  | 94 => ⟨S8x2048x4x1, .f32⟩
  | 95 => ⟨S_, .f32⟩
  | 96 => ⟨S8x2048x4x1, .f32⟩
  | 97 => ⟨S8x2048x4x1, .f32⟩
  | 98 => ⟨S8x2048x4x1, .f32⟩
  | 99 => ⟨S8x2048x4x128, .f32⟩
  | 100 => ⟨S8x2048x4x128, .f32⟩
  | 101 => ⟨S1x1x1x128, .f32⟩
  | 102 => ⟨S8x2048x4x128, .f32⟩
  | 103 => ⟨S8x2048x4x128, .f32⟩
  | 104 => ⟨S_, .f32⟩
  | 105 => ⟨S8x2048x4x128, .f32⟩
  | 106 => ⟨S8x2048x4x128, .f32⟩
  | 107 => ⟨S8x2048x512, .f32⟩
  | 108 => ⟨S8x256x4x128, .f32⟩
  | 109 => ⟨S_, .f32⟩
  | 110 => ⟨S8x256x4, .f32⟩
  | 111 => ⟨S8x256x4x1, .f32⟩
  | 112 => ⟨S_, .f32⟩
  | 113 => ⟨S8x256x4x1, .f32⟩
  | 114 => ⟨S8x256x4x1, .f32⟩
  | 115 => ⟨S_, .f32⟩
  | 116 => ⟨S8x256x4x1, .f32⟩
  | 117 => ⟨S8x256x4x1, .f32⟩
  | 118 => ⟨S8x256x4x1, .f32⟩
  | 119 => ⟨S8x256x4x128, .f32⟩
  | 120 => ⟨S8x256x4x128, .f32⟩
  | 121 => ⟨S1x1x1x128, .f32⟩
  | 122 => ⟨S8x256x4x128, .f32⟩
  | 123 => ⟨S8x256x4x128, .f32⟩
  | 124 => ⟨S_, .f32⟩
  | 125 => ⟨S8x256x4x128, .f32⟩
  | 126 => ⟨S8x256x4x128, .f32⟩
  | 127 => ⟨S8x256x512, .f32⟩
  | _ => ⟨S8x2048x1536, .bf16⟩

abbrev hbmTy0_1 (i : Nat) : BufTy := match i % 128 with
  | 0 => ⟨S16384x512, .f32⟩
  | 1 => ⟨S2048x512, .f32⟩
  | 2 => ⟨S18432x512, .f32⟩
  | 3 => ⟨S18432x512, .bf16⟩
  | _ => ⟨S8x2048x1536, .bf16⟩

abbrev hbmTy (i : Nat) : BufTy := match i / 128 with
  | 0 => hbmTy0_0 i
  | 1 => hbmTy0_1 i
  | _ => ⟨S8x2048x1536, .bf16⟩

abbrev bufTy : (tb : Table) → Fin (tcTables nBuf tb) → BufTy
  | .hbm, ⟨i, _⟩ => hbmTy i
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_13 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_cst_15 : Ref sig .tc := ⟨.hbm, 112, rfl⟩
abbrev main_v89 : Ref sig .tc := ⟨.hbm, 113, rfl⟩
abbrev main_v90 : Ref sig .tc := ⟨.hbm, 114, rfl⟩
abbrev main_cst_16 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_17 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== Kernel2.lean ====
abbrev S18432x1024 : Shape := ⟨2, ![18432, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S18432x4096 : Shape := ⟨2, ![18432, 4096]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S18432x1024, .bf16⟩
  | .hbm, ⟨1, _⟩ => ⟨S4x1024x1024, .f32⟩
  | .hbm, ⟨2, _⟩ => ⟨S4x1024, .f32⟩
  | .hbm, ⟨3, _⟩ => ⟨S1024x4x1024, .f32⟩
  | .hbm, ⟨4, _⟩ => ⟨S1024x4096, .f32⟩
  | .hbm, ⟨5, _⟩ => ⟨S1024x4096, .bf16⟩
  | .hbm, ⟨6, _⟩ => ⟨S1x4096, .f32⟩
  | .hbm, ⟨7, _⟩ => ⟨S18432x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S18432x1024 : Shape := ⟨2, ![18432, 1024]⟩
abbrev S4x1024x1024 : Shape := ⟨3, ![4, 1024, 1024]⟩
abbrev S4x1024 : Shape := ⟨2, ![4, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S18432x4096 : Shape := ⟨2, ![18432, 4096]⟩

abbrev nBuf : Space → Nat
  | .hbm => 70
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S4x1024x1024, .f32⟩
  | .hbm, ⟨2, _⟩ => ⟨S4x1024, .f32⟩
  | .hbm, ⟨3, _⟩ => ⟨S18432x1024, .f32⟩
  | .hbm, ⟨4, _⟩ => ⟨S1x1024x1024, .f32⟩
  | .hbm, ⟨5, _⟩ => ⟨S1024x1024, .f32⟩
  | .hbm, ⟨6, _⟩ => ⟨S18432x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S18432x1024, .f32⟩
  | .hbm, ⟨11, _⟩ => ⟨S18432x1024, .f32⟩
  | .hbm, ⟨12, _⟩ => ⟨S18432x1024, .f32⟩
  | .hbm, ⟨13, _⟩ => ⟨S18432x1024, .f32⟩
  | .hbm, ⟨14, _⟩ => ⟨S_, .f32⟩
  | .hbm, ⟨15, _⟩ => ⟨S18432x1024, .f32⟩
  | .hbm, ⟨16, _⟩ => ⟨S18432x1024, .f32⟩
  | .hbm, ⟨17, _⟩ => ⟨S_, .f32⟩
  | .hbm, ⟨18, _⟩ => ⟨S18432x1024, .f32⟩
  | .hbm, ⟨19, _⟩ => ⟨S18432x1024, .f32⟩
  | .hbm, ⟨20, _⟩ => ⟨S1x1024x1024, .f32⟩
  | .hbm, ⟨21, _⟩ => ⟨S1024x1024, .f32⟩
  | .hbm, ⟨22, _⟩ => ⟨S18432x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S18432x1024, .f32⟩
  | .hbm, ⟨27, _⟩ => ⟨S18432x1024, .f32⟩
  | .hbm, ⟨28, _⟩ => ⟨S18432x1024, .f32⟩
  | .hbm, ⟨29, _⟩ => ⟨S18432x1024, .f32⟩
  | .hbm, ⟨30, _⟩ => ⟨S_, .f32⟩
  | .hbm, ⟨31, _⟩ => ⟨S18432x1024, .f32⟩
  | .hbm, ⟨32, _⟩ => ⟨S18432x1024, .f32⟩
  | .hbm, ⟨33, _⟩ => ⟨S_, .f32⟩
  | .hbm, ⟨34, _⟩ => ⟨S18432x1024, .f32⟩
  | .hbm, ⟨35, _⟩ => ⟨S18432x1024, .f32⟩
  | .hbm, ⟨36, _⟩ => ⟨S1x1024x1024, .f32⟩
  | .hbm, ⟨37, _⟩ => ⟨S1024x1024, .f32⟩
  | .hbm, ⟨38, _⟩ => ⟨S18432x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S18432x1024, .f32⟩
  | .hbm, ⟨43, _⟩ => ⟨S18432x1024, .f32⟩
  | .hbm, ⟨44, _⟩ => ⟨S18432x1024, .f32⟩
  | .hbm, ⟨45, _⟩ => ⟨S18432x1024, .f32⟩
  | .hbm, ⟨46, _⟩ => ⟨S_, .f32⟩
  | .hbm, ⟨47, _⟩ => ⟨S18432x1024, .f32⟩
  | .hbm, ⟨48, _⟩ => ⟨S18432x1024, .f32⟩
  | .hbm, ⟨49, _⟩ => ⟨S_, .f32⟩
  | .hbm, ⟨50, _⟩ => ⟨S18432x1024, .f32⟩
  | .hbm, ⟨51, _⟩ => ⟨S18432x1024, .f32⟩
  | .hbm, ⟨52, _⟩ => ⟨S1x1024x1024, .f32⟩
  | .hbm, ⟨53, _⟩ => ⟨S1024x1024, .f32⟩
  | .hbm, ⟨54, _⟩ => ⟨S18432x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S18432x1024, .f32⟩
  | .hbm, ⟨59, _⟩ => ⟨S18432x1024, .f32⟩
  | .hbm, ⟨60, _⟩ => ⟨S18432x1024, .f32⟩
  | .hbm, ⟨61, _⟩ => ⟨S18432x1024, .f32⟩
  | .hbm, ⟨62, _⟩ => ⟨S_, .f32⟩
  | .hbm, ⟨63, _⟩ => ⟨S18432x1024, .f32⟩
  | .hbm, ⟨64, _⟩ => ⟨S18432x1024, .f32⟩
  | .hbm, ⟨65, _⟩ => ⟨S_, .f32⟩
  | .hbm, ⟨66, _⟩ => ⟨S18432x1024, .f32⟩
  | .hbm, ⟨67, _⟩ => ⟨S18432x1024, .f32⟩
  | .hbm, ⟨68, _⟩ => ⟨S18432x4096, .f32⟩
  | .hbm, ⟨69, _⟩ => ⟨S18432x4096, .bf16⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== Kernel3.lean ====
abbrev S18432x512 : Shape := ⟨2, ![18432, 512]⟩
abbrev S18432x4096 : Shape := ⟨2, ![18432, 4096]⟩
abbrev S18432x1024 : Shape := ⟨2, ![18432, 1024]⟩
abbrev S16x6x1024 : Shape := ⟨3, ![16, 6, 1024]⟩
abbrev S1024 : Shape := ⟨1, ![1024]⟩
abbrev S4x512x1024 : Shape := ⟨3, ![4, 512, 1024]⟩
abbrev S1024x1024 : Shape := ⟨2, ![1024, 1024]⟩
abbrev S1x1024 : Shape := ⟨2, ![1, 1024]⟩
abbrev S512x512 : Shape := ⟨2, ![512, 512]⟩
abbrev S512x4096 : Shape := ⟨2, ![512, 4096]⟩
abbrev S512x1024 : Shape := ⟨2, ![512, 1024]⟩
abbrev S1x6x1024 : Shape := ⟨3, ![1, 6, 1024]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S18432x512, .bf16⟩
  | .hbm, ⟨1, _⟩ => ⟨S18432x512, .bf16⟩
  | .hbm, ⟨2, _⟩ => ⟨S18432x512, .bf16⟩
  | .hbm, ⟨3, _⟩ => ⟨S18432x512, .bf16⟩
  | .hbm, ⟨4, _⟩ => ⟨S18432x4096, .bf16⟩
  | .hbm, ⟨5, _⟩ => ⟨S18432x1024, .f32⟩
  | .hbm, ⟨6, _⟩ => ⟨S16x6x1024, .f32⟩
  | .hbm, ⟨7, _⟩ => ⟨S1024, .f32⟩
  | .hbm, ⟨8, _⟩ => ⟨S4x512x1024, .f32⟩
  | .hbm, ⟨9, _⟩ => ⟨S1024x1024, .f32⟩
  | .hbm, ⟨10, _⟩ => ⟨S1x1024, .f32⟩
  | .hbm, ⟨11, _⟩ => ⟨S4x512x1024, .bf16⟩
  | .hbm, ⟨12, _⟩ => ⟨S1024x1024, .bf16⟩
  | .hbm, ⟨13, _⟩ => ⟨S18432x1024, .f32⟩
  | .hbm, ⟨14, _⟩ => ⟨S18432x1024, .bf16⟩
  | .hbm, ⟨15, _⟩ => ⟨S18432x512, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S4x512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x512, .i32⟩
  | .local _ .vmem, ⟨22, _⟩ => ⟨S512x512, .i32⟩
  | _, _ => ⟨S18432x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [BitOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 1 := Scalar.cmpi .slt arg0 c32_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
abbrev S18432x512 : Shape := ⟨2, ![18432, 512]⟩
abbrev S18432x4096 : Shape := ⟨2, ![18432, 4096]⟩
abbrev S18432x1024 : Shape := ⟨2, ![18432, 1024]⟩
abbrev S16x6x1024 : Shape := ⟨3, ![16, 6, 1024]⟩
abbrev S1024 : Shape := ⟨1, ![1024]⟩
abbrev S4x512x1024 : Shape := ⟨3, ![4, 512, 1024]⟩
abbrev S1024x1024 : Shape := ⟨2, ![1024, 1024]⟩
abbrev S1x1024 : Shape := ⟨2, ![1, 1024]⟩
abbrev S18432x2x512 : Shape := ⟨3, ![18432, 2, 512]⟩
abbrev S18432x1x512 : Shape := ⟨3, ![18432, 1, 512]⟩
abbrev S512x512 : Shape := ⟨2, ![512, 512]⟩
abbrev S512x4096 : Shape := ⟨2, ![512, 4096]⟩
abbrev S512x1024 : Shape := ⟨2, ![512, 1024]⟩
abbrev S1x6x1024 : Shape := ⟨3, ![1, 6, 1024]⟩
abbrev S512x2x512 : Shape := ⟨3, ![512, 2, 512]⟩
abbrev S512x1x512 : Shape := ⟨3, ![512, 1, 512]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S18432x512, .bf16⟩
  | .hbm, ⟨1, _⟩ => ⟨S18432x512, .bf16⟩
  | .hbm, ⟨2, _⟩ => ⟨S18432x512, .bf16⟩
  | .hbm, ⟨3, _⟩ => ⟨S18432x512, .bf16⟩
  | .hbm, ⟨4, _⟩ => ⟨S18432x4096, .bf16⟩
  | .hbm, ⟨5, _⟩ => ⟨S18432x1024, .f32⟩
  | .hbm, ⟨6, _⟩ => ⟨S16x6x1024, .f32⟩
  | .hbm, ⟨7, _⟩ => ⟨S1024, .f32⟩
  | .hbm, ⟨8, _⟩ => ⟨S4x512x1024, .f32⟩
  | .hbm, ⟨9, _⟩ => ⟨S1024x1024, .f32⟩
  | .hbm, ⟨10, _⟩ => ⟨S1x1024, .f32⟩
  | .hbm, ⟨11, _⟩ => ⟨S4x512x1024, .bf16⟩
  | .hbm, ⟨12, _⟩ => ⟨S1024x1024, .bf16⟩
  | .hbm, ⟨13, _⟩ => ⟨S18432x1024, .f32⟩
  | .hbm, ⟨14, _⟩ => ⟨S18432x1024, .bf16⟩
  | .hbm, ⟨15, _⟩ => ⟨S18432x2x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S4x512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x2x512, .bf16⟩
  | .local _ .vmem, ⟨22, _⟩ => ⟨S512x2x512, .bf16⟩
  | _, _ => ⟨S18432x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 1 := Scalar.cmpi .slt arg0 c32_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S18432x512 : Shape := ⟨2, ![18432, 512]⟩
abbrev S18432x4096 : Shape := ⟨2, ![18432, 4096]⟩
abbrev S18432x1024 : Shape := ⟨2, ![18432, 1024]⟩
abbrev S16x6x1024 : Shape := ⟨3, ![16, 6, 1024]⟩
abbrev S1024 : Shape := ⟨1, ![1024]⟩
abbrev S4x512x1024 : Shape := ⟨3, ![4, 512, 1024]⟩
abbrev S1024x1024 : Shape := ⟨2, ![1024, 1024]⟩
abbrev S1x512x1024 : Shape := ⟨3, ![1, 512, 1024]⟩
abbrev S512x1024 : Shape := ⟨2, ![512, 1024]⟩
abbrev S8x6x1024 : Shape := ⟨3, ![8, 6, 1024]⟩
abbrev S8x2048x6x1024 : Shape := ⟨4, ![8, 2048, 6, 1024]⟩
abbrev S16384x6x1024 : Shape := ⟨3, ![16384, 6, 1024]⟩
abbrev S1x6x1024 : Shape := ⟨3, ![1, 6, 1024]⟩
abbrev S1x2048x6x1024 : Shape := ⟨4, ![1, 2048, 6, 1024]⟩
abbrev S2048x6x1024 : Shape := ⟨3, ![2048, 6, 1024]⟩
abbrev S18432x6x1024 : Shape := ⟨3, ![18432, 6, 1024]⟩
abbrev S18432x1x1024 : Shape := ⟨3, ![18432, 1, 1024]⟩
abbrev S_ : Shape := ⟨0, ![]⟩
abbrev S18432 : Shape := ⟨1, ![18432]⟩
abbrev S18432x1 : Shape := ⟨2, ![18432, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S18432x512, .bf16⟩
  | .hbm, ⟨1, _⟩ => ⟨S18432x512, .bf16⟩
  | .hbm, ⟨2, _⟩ => ⟨S18432x512, .bf16⟩
  | .hbm, ⟨3, _⟩ => ⟨S18432x512, .bf16⟩
  | .hbm, ⟨4, _⟩ => ⟨S18432x4096, .bf16⟩
  | .hbm, ⟨5, _⟩ => ⟨S18432x1024, .f32⟩
  | .hbm, ⟨6, _⟩ => ⟨S16x6x1024, .f32⟩
  | .hbm, ⟨7, _⟩ => ⟨S1024, .f32⟩
  | .hbm, ⟨8, _⟩ => ⟨S4x512x1024, .f32⟩
  | .hbm, ⟨9, _⟩ => ⟨S1024x1024, .f32⟩
  | .hbm, ⟨10, _⟩ => ⟨S18432x512, .f32⟩
  | .hbm, ⟨11, _⟩ => ⟨S18432x512, .f32⟩
  | .hbm, ⟨12, _⟩ => ⟨S18432x512, .f32⟩
  | .hbm, ⟨13, _⟩ => ⟨S18432x512, .f32⟩
  | .hbm, ⟨14, _⟩ => ⟨S18432x4096, .f32⟩
  | .hbm, ⟨15, _⟩ => ⟨S18432x1024, .f32⟩
  | .hbm, ⟨16, _⟩ => ⟨S18432x1024, .f32⟩
  | .hbm, ⟨17, _⟩ => ⟨S18432x1024, .f32⟩
  | .hbm, ⟨18, _⟩ => ⟨S18432x1024, .f32⟩
  | .hbm, ⟨19, _⟩ => ⟨S1x512x1024, .f32⟩
  | .hbm, ⟨20, _⟩ => ⟨S512x1024, .f32⟩
  | .hbm, ⟨21, _⟩ => ⟨S18432x1024, .f32⟩
  | .hbm, ⟨22, _⟩ => ⟨S18432x1024, .f32⟩
  | .hbm, ⟨23, _⟩ => ⟨S1x512x1024, .f32⟩
  | .hbm, ⟨24, _⟩ => ⟨S512x1024, .f32⟩
  | .hbm, ⟨25, _⟩ => ⟨S18432x1024, .f32⟩
  | .hbm, ⟨26, _⟩ => ⟨S18432x1024, .f32⟩
  | .hbm, ⟨27, _⟩ => ⟨S18432x1024, .f32⟩
  | .hbm, ⟨28, _⟩ => ⟨S1x512x1024, .f32⟩
  | .hbm, ⟨29, _⟩ => ⟨S512x1024, .f32⟩
  | .hbm, ⟨30, _⟩ => ⟨S18432x1024, .f32⟩
  | .hbm, ⟨31, _⟩ => ⟨S18432x1024, .f32⟩
  | .hbm, ⟨32, _⟩ => ⟨S18432x1024, .f32⟩
  | .hbm, ⟨33, _⟩ => ⟨S1x512x1024, .f32⟩
  | .hbm, ⟨34, _⟩ => ⟨S512x1024, .f32⟩
  | .hbm, ⟨35, _⟩ => ⟨S18432x1024, .f32⟩
  | .hbm, ⟨36, _⟩ => ⟨S18432x1024, .f32⟩
  | .hbm, ⟨37, _⟩ => ⟨S18432x1024, .f32⟩
  | .hbm, ⟨38, _⟩ => ⟨S18432x1024, .f32⟩
  | .hbm, ⟨39, _⟩ => ⟨S8x6x1024, .f32⟩
  | .hbm, ⟨40, _⟩ => ⟨S8x2048x6x1024, .f32⟩
  | .hbm, ⟨41, _⟩ => ⟨S16384x6x1024, .f32⟩
  | .hbm, ⟨42, _⟩ => ⟨S1x6x1024, .f32⟩
  | .hbm, ⟨43, _⟩ => ⟨S1x2048x6x1024, .f32⟩
  | .hbm, ⟨44, _⟩ => ⟨S2048x6x1024, .f32⟩
  | .hbm, ⟨45, _⟩ => ⟨S18432x6x1024, .f32⟩
  | .hbm, ⟨46, _⟩ => ⟨S18432x1x1024, .f32⟩
  | .hbm, ⟨47, _⟩ => ⟨S18432x1024, .f32⟩
  | .hbm, ⟨48, _⟩ => ⟨S18432x1x1024, .f32⟩
  | .hbm, ⟨49, _⟩ => ⟨S18432x1024, .f32⟩
  | .hbm, ⟨50, _⟩ => ⟨S18432x1x1024, .f32⟩
  | .hbm, ⟨51, _⟩ => ⟨S18432x1024, .f32⟩
  | .hbm, ⟨52, _⟩ => ⟨S18432x1024, .f32⟩
  | .hbm, ⟨53, _⟩ => ⟨S18432x1024, .f32⟩
  | .hbm, ⟨54, _⟩ => ⟨S18432x1024, .f32⟩
  | .hbm, ⟨55, _⟩ => ⟨S_, .f32⟩
  | .hbm, ⟨56, _⟩ => ⟨S18432, .f32⟩
  | .hbm, ⟨57, _⟩ => ⟨S18432x1, .f32⟩
  | .hbm, ⟨58, _⟩ => ⟨S_, .f32⟩
  | .hbm, ⟨59, _⟩ => ⟨S18432x1, .f32⟩
  | .hbm, ⟨60, _⟩ => ⟨S18432x1, .f32⟩
  | .hbm, ⟨61, _⟩ => ⟨S_, .f32⟩
  | .hbm, ⟨62, _⟩ => ⟨S18432x1, .f32⟩
  | .hbm, ⟨63, _⟩ => ⟨S18432x1, .f32⟩
  | .hbm, ⟨64, _⟩ => ⟨S18432x1, .f32⟩
  | .hbm, ⟨65, _⟩ => ⟨S18432x1024, .f32⟩
  | .hbm, ⟨66, _⟩ => ⟨S18432x1024, .f32⟩
  | .hbm, ⟨67, _⟩ => ⟨S1x1024, .f32⟩
  | .hbm, ⟨68, _⟩ => ⟨S18432x1024, .f32⟩
  | .hbm, ⟨69, _⟩ => ⟨S18432x1024, .f32⟩
  | .hbm, ⟨70, _⟩ => ⟨S_, .f32⟩
  | .hbm, ⟨71, _⟩ => ⟨S18432x1024, .f32⟩
  | .hbm, ⟨72, _⟩ => ⟨S18432x1024, .f32⟩
  | .hbm, ⟨73, _⟩ => ⟨S18432x1024, .f32⟩
  | .hbm, ⟨74, _⟩ => ⟨S18432x1024, .f32⟩
  | .hbm, ⟨75, _⟩ => ⟨S18432x1024, .bf16⟩
  | _, _ => ⟨S18432x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_cst_1 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Kernel4.lean ====
abbrev S18432x1024 : Shape := ⟨2, ![18432, 1024]⟩
abbrev S1024x3840 : Shape := ⟨2, ![1024, 3840]⟩
abbrev S1024x1536 : Shape := ⟨2, ![1024, 1536]⟩
abbrev S18432x1536 : Shape := ⟨2, ![18432, 1536]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S18432x1024, .bf16⟩
  | .hbm, ⟨1, _⟩ => ⟨S1024x3840, .f32⟩
  | .hbm, ⟨2, _⟩ => ⟨S1024x3840, .bf16⟩
  | .hbm, ⟨3, _⟩ => ⟨S1024x1536, .bf16⟩
  | .hbm, ⟨4, _⟩ => ⟨S18432x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S18432x1024 : Shape := ⟨2, ![18432, 1024]⟩
abbrev S1024x3840 : Shape := ⟨2, ![1024, 3840]⟩
abbrev S18432x3840 : Shape := ⟨2, ![18432, 3840]⟩
abbrev S18432x1536 : Shape := ⟨2, ![18432, 1536]⟩

abbrev nBuf : Space → Nat
  | .hbm => 6
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S1024x3840, .f32⟩
  | .hbm, ⟨2, _⟩ => ⟨S18432x1024, .f32⟩
  | .hbm, ⟨3, _⟩ => ⟨S18432x3840, .f32⟩
  | .hbm, ⟨4, _⟩ => ⟨S18432x1536, .f32⟩
  | .hbm, ⟨5, _⟩ => ⟨S18432x1536, .bf16⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S18432x1024 : Shape := ⟨2, ![18432, 1024]⟩
abbrev S1024x3840 : Shape := ⟨2, ![1024, 3840]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x1024 : Shape := ⟨2, ![2048, 1024]⟩
abbrev S2048x512 : Shape := ⟨2, ![2048, 512]⟩
abbrev S2048x1536 : Shape := ⟨2, ![2048, 1536]⟩
abbrev S1024x1536 : Shape := ⟨2, ![1024, 1536]⟩
abbrev S3072x1536 : Shape := ⟨2, ![3072, 1536]⟩
abbrev S18432x1536 : Shape := ⟨2, ![18432, 1536]⟩
abbrev S1024x1024 : Shape := ⟨2, ![1024, 1024]⟩
abbrev S1024x768 : Shape := ⟨2, ![1024, 768]⟩
abbrev S1024x128 : Shape := ⟨2, ![1024, 128]⟩

abbrev nBuf : Space → Nat
  | .hbm => 54
  | .vmem => 10
  | .smem => 0
  | _ => 0

abbrev bufTy : (tb : Table) → Fin (tcTables nBuf tb) → BufTy
  | .hbm, ⟨0, _⟩ => ⟨S18432x1024, .bf16⟩
  | .hbm, ⟨1, _⟩ => ⟨S1024x3840, .f32⟩
  | .hbm, ⟨2, _⟩ => ⟨S32, .f32⟩
  | .hbm, ⟨3, _⟩ => ⟨S32x64, .f32⟩
  | .hbm, ⟨4, _⟩ => ⟨S2048, .f32⟩
  | .hbm, ⟨5, _⟩ => ⟨S64, .f32⟩
  | .hbm, ⟨6, _⟩ => ⟨S1x64, .f32⟩
  | .hbm, ⟨7, _⟩ => ⟨S32x64, .f32⟩
  | .hbm, ⟨8, _⟩ => ⟨S2048, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x64, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S_, .f32⟩
  | .hbm, ⟨36, _⟩ => ⟨S2048x64, .f32⟩
  | .hbm, ⟨37, _⟩ => ⟨S_, .f32⟩
  | .hbm, ⟨38, _⟩ => ⟨S2048x64, .f32⟩
  | .hbm, ⟨39, _⟩ => ⟨S2048x1024, .f32⟩
  | .hbm, ⟨40, _⟩ => ⟨S2048x512, .f32⟩
  | .hbm, ⟨41, _⟩ => ⟨S2048x1536, .f32⟩
  | .hbm, ⟨42, _⟩ => ⟨S2048x1024, .f32⟩
  | .hbm, ⟨43, _⟩ => ⟨S2048x512, .f32⟩
  | .hbm, ⟨44, _⟩ => ⟨S2048x1536, .f32⟩
  | .hbm, ⟨45, _⟩ => ⟨S_, .f32⟩
  | .hbm, ⟨46, _⟩ => ⟨S1024x1536, .f32⟩
  | .hbm, ⟨47, _⟩ => ⟨S3072x1536, .f32⟩
  | .hbm, ⟨48, _⟩ => ⟨S_, .f32⟩
  | .hbm, ⟨49, _⟩ => ⟨S1024x1536, .f32⟩
  | .hbm, ⟨50, _⟩ => ⟨S3072x1536, .f32⟩
  | .hbm, ⟨51, _⟩ => ⟨S1024x3840, .bf16⟩
  | .hbm, ⟨52, _⟩ => ⟨S1024x1536, .bf16⟩
  | .hbm, ⟨53, _⟩ => ⟨S18432x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1024x768, .bf16⟩
  | .local _ .vmem, ⟨9, _⟩ => ⟨S1024x768, .bf16⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32_3 : BitVec 32 := 2#32
  let v11 : BitVec 32 := Scalar.select v0 v10 c2_i32_3
  let c0_i32_4 : BitVec 32 := 0#32
  ![v11.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32_3 : BitVec 32 := 2#32
  let v11 : BitVec 32 := Scalar.select v0 v10 c2_i32_3
  let c0_i32_4 : BitVec 32 := 0#32
  ![v11.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S18432x1024 : Shape := ⟨2, ![18432, 1024]⟩
abbrev S1024x3840 : Shape := ⟨2, ![1024, 3840]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S18432x3840 : Shape := ⟨2, ![18432, 3840]⟩
abbrev S18432x1536 : Shape := ⟨2, ![18432, 1536]⟩
abbrev S16384x1024 : Shape := ⟨2, ![16384, 1024]⟩
abbrev S8x2048x16x64 : Shape := ⟨4, ![8, 2048, 16, 64]⟩
abbrev S2048x1x32 : Shape := ⟨3, ![2048, 1, 32]⟩
abbrev S8x2048x16x32 : Shape := ⟨4, ![8, 2048, 16, 32]⟩
abbrev S1x2048x1x32 : Shape := ⟨4, ![1, 2048, 1, 32]⟩
abbrev S2048x1024 : Shape := ⟨2, ![2048, 1024]⟩
abbrev S18432x512 : Shape := ⟨2, ![18432, 512]⟩

abbrev nBuf : Space → Nat
  | .hbm => 60
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S1024x3840, .f32⟩
  | .hbm, ⟨2, _⟩ => ⟨S32, .f32⟩
  | .hbm, ⟨3, _⟩ => ⟨S32x64, .f32⟩
  | .hbm, ⟨4, _⟩ => ⟨S2048, .f32⟩
  | .hbm, ⟨5, _⟩ => ⟨S64, .f32⟩
  | .hbm, ⟨6, _⟩ => ⟨S1x64, .f32⟩
  | .hbm, ⟨7, _⟩ => ⟨S32x64, .f32⟩
  | .hbm, ⟨8, _⟩ => ⟨S2048, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S18432x1024, .f32⟩
  | .hbm, ⟨31, _⟩ => ⟨S18432x3840, .f32⟩
  | .hbm, ⟨32, _⟩ => ⟨S18432x1536, .f32⟩
  | .hbm, ⟨33, _⟩ => ⟨S16384x1024, .f32⟩
  | .hbm, ⟨34, _⟩ => ⟨S8x2048x16x64, .f32⟩
  | .hbm, ⟨35, _⟩ => ⟨S2048x1x32, .f32⟩
  | .hbm, ⟨36, _⟩ => ⟨S2048x1x32, .f32⟩
  | .hbm, ⟨37, _⟩ => ⟨S8x2048x16x32, .f32⟩
  | .hbm, ⟨38, _⟩ => ⟨S8x2048x16x32, .f32⟩
  | .hbm, ⟨39, _⟩ => ⟨S1x2048x1x32, .f32⟩
  | .hbm, ⟨40, _⟩ => ⟨S8x2048x16x32, .f32⟩
  | .hbm, ⟨41, _⟩ => ⟨S8x2048x16x32, .f32⟩
  | .hbm, ⟨42, _⟩ => ⟨S1x2048x1x32, .f32⟩
  | .hbm, ⟨43, _⟩ => ⟨S8x2048x16x32, .f32⟩
  | .hbm, ⟨44, _⟩ => ⟨S8x2048x16x32, .f32⟩
  | .hbm, ⟨45, _⟩ => ⟨S8x2048x16x32, .f32⟩
  | .hbm, ⟨46, _⟩ => ⟨S1x2048x1x32, .f32⟩
  | .hbm, ⟨47, _⟩ => ⟨S8x2048x16x32, .f32⟩
  | .hbm, ⟨48, _⟩ => ⟨S8x2048x16x32, .f32⟩
  | .hbm, ⟨49, _⟩ => ⟨S1x2048x1x32, .f32⟩
  | .hbm, ⟨50, _⟩ => ⟨S8x2048x16x32, .f32⟩
  | .hbm, ⟨51, _⟩ => ⟨S8x2048x16x32, .f32⟩
  | .hbm, ⟨52, _⟩ => ⟨S8x2048x16x32, .f32⟩
  | .hbm, ⟨53, _⟩ => ⟨S8x2048x16x64, .f32⟩
  | .hbm, ⟨54, _⟩ => ⟨S16384x1024, .f32⟩
  | .hbm, ⟨55, _⟩ => ⟨S2048x1024, .f32⟩
  | .hbm, ⟨56, _⟩ => ⟨S18432x1024, .f32⟩
  | .hbm, ⟨57, _⟩ => ⟨S18432x512, .f32⟩
  | .hbm, ⟨58, _⟩ => ⟨S18432x1536, .f32⟩
  | .hbm, ⟨59, _⟩ => ⟨S18432x1536, .bf16⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩

abbrev nD : Nat := 1
abbrev τ : Topo := Topo.v7x

variable {F : FTy → Type} [FloatOps F]
-- ==== Kernel6.lean ====
abbrev S18432x1024 : Shape := ⟨2, ![18432, 1024]⟩
abbrev S1024x3840 : Shape := ⟨2, ![1024, 3840]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x768 : Shape := ⟨2, ![2048, 768]⟩
abbrev S1024x768 : Shape := ⟨2, ![1024, 768]⟩
abbrev S3072x768 : Shape := ⟨2, ![3072, 768]⟩
abbrev S18432x768 : Shape := ⟨2, ![18432, 768]⟩
abbrev S1024x1024 : Shape := ⟨2, ![1024, 1024]⟩
abbrev S1024x128 : Shape := ⟨2, ![1024, 128]⟩

abbrev nBuf : Space → Nat
  | .hbm => 50
  | .vmem => 9
  | .smem => 0
  | _ => 0

abbrev bufTy : (tb : Table) → Fin (tcTables nBuf tb) → BufTy
  | .hbm, ⟨0, _⟩ => ⟨S18432x1024, .bf16⟩
  | .hbm, ⟨1, _⟩ => ⟨S1024x3840, .f32⟩
  | .hbm, ⟨2, _⟩ => ⟨S32, .f32⟩
  | .hbm, ⟨3, _⟩ => ⟨S32x64, .f32⟩
  | .hbm, ⟨4, _⟩ => ⟨S2048, .f32⟩
  | .hbm, ⟨5, _⟩ => ⟨S64, .f32⟩
  | .hbm, ⟨6, _⟩ => ⟨S1x64, .f32⟩
  | .hbm, ⟨7, _⟩ => ⟨S32x64, .f32⟩
  | .hbm, ⟨8, _⟩ => ⟨S2048, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x64, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S_, .f32⟩
  | .hbm, ⟨36, _⟩ => ⟨S2048x64, .f32⟩
  | .hbm, ⟨37, _⟩ => ⟨S_, .f32⟩
  | .hbm, ⟨38, _⟩ => ⟨S2048x64, .f32⟩
  | .hbm, ⟨39, _⟩ => ⟨S2048x768, .f32⟩
  | .hbm, ⟨40, _⟩ => ⟨S2048x768, .f32⟩
  | .hbm, ⟨41, _⟩ => ⟨S_, .f32⟩
  | .hbm, ⟨42, _⟩ => ⟨S1024x768, .f32⟩
  | .hbm, ⟨43, _⟩ => ⟨S3072x768, .f32⟩
  | .hbm, ⟨44, _⟩ => ⟨S_, .f32⟩
  | .hbm, ⟨45, _⟩ => ⟨S1024x768, .f32⟩
  | .hbm, ⟨46, _⟩ => ⟨S3072x768, .f32⟩
  | .hbm, ⟨47, _⟩ => ⟨S1024x3840, .bf16⟩
  | .hbm, ⟨48, _⟩ => ⟨S1024x768, .bf16⟩
  | .hbm, ⟨49, _⟩ => ⟨S18432x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .bf16⟩
  | .local _ .vmem, ⟨8, _⟩ => ⟨S1024x768, .bf16⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_1 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32_3 : BitVec 32 := 2#32
  let v11 : BitVec 32 := Scalar.select v0 v10 c2_i32_3
  let c0_i32_4 : BitVec 32 := 0#32
  ![v11.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32_3 : BitVec 32 := 2#32
  let v11 : BitVec 32 := Scalar.select v0 v10 c2_i32_3
  let c0_i32_4 : BitVec 32 := 0#32
  ![v11.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S18432x1024 : Shape := ⟨2, ![18432, 1024]⟩
abbrev S1024x3840 : Shape := ⟨2, ![1024, 3840]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S18432x3840 : Shape := ⟨2, ![18432, 3840]⟩
abbrev S18432x768 : Shape := ⟨2, ![18432, 768]⟩
abbrev S16384x640 : Shape := ⟨2, ![16384, 640]⟩
abbrev S8x2048x10x64 : Shape := ⟨4, ![8, 2048, 10, 64]⟩
abbrev S2048x1x32 : Shape := ⟨3, ![2048, 1, 32]⟩
abbrev S8x2048x10x32 : Shape := ⟨4, ![8, 2048, 10, 32]⟩
abbrev S1x2048x1x32 : Shape := ⟨4, ![1, 2048, 1, 32]⟩
abbrev S2048x640 : Shape := ⟨2, ![2048, 640]⟩
abbrev S18432x640 : Shape := ⟨2, ![18432, 640]⟩
abbrev S18432x128 : Shape := ⟨2, ![18432, 128]⟩

abbrev nBuf : Space → Nat
  | .hbm => 60
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S1024x3840, .f32⟩
  | .hbm, ⟨2, _⟩ => ⟨S32, .f32⟩
  | .hbm, ⟨3, _⟩ => ⟨S32x64, .f32⟩
  | .hbm, ⟨4, _⟩ => ⟨S2048, .f32⟩
  | .hbm, ⟨5, _⟩ => ⟨S64, .f32⟩
  | .hbm, ⟨6, _⟩ => ⟨S1x64, .f32⟩
  | .hbm, ⟨7, _⟩ => ⟨S32x64, .f32⟩
  | .hbm, ⟨8, _⟩ => ⟨S2048, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S18432x1024, .f32⟩
  | .hbm, ⟨31, _⟩ => ⟨S18432x3840, .f32⟩
  | .hbm, ⟨32, _⟩ => ⟨S18432x768, .f32⟩
  | .hbm, ⟨33, _⟩ => ⟨S16384x640, .f32⟩
  | .hbm, ⟨34, _⟩ => ⟨S8x2048x10x64, .f32⟩
  | .hbm, ⟨35, _⟩ => ⟨S2048x1x32, .f32⟩
  | .hbm, ⟨36, _⟩ => ⟨S2048x1x32, .f32⟩
  | .hbm, ⟨37, _⟩ => ⟨S8x2048x10x32, .f32⟩
  | .hbm, ⟨38, _⟩ => ⟨S8x2048x10x32, .f32⟩
  | .hbm, ⟨39, _⟩ => ⟨S1x2048x1x32, .f32⟩
  | .hbm, ⟨40, _⟩ => ⟨S8x2048x10x32, .f32⟩
  | .hbm, ⟨41, _⟩ => ⟨S8x2048x10x32, .f32⟩
  | .hbm, ⟨42, _⟩ => ⟨S1x2048x1x32, .f32⟩
  | .hbm, ⟨43, _⟩ => ⟨S8x2048x10x32, .f32⟩
  | .hbm, ⟨44, _⟩ => ⟨S8x2048x10x32, .f32⟩
  | .hbm, ⟨45, _⟩ => ⟨S8x2048x10x32, .f32⟩
  | .hbm, ⟨46, _⟩ => ⟨S1x2048x1x32, .f32⟩
  | .hbm, ⟨47, _⟩ => ⟨S8x2048x10x32, .f32⟩
  | .hbm, ⟨48, _⟩ => ⟨S8x2048x10x32, .f32⟩
  | .hbm, ⟨49, _⟩ => ⟨S1x2048x1x32, .f32⟩
  | .hbm, ⟨50, _⟩ => ⟨S8x2048x10x32, .f32⟩
  | .hbm, ⟨51, _⟩ => ⟨S8x2048x10x32, .f32⟩
  | .hbm, ⟨52, _⟩ => ⟨S8x2048x10x32, .f32⟩
  | .hbm, ⟨53, _⟩ => ⟨S8x2048x10x64, .f32⟩
  | .hbm, ⟨54, _⟩ => ⟨S16384x640, .f32⟩
  | .hbm, ⟨55, _⟩ => ⟨S2048x640, .f32⟩
  | .hbm, ⟨56, _⟩ => ⟨S18432x640, .f32⟩
  | .hbm, ⟨57, _⟩ => ⟨S18432x128, .f32⟩
  | .hbm, ⟨58, _⟩ => ⟨S18432x768, .f32⟩
  | .hbm, ⟨59, _⟩ => ⟨S18432x768, .bf16⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩

abbrev nD : Nat := 1
abbrev τ : Topo := Topo.v7x

variable {F : FTy → Type} [FloatOps F]
-- ==== Kernel7.lean ====
abbrev S18432x1024 : Shape := ⟨2, ![18432, 1024]⟩
abbrev S16384x1024 : Shape := ⟨2, ![16384, 1024]⟩
abbrev S16x6x1024 : Shape := ⟨3, ![16, 6, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S18432x1024, .f32⟩
  | .hbm, ⟨1, _⟩ => ⟨S16384x1024, .f32⟩
  | .hbm, ⟨2, _⟩ => ⟨S16x6x1024, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S18432x1024 : Shape := ⟨2, ![18432, 1024]⟩
abbrev S16384x1024 : Shape := ⟨2, ![16384, 1024]⟩
abbrev S16x6x1024 : Shape := ⟨3, ![16, 6, 1024]⟩
abbrev S1024 : Shape := ⟨1, ![1024]⟩
abbrev S8x1x1024 : Shape := ⟨3, ![8, 1, 1024]⟩
abbrev S8x1024 : Shape := ⟨2, ![8, 1024]⟩
abbrev S8x2048x1024 : Shape := ⟨3, ![8, 2048, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S16384x1024, .f32⟩
  | .hbm, ⟨2, _⟩ => ⟨S16x6x1024, .f32⟩
  | .hbm, ⟨3, _⟩ => ⟨S1024, .f32⟩
  | .hbm, ⟨4, _⟩ => ⟨S8x1x1024, .f32⟩
  | .hbm, ⟨5, _⟩ => ⟨S8x1024, .f32⟩
  | .hbm, ⟨6, _⟩ => ⟨S8x2048x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S18432x1024 : Shape := ⟨2, ![18432, 1024]⟩
abbrev S16x6x1024 : Shape := ⟨3, ![16, 6, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S18432x1024, .f32⟩
  | .hbm, ⟨1, _⟩ => ⟨S18432x1024, .f32⟩
  | .hbm, ⟨2, _⟩ => ⟨S16x6x1024, .f32⟩
  | .hbm, ⟨3, _⟩ => ⟨S16x6x1024, .f32⟩
  | .hbm, ⟨4, _⟩ => ⟨S1024, .f32⟩
  | .hbm, ⟨5, _⟩ => ⟨S1x1024, .f32⟩
  | .hbm, ⟨6, _⟩ => ⟨S18432x1024, .f32⟩
  | .hbm, ⟨7, _⟩ => ⟨S18432x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S18432x1024 : Shape := ⟨2, ![18432, 1024]⟩
abbrev S16x6x1024 : Shape := ⟨3, ![16, 6, 1024]⟩
abbrev S1024 : Shape := ⟨1, ![1024]⟩
abbrev S8x6x1024 : Shape := ⟨3, ![8, 6, 1024]⟩
abbrev S8x2048x6x1024 : Shape := ⟨4, ![8, 2048, 6, 1024]⟩
abbrev S16384x6x1024 : Shape := ⟨3, ![16384, 6, 1024]⟩
abbrev S1x6x1024 : Shape := ⟨3, ![1, 6, 1024]⟩
abbrev S1x2048x6x1024 : Shape := ⟨4, ![1, 2048, 6, 1024]⟩
abbrev S2048x6x1024 : Shape := ⟨3, ![2048, 6, 1024]⟩
abbrev S18432x6x1024 : Shape := ⟨3, ![18432, 6, 1024]⟩
abbrev S18432x1x1024 : Shape := ⟨3, ![18432, 1, 1024]⟩
abbrev S_ : Shape := ⟨0, ![]⟩
abbrev S18432 : Shape := ⟨1, ![18432]⟩
abbrev S18432x1 : Shape := ⟨2, ![18432, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S18432x1024, .f32⟩
  | .hbm, ⟨2, _⟩ => ⟨S16x6x1024, .f32⟩
  | .hbm, ⟨3, _⟩ => ⟨S16x6x1024, .f32⟩
  | .hbm, ⟨4, _⟩ => ⟨S1024, .f32⟩
  | .hbm, ⟨5, _⟩ => ⟨S8x6x1024, .f32⟩
  | .hbm, ⟨6, _⟩ => ⟨S8x2048x6x1024, .f32⟩
  | .hbm, ⟨7, _⟩ => ⟨S16384x6x1024, .f32⟩
  | .hbm, ⟨8, _⟩ => ⟨S1x6x1024, .f32⟩
  | .hbm, ⟨9, _⟩ => ⟨S1x2048x6x1024, .f32⟩
  | .hbm, ⟨10, _⟩ => ⟨S2048x6x1024, .f32⟩
  | .hbm, ⟨11, _⟩ => ⟨S18432x6x1024, .f32⟩
  | .hbm, ⟨12, _⟩ => ⟨S8x6x1024, .f32⟩
  | .hbm, ⟨13, _⟩ => ⟨S8x2048x6x1024, .f32⟩
  | .hbm, ⟨14, _⟩ => ⟨S16384x6x1024, .f32⟩
  | .hbm, ⟨15, _⟩ => ⟨S1x6x1024, .f32⟩
  | .hbm, ⟨16, _⟩ => ⟨S1x2048x6x1024, .f32⟩
  | .hbm, ⟨17, _⟩ => ⟨S2048x6x1024, .f32⟩
  | .hbm, ⟨18, _⟩ => ⟨S18432x6x1024, .f32⟩
  | .hbm, ⟨19, _⟩ => ⟨S18432x1x1024, .f32⟩
  | .hbm, ⟨20, _⟩ => ⟨S18432x1024, .f32⟩
  | .hbm, ⟨21, _⟩ => ⟨S18432x1x1024, .f32⟩
  | .hbm, ⟨22, _⟩ => ⟨S18432x1024, .f32⟩
  | .hbm, ⟨23, _⟩ => ⟨S18432x1x1024, .f32⟩
  | .hbm, ⟨24, _⟩ => ⟨S18432x1024, .f32⟩
  | .hbm, ⟨25, _⟩ => ⟨S18432x1024, .f32⟩
  | .hbm, ⟨26, _⟩ => ⟨S18432x1024, .f32⟩
  | .hbm, ⟨27, _⟩ => ⟨S18432x1024, .f32⟩
  | .hbm, ⟨28, _⟩ => ⟨S_, .f32⟩
  | .hbm, ⟨29, _⟩ => ⟨S18432, .f32⟩
  | .hbm, ⟨30, _⟩ => ⟨S18432x1, .f32⟩
  | .hbm, ⟨31, _⟩ => ⟨S_, .f32⟩
  | .hbm, ⟨32, _⟩ => ⟨S18432x1, .f32⟩
  | .hbm, ⟨33, _⟩ => ⟨S18432x1, .f32⟩
  | .hbm, ⟨34, _⟩ => ⟨S_, .f32⟩
  | .hbm, ⟨35, _⟩ => ⟨S18432x1, .f32⟩
  | .hbm, ⟨36, _⟩ => ⟨S18432x1, .f32⟩
  | .hbm, ⟨37, _⟩ => ⟨S18432x1, .f32⟩
  | .hbm, ⟨38, _⟩ => ⟨S18432x1024, .f32⟩
  | .hbm, ⟨39, _⟩ => ⟨S18432x1024, .f32⟩
  | .hbm, ⟨40, _⟩ => ⟨S1x1024, .f32⟩
  | .hbm, ⟨41, _⟩ => ⟨S18432x1024, .f32⟩
  | .hbm, ⟨42, _⟩ => ⟨S18432x1024, .f32⟩
  | .hbm, ⟨43, _⟩ => ⟨S_, .f32⟩
  | .hbm, ⟨44, _⟩ => ⟨S18432x1024, .f32⟩
  | .hbm, ⟨45, _⟩ => ⟨S18432x1024, .f32⟩
  | .hbm, ⟨46, _⟩ => ⟨S18432x1024, .f32⟩
  | .hbm, ⟨47, _⟩ => ⟨S18432x1024, .f32⟩
  | .hbm, ⟨48, _⟩ => ⟨S18432x1024, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel9.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x512 : Shape := ⟨2, ![1024, 512]⟩
abbrev S1x512 : Shape := ⟨2, ![1, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel10.lean ====
abbrev S18432x768 : Shape := ⟨2, ![18432, 768]⟩
abbrev S8 : Shape := ⟨1, ![8]⟩
abbrev S18432x512 : Shape := ⟨2, ![18432, 512]⟩
abbrev S128x768 : Shape := ⟨2, ![128, 768]⟩
abbrev S256x768 : Shape := ⟨2, ![256, 768]⟩
abbrev S128x512 : Shape := ⟨2, ![128, 512]⟩
abbrev S128x384 : Shape := ⟨2, ![128, 384]⟩
abbrev S128x64 : Shape := ⟨2, ![128, 64]⟩
abbrev S384x64 : Shape := ⟨2, ![384, 64]⟩
abbrev S256x64 : Shape := ⟨2, ![256, 64]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 3
  | .vmem => 10
  | .smem => 1
  | _ => 0

abbrev bufTy : (tb : Table) → Fin (tcTables nBuf tb) → BufTy
  | .hbm, ⟨0, _⟩ => ⟨S18432x768, .bf16⟩
  | .hbm, ⟨1, _⟩ => ⟨S8, .f32⟩
  | .hbm, ⟨2, _⟩ => ⟨S18432x512, .bf16⟩
  | .local _ .vmem, ⟨0, _⟩ => ⟨S128x768, .bf16⟩
  | .local _ .vmem, ⟨1, _⟩ => ⟨S128x768, .bf16⟩
  | .local _ .vmem, ⟨2, _⟩ => ⟨S128x768, .bf16⟩
  | .local _ .vmem, ⟨3, _⟩ => ⟨S128x768, .bf16⟩
  | .local _ .vmem, ⟨4, _⟩ => ⟨S128x768, .bf16⟩
  | .local _ .vmem, ⟨5, _⟩ => ⟨S128x768, .bf16⟩
  | .local _ .vmem, ⟨6, _⟩ => ⟨S256x768, .bf16⟩
  | .local _ .vmem, ⟨7, _⟩ => ⟨S256x768, .bf16⟩
  | .local _ .vmem, ⟨8, _⟩ => ⟨S128x512, .bf16⟩
  | .local _ .vmem, ⟨9, _⟩ => ⟨S128x512, .bf16⟩
  | .local _ .smem, ⟨0, _⟩ => ⟨S8, .f32⟩
  | _, _ => ⟨S18432x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 18], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli arg0 c16_i32_0
  let v2 : BitVec 32 := Scalar.addi v1 arg1
  let c2_i32 : BitVec 32 := 2#32
  let v3 : BitVec 32 := Scalar.muli arg0 c2_i32
  let c128_i32 : BitVec 32 := 128#32
  let v4 : BitVec 32 := Scalar.addi c128_i32 v3
  let c16_i32_1 : BitVec 32 := 16#32
  let v5 : BitVec 32 := Scalar.subi arg1 c16_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli arg0 c16_i32_0
  let c1_i32 : BitVec 32 := 1#32
  let v2 : BitVec 32 := Scalar.subi arg1 c1_i32
  let c0_i32 : BitVec 32 := 0#32
  let v3 : BitVec 32 := Scalar.maxsi v2 c0_i32
  let v4 : BitVec 32 := Scalar.addi v1 v3
  let c2_i32 : BitVec 32 := 2#32
  let v5 : BitVec 32 := Scalar.muli arg0 c2_i32
  let c128_i32 : BitVec 32 := 128#32
  let v6 : BitVec 32 := Scalar.addi c128_i32 v5
  let c16_i32_1 : BitVec 32 := 16#32
  let v7 : BitVec 32 := Scalar.subi arg1 c16_i32_1
  let v8 : BitVec 32 := Scalar.addi v6 v7
  let v9 : BitVec 32 := Scalar.select v0 v4 v8
  let c0_i32_2 : BitVec 32 := 0#32
  let c0_i32_3 : BitVec 32 := 0#32
  ![v9.toNat, c0_i32_2.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli arg0 c16_i32_0
  let c1_i32 : BitVec 32 := 1#32
  let v2 : BitVec 32 := Scalar.addi arg1 c1_i32
  let c15_i32 : BitVec 32 := 15#32
  let v3 : BitVec 32 := Scalar.minsi v2 c15_i32
  let v4 : BitVec 32 := Scalar.addi v1 v3
  let c2_i32 : BitVec 32 := 2#32
  let v5 : BitVec 32 := Scalar.muli arg0 c2_i32
  let c128_i32 : BitVec 32 := 128#32
  let v6 : BitVec 32 := Scalar.addi c128_i32 v5
  let c16_i32_1 : BitVec 32 := 16#32
  let v7 : BitVec 32 := Scalar.subi arg1 c16_i32_1
  let v8 : BitVec 32 := Scalar.addi v6 v7
  let v9 : BitVec 32 := Scalar.select v0 v4 v8
  let c0_i32 : BitVec 32 := 0#32
  let c0_i32_2 : BitVec 32 := 0#32
  ![v9.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.muli arg0 c16_i32_0
  let v2 : BitVec 32 := Scalar.addi v1 arg1
  let c2_i32 : BitVec 32 := 2#32
  let v3 : BitVec 32 := Scalar.muli arg0 c2_i32
  let c128_i32 : BitVec 32 := 128#32
  let v4 : BitVec 32 := Scalar.addi c128_i32 v3
  let c16_i32_1 : BitVec 32 := 16#32
  let v5 : BitVec 32 := Scalar.subi arg1 c16_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel10Ideal.lean ====
variable {F : FTy → Type} [FloatOps F] [Named F]
def κ : String → Option EReal := fun
  | "mask" => some ⊥
  | _ => none
-- ==== Reference10Ideal.lean ====
abbrev S18432x768 : Shape := ⟨2, ![18432, 768]⟩
abbrev S8 : Shape := ⟨1, ![8]⟩
abbrev S16384x768 : Shape := ⟨2, ![16384, 768]⟩
abbrev S16384x512 : Shape := ⟨2, ![16384, 512]⟩
abbrev S16384x128 : Shape := ⟨2, ![16384, 128]⟩
abbrev S8x2048x2x4x64 : Shape := ⟨5, ![8, 2048, 2, 4, 64]⟩
abbrev S8x2048x2x64 : Shape := ⟨4, ![8, 2048, 2, 64]⟩
abbrev S2048x768 : Shape := ⟨2, ![2048, 768]⟩
abbrev S2048x512 : Shape := ⟨2, ![2048, 512]⟩
abbrev S2048x128 : Shape := ⟨2, ![2048, 128]⟩
abbrev S8x256x2x4x64 : Shape := ⟨5, ![8, 256, 2, 4, 64]⟩
abbrev S8x256x2x64 : Shape := ⟨4, ![8, 256, 2, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x256 : Shape := ⟨2, ![2048, 256]⟩
abbrev S2048x2304 : Shape := ⟨2, ![2048, 2304]⟩
abbrev S8x2304x2x64 : Shape := ⟨4, ![8, 2304, 2, 64]⟩
abbrev S8x2x2304x2048x4 : Shape := ⟨5, ![8, 2, 2304, 2048, 4]⟩
abbrev S8x2x4x2048x2304 : Shape := ⟨5, ![8, 2, 4, 2048, 2304]⟩
abbrev S2x4x1x1 : Shape := ⟨4, ![2, 4, 1, 1]⟩
abbrev S8x2x4x2048x1 : Shape := ⟨5, ![8, 2, 4, 2048, 1]⟩
abbrev S8x2x4x2048x2305 : Shape := ⟨5, ![8, 2, 4, 2048, 2305]⟩
abbrev S8x2x4x2048 : Shape := ⟨4, ![8, 2, 4, 2048]⟩
abbrev S8x2x64x4x2048 : Shape := ⟨5, ![8, 2, 64, 4, 2048]⟩
abbrev S8x2x256x256x4 : Shape := ⟨5, ![8, 2, 256, 256, 4]⟩
abbrev S8x2x4x256x256 : Shape := ⟨5, ![8, 2, 4, 256, 256]⟩
abbrev S8x2x4x256x1 : Shape := ⟨5, ![8, 2, 4, 256, 1]⟩
abbrev S8x2x4x256x257 : Shape := ⟨5, ![8, 2, 4, 256, 257]⟩
abbrev S8x2x4x256 : Shape := ⟨4, ![8, 2, 4, 256]⟩
abbrev S8x2x64x4x256 : Shape := ⟨5, ![8, 2, 64, 4, 256]⟩
abbrev S18432x512 : Shape := ⟨2, ![18432, 512]⟩

abbrev nBuf : Space → Nat
  | .hbm => 92
  | .vmem => 0
  | .smem => 0
  | _ => 0

abbrev bufTy : (tb : Table) → Fin (tcTables nBuf tb) → BufTy
  | .hbm, ⟨0, _⟩ => ⟨S18432x768, .bf16⟩
  | .hbm, ⟨1, _⟩ => ⟨S8, .f32⟩
  | .hbm, ⟨2, _⟩ => ⟨S16384x768, .bf16⟩
  | .hbm, ⟨3, _⟩ => ⟨S16384x768, .f32⟩
  | .hbm, ⟨4, _⟩ => ⟨S16384x512, .f32⟩
  | .hbm, ⟨5, _⟩ => ⟨S16384x128, .f32⟩
  | .hbm, ⟨6, _⟩ => ⟨S16384x128, .f32⟩
  | .hbm, ⟨7, _⟩ => ⟨S8x2048x2x4x64, .f32⟩
  | .hbm, ⟨8, _⟩ => ⟨S8x2048x2x64, .f32⟩
  | .hbm, ⟨9, _⟩ => ⟨S8x2048x2x64, .f32⟩
  | .hbm, ⟨10, _⟩ => ⟨S2048x768, .bf16⟩
  | .hbm, ⟨11, _⟩ => ⟨S2048x768, .f32⟩
  | .hbm, ⟨12, _⟩ => ⟨S2048x512, .f32⟩
  | .hbm, ⟨13, _⟩ => ⟨S2048x128, .f32⟩
  | .hbm, ⟨14, _⟩ => ⟨S2048x128, .f32⟩
  | .hbm, ⟨15, _⟩ => ⟨S8x256x2x4x64, .f32⟩
  | .hbm, ⟨16, _⟩ => ⟨S8x256x2x64, .f32⟩
  | .hbm, ⟨17, _⟩ => ⟨S8x256x2x64, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x256, .i1⟩
  | .hbm, ⟨30, _⟩ => ⟨S2048x2304, .i1⟩
  | .hbm, ⟨31, _⟩ => ⟨S8x2304x2x64, .f32⟩
  | .hbm, ⟨32, _⟩ => ⟨S8x2304x2x64, .f32⟩
  | .hbm, ⟨33, _⟩ => ⟨S8x2x2304x2048x4, .f32⟩
  | .hbm, ⟨34, _⟩ => ⟨S8x2x4x2048x2304, .f32⟩
  | .hbm, ⟨35, _⟩ => ⟨S_, .f32⟩
  | .hbm, ⟨36, _⟩ => ⟨S8x2x4x2048x2304, .f32⟩
  | .hbm, ⟨37, _⟩ => ⟨S8x2x4x2048x2304, .f32⟩
  | .hbm, ⟨38, _⟩ => ⟨S_, .f32⟩
  | .hbm, ⟨39, _⟩ => ⟨S_, .f32⟩
  | .hbm, ⟨40, _⟩ => ⟨S8x2x4x2048x2304, .i1⟩
  | .hbm, ⟨41, _⟩ => ⟨S8x2x4x2048x2304, .f32⟩
  | .hbm, ⟨42, _⟩ => ⟨S8x2x4x2048x2304, .f32⟩
  | .hbm, ⟨43, _⟩ => ⟨S2x4x1x1, .f32⟩
  | .hbm, ⟨44, _⟩ => ⟨S8x2x4x2048x1, .f32⟩
  | .hbm, ⟨45, _⟩ => ⟨S8x2x4x2048x2305, .f32⟩
  | .hbm, ⟨46, _⟩ => ⟨S_, .f32⟩
  | .hbm, ⟨47, _⟩ => ⟨S8x2x4x2048, .f32⟩
  | .hbm, ⟨48, _⟩ => ⟨S_, .f32⟩
  | .hbm, ⟨49, _⟩ => ⟨S8x2x4x2048, .f32⟩
  | .hbm, ⟨50, _⟩ => ⟨S8x2x4x2048, .f32⟩
  | .hbm, ⟨51, _⟩ => ⟨S8x2x4x2048x1, .f32⟩
  | .hbm, ⟨52, _⟩ => ⟨S8x2x4x2048x2305, .f32⟩
  | .hbm, ⟨53, _⟩ => ⟨S8x2x4x2048x2305, .f32⟩
  | .hbm, ⟨54, _⟩ => ⟨S8x2x4x2048x2305, .f32⟩
  | .hbm, ⟨55, _⟩ => ⟨S_, .f32⟩
  | .hbm, ⟨56, _⟩ => ⟨S8x2x4x2048, .f32⟩
  | .hbm, ⟨57, _⟩ => ⟨S8x2x4x2048x1, .f32⟩
  | .hbm, ⟨58, _⟩ => ⟨S8x2x4x2048x2305, .f32⟩
  | .hbm, ⟨59, _⟩ => ⟨S8x2x4x2048x2305, .f32⟩
  | .hbm, ⟨60, _⟩ => ⟨S8x2x4x2048x2304, .f32⟩
  | .hbm, ⟨61, _⟩ => ⟨S8x2x64x4x2048, .f32⟩
  | .hbm, ⟨62, _⟩ => ⟨S8x2048x2x4x64, .f32⟩
  | .hbm, ⟨63, _⟩ => ⟨S8x2x256x256x4, .f32⟩
  | .hbm, ⟨64, _⟩ => ⟨S8x2x4x256x256, .f32⟩
  | .hbm, ⟨65, _⟩ => ⟨S_, .f32⟩
  | .hbm, ⟨66, _⟩ => ⟨S8x2x4x256x256, .f32⟩
  | .hbm, ⟨67, _⟩ => ⟨S8x2x4x256x256, .f32⟩
  | .hbm, ⟨68, _⟩ => ⟨S2x4x1x1, .f32⟩
  | .hbm, ⟨69, _⟩ => ⟨S8x2x4x256x1, .f32⟩
  | .hbm, ⟨70, _⟩ => ⟨S8x2x4x256x257, .f32⟩
  | .hbm, ⟨71, _⟩ => ⟨S_, .f32⟩
  | .hbm, ⟨72, _⟩ => ⟨S8x2x4x256, .f32⟩
  | .hbm, ⟨73, _⟩ => ⟨S_, .f32⟩
  | .hbm, ⟨74, _⟩ => ⟨S8x2x4x256, .f32⟩
  | .hbm, ⟨75, _⟩ => ⟨S8x2x4x256, .f32⟩
  | .hbm, ⟨76, _⟩ => ⟨S8x2x4x256x1, .f32⟩
  | .hbm, ⟨77, _⟩ => ⟨S8x2x4x256x257, .f32⟩
  | .hbm, ⟨78, _⟩ => ⟨S8x2x4x256x257, .f32⟩
  | .hbm, ⟨79, _⟩ => ⟨S8x2x4x256x257, .f32⟩
  | .hbm, ⟨80, _⟩ => ⟨S_, .f32⟩
  | .hbm, ⟨81, _⟩ => ⟨S8x2x4x256, .f32⟩
  | .hbm, ⟨82, _⟩ => ⟨S8x2x4x256x1, .f32⟩
  | .hbm, ⟨83, _⟩ => ⟨S8x2x4x256x257, .f32⟩
  | .hbm, ⟨84, _⟩ => ⟨S8x2x4x256x257, .f32⟩
  | .hbm, ⟨85, _⟩ => ⟨S8x2x4x256x256, .f32⟩
  | .hbm, ⟨86, _⟩ => ⟨S8x2x64x4x256, .f32⟩
  | .hbm, ⟨87, _⟩ => ⟨S8x256x2x4x64, .f32⟩
  | .hbm, ⟨88, _⟩ => ⟨S16384x512, .f32⟩
  | .hbm, ⟨89, _⟩ => ⟨S2048x512, .f32⟩
  | .hbm, ⟨90, _⟩ => ⟨S18432x512, .f32⟩
  | .hbm, ⟨91, _⟩ => ⟨S18432x512, .bf16⟩
  | _, _ => ⟨S18432x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_c : Ref sig .tc := ⟨.hbm, 25, rfl⟩
abbrev main_v23 : Ref sig .tc := ⟨.hbm, 26, rfl⟩
abbrev main_v24 : Ref sig .tc := ⟨.hbm, 27, rfl⟩
abbrev main_c_0 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩

abbrev nD : Nat := 1
abbrev τ : Topo := Topo.v7x

variable {F : FTy → Type} [FloatOps F]
-- ==== Kernel11.lean ====
abbrev S18432x1024 : Shape := ⟨2, ![18432, 1024]⟩
abbrev S16x6x1024 : Shape := ⟨3, ![16, 6, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S512 : Shape := ⟨1, ![512]⟩
abbrev S512x1 : Shape := ⟨2, ![512, 1]⟩
abbrev S1x1x1024 : Shape := ⟨3, ![1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S18432x1024, .f32⟩
  | .hbm, ⟨1, _⟩ => ⟨S16x6x1024, .f32⟩
  | .hbm, ⟨2, _⟩ => ⟨S1024, .f32⟩
  | .hbm, ⟨3, _⟩ => ⟨S1x1024, .f32⟩
  | .hbm, ⟨4, _⟩ => ⟨S18432x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c512_i32 : BitVec 32 := 512#32
  let v1 : BitVec 32 := Scalar.muli arg0 c512_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.select v0 v18 c8_i32
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S18432x1024 : Shape := ⟨2, ![18432, 1024]⟩
abbrev S16x6x1024 : Shape := ⟨3, ![16, 6, 1024]⟩
abbrev S1024 : Shape := ⟨1, ![1024]⟩
abbrev S8x6x1024 : Shape := ⟨3, ![8, 6, 1024]⟩
abbrev S8x2048x6x1024 : Shape := ⟨4, ![8, 2048, 6, 1024]⟩
abbrev S16384x6x1024 : Shape := ⟨3, ![16384, 6, 1024]⟩
abbrev S1x6x1024 : Shape := ⟨3, ![1, 6, 1024]⟩
abbrev S1x2048x6x1024 : Shape := ⟨4, ![1, 2048, 6, 1024]⟩
abbrev S2048x6x1024 : Shape := ⟨3, ![2048, 6, 1024]⟩
abbrev S18432x6x1024 : Shape := ⟨3, ![18432, 6, 1024]⟩
abbrev S18432x1x1024 : Shape := ⟨3, ![18432, 1, 1024]⟩
abbrev S_ : Shape := ⟨0, ![]⟩
abbrev S18432 : Shape := ⟨1, ![18432]⟩
abbrev S18432x1 : Shape := ⟨2, ![18432, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S16x6x1024, .f32⟩
  | .hbm, ⟨2, _⟩ => ⟨S1024, .f32⟩
  | .hbm, ⟨3, _⟩ => ⟨S8x6x1024, .f32⟩
  | .hbm, ⟨4, _⟩ => ⟨S8x2048x6x1024, .f32⟩
  | .hbm, ⟨5, _⟩ => ⟨S16384x6x1024, .f32⟩
  | .hbm, ⟨6, _⟩ => ⟨S1x6x1024, .f32⟩
  | .hbm, ⟨7, _⟩ => ⟨S1x2048x6x1024, .f32⟩
  | .hbm, ⟨8, _⟩ => ⟨S2048x6x1024, .f32⟩
  | .hbm, ⟨9, _⟩ => ⟨S18432x6x1024, .f32⟩
  | .hbm, ⟨10, _⟩ => ⟨S18432x1x1024, .f32⟩
  | .hbm, ⟨11, _⟩ => ⟨S18432x1024, .f32⟩
  | .hbm, ⟨12, _⟩ => ⟨S18432x1x1024, .f32⟩
  | .hbm, ⟨13, _⟩ => ⟨S18432x1024, .f32⟩
  | .hbm, ⟨14, _⟩ => ⟨S18432x1024, .f32⟩
  | .hbm, ⟨15, _⟩ => ⟨S_, .f32⟩
  | .hbm, ⟨16, _⟩ => ⟨S18432, .f32⟩
  | .hbm, ⟨17, _⟩ => ⟨S18432x1, .f32⟩
  | .hbm, ⟨18, _⟩ => ⟨S_, .f32⟩
  | .hbm, ⟨19, _⟩ => ⟨S18432x1, .f32⟩
  | .hbm, ⟨20, _⟩ => ⟨S18432x1, .f32⟩
  | .hbm, ⟨21, _⟩ => ⟨S_, .f32⟩
  | .hbm, ⟨22, _⟩ => ⟨S18432x1, .f32⟩
  | .hbm, ⟨23, _⟩ => ⟨S18432x1, .f32⟩
  | .hbm, ⟨24, _⟩ => ⟨S18432x1, .f32⟩
  | .hbm, ⟨25, _⟩ => ⟨S18432x1024, .f32⟩
  | .hbm, ⟨26, _⟩ => ⟨S18432x1024, .f32⟩
  | .hbm, ⟨27, _⟩ => ⟨S1x1024, .f32⟩
  | .hbm, ⟨28, _⟩ => ⟨S18432x1024, .f32⟩
  | .hbm, ⟨29, _⟩ => ⟨S18432x1024, .f32⟩
  | .hbm, ⟨30, _⟩ => ⟨S_, .f32⟩
  | .hbm, ⟨31, _⟩ => ⟨S18432x1024, .f32⟩
  | .hbm, ⟨32, _⟩ => ⟨S18432x1024, .f32⟩
  | .hbm, ⟨33, _⟩ => ⟨S18432x1024, .f32⟩
  | .hbm, ⟨34, _⟩ => ⟨S18432x1024, .f32⟩
  | .hbm, ⟨35, _⟩ => ⟨S18432x1024, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel12.lean ====
abbrev S18432x128 : Shape := ⟨2, ![18432, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S18432x128, .f32⟩
  | .hbm, ⟨1, _⟩ => ⟨S18432x128, .f32⟩
  | .hbm, ⟨2, _⟩ => ⟨S18432x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S18432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S18432x128 : Shape := ⟨2, ![18432, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S18432x128, .f32⟩
  | .hbm, ⟨1, _⟩ => ⟨S18432x128, .f32⟩
  | .hbm, ⟨2, _⟩ => ⟨S_, .f32⟩
  | .hbm, ⟨3, _⟩ => ⟨S18432x128, .f32⟩
  | .hbm, ⟨4, _⟩ => ⟨S18432x128, .f32⟩
  | .hbm, ⟨5, _⟩ => ⟨S18432x128, .f32⟩
  | .hbm, ⟨6, _⟩ => ⟨S_, .f32⟩
  | .hbm, ⟨7, _⟩ => ⟨S18432x128, .f32⟩
  | .hbm, ⟨8, _⟩ => ⟨S18432x128, .f32⟩
  | .hbm, ⟨9, _⟩ => ⟨S18432x128, .f32⟩
  | .hbm, ⟨10, _⟩ => ⟨S18432x128, .f32⟩
  | .hbm, ⟨11, _⟩ => ⟨S18432x128, .f32⟩
  | _, _ => ⟨S18432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.RowMath.lean ====
/- One row of differential attention over the extended reals, with no program in it: scores, the two softmaxes, their
   difference, the weighted sum of the values, the normalisation. The one fact that needs an argument is
   `probK_eq_prob`: multiplying by the reciprocal of a sum of exponentials is dividing by it, if the scores are numbers. -/
module

public import Idealize.ShloMosaic.Lib.Pointwise

@[expose] public section

noncomputable section

namespace Cert.Diff

open Idealize.ShloMosaic

/-- The scores of one query against `n` keys, scaled by an eighth. -/
def score {n : ℕ} (q : Fin 64 → EReal) (k : Fin n → Fin 64 → EReal) (j : Fin n) : EReal :=
  (∑ d, q d * k j d) * Ideal.ofBits FTy.f32 0x3E000000#32

/-- The largest of a row of scores (at least minus infinity, where the running maximum starts). -/
def rowMax {n : ℕ} (s : Fin n → EReal) : EReal := Finset.fold max (Ideal.ofBits FTy.f32 0xFF800000#32) s Finset.univ

/-- The sum of a row's exponentials. -/
def rowSum {n : ℕ} (s : Fin n → EReal) : EReal := ∑ j, Ideal.exp (s j - rowMax s)

/-- A softmax as the mathematics has it: an exponential over the sum of them. -/
def prob {n : ℕ} (s : Fin n → EReal) (j : Fin n) : EReal := Ideal.div (Ideal.exp (s j - rowMax s)) (rowSum s)

/-- The same softmax with one reciprocal a row. -/
def probK {n : ℕ} (s : Fin n → EReal) (j : Fin n) : EReal := Ideal.exp (s j - rowMax s) * Ideal.div 1 (rowSum s)

/-- What the two softmaxes make of the values, the second taken off `lam` times. -/
def mix {n : ℕ} (p₀ p₁ : Fin n → EReal) (lam : EReal) (v : Fin n → Fin 128 → EReal) (e : Fin 128) : EReal :=
  ∑ j, (p₀ j - lam * p₁ j) * v j e

/-- A row divided by its root mean square, times the gain and the layer's constant factor. -/
def normed (a g : Fin 128 → EReal) (e : Fin 128) : EReal :=
  a e * Ideal.rsqrt (Ideal.div (∑ x, a x * a x) (Ideal.ofBits FTy.f32 0x43000000#32) + Ideal.ofBits FTy.f32 0x358637BD#32)
    * g e * Ideal.ofBits FTy.f32 0x3F4CCCCD#32

/-- One row of one head of differential attention. -/
def headRow {n : ℕ} (lam : EReal) (q₀ q₁ : Fin 64 → EReal) (k₀ k₁ : Fin n → Fin 64 → EReal) (v : Fin n → Fin 128 → EReal)
    (g : Fin 128 → EReal) (e : Fin 128) : EReal :=
  normed (mix (prob (score q₀ k₀)) (prob (score q₁ k₁)) lam v) g e

/-- The weight of the second softmax, from the four parameter vectors. -/
def lamOf (a b c d : Fin 64 → EReal) : EReal :=
  Ideal.exp (∑ i, a i * b i) - Ideal.exp (∑ i, c i * d i) + Ideal.ofBits FTy.f32 0x3E4CCCCD#32

/-- A number: neither infinity. -/
def IsNum (x : EReal) : Prop := ∃ r : ℝ, x = r

theorem ninf_eq_bot : Ideal.ofBits FTy.f32 0xFF800000#32 = (⊥ : EReal) := by
  simp [Ideal.ofBits, Ideal.ieee]

/-- The word of an eighth denotes a number: its exponent is not the all-ones one. -/
theorem isNum_eighth : IsNum (Ideal.ofBits FTy.f32 0x3E000000#32) := by
  simp only [Ideal.ofBits, Ideal.ieee]
  rw [if_neg (by decide)]
  split
  · exact ⟨_, rfl⟩
  · exact ⟨_, rfl⟩

theorem IsNum.mul {x y : EReal} (hx : IsNum x) (hy : IsNum y) : IsNum (x * y) := by
  obtain ⟨a, rfl⟩ := hx; obtain ⟨b, rfl⟩ := hy; exact ⟨a * b, (EReal.coe_mul a b).symm⟩

theorem IsNum.add {x y : EReal} (hx : IsNum x) (hy : IsNum y) : IsNum (x + y) := by
  obtain ⟨a, rfl⟩ := hx; obtain ⟨b, rfl⟩ := hy; exact ⟨a + b, (EReal.coe_add a b).symm⟩

theorem IsNum.sum {ι : Type} (s : Finset ι) (f : ι → EReal) (h : ∀ i, IsNum (f i)) : IsNum (∑ i ∈ s, f i) :=
  Finset.sum_induction f IsNum (fun _ _ => IsNum.add) ⟨0, rfl⟩ fun i _ => h i

theorem isNum_score {n : ℕ} (q : Fin 64 → EReal) (k : Fin n → Fin 64 → EReal) (hq : ∀ d, IsNum (q d))
    (hk : ∀ j d, IsNum (k j d)) (j : Fin n) : IsNum (score q k j) :=
  (IsNum.sum _ _ fun d => (hq d).mul (hk j d)).mul isNum_eighth

/-- A running maximum is where it started or one of the values met. -/
theorem fold_max_mem {ι : Type} [DecidableEq ι] (b : EReal) (f : ι → EReal) (s : Finset ι) :
    Finset.fold max b f s = b ∨ ∃ i ∈ s, Finset.fold max b f s = f i := by
  induction s using Finset.induction_on with
  | empty => exact .inl rfl
  | insert a s ha ih =>
    rw [Finset.fold_insert ha]
    rcases max_choice (f a) (Finset.fold max b f s) with h | h
    · exact .inr ⟨a, Finset.mem_insert_self a s, h⟩
    · rw [h]; rcases ih with h' | ⟨i, hi, h'⟩
      · exact .inl h'
      · exact .inr ⟨i, Finset.mem_insert_of_mem hi, h'⟩

theorem le_fold_max {ι : Type} [DecidableEq ι] (b : EReal) (f : ι → EReal) (s : Finset ι) : b ≤ Finset.fold max b f s :=
  Finset.le_fold_max b |>.mpr (.inl le_rfl)

/-- The largest of a row of numbers is one of them. -/
theorem rowMax_mem {n : ℕ} (s : Fin n → EReal) (hs : ∀ j, IsNum (s j)) (i : Fin n) : ∃ j, rowMax s = s j := by
  rcases fold_max_mem (Ideal.ofBits FTy.f32 0xFF800000#32) s Finset.univ with h | ⟨j, -, h⟩
  · have hle : s i ≤ rowMax s := (Finset.le_fold_max (s i)).mpr (.inr ⟨i, Finset.mem_univ i, le_rfl⟩)
    unfold rowMax at hle; rw [h, ninf_eq_bot] at hle
    obtain ⟨r, hr⟩ := hs i
    rw [hr, le_bot_iff] at hle; exact absurd hle (EReal.coe_ne_bot r)
  · exact ⟨j, h⟩

theorem exp_nonneg (x : EReal) : 0 ≤ Ideal.exp x := by
  induction x using EReal.rec with
  | bot => exact le_rfl
  | top => exact le_top
  | coe r => exact EReal.coe_nonneg.mpr (Real.exp_pos r).le

/-- The exponentials of a row of numbers do not sum to zero: the largest score's is 1. -/
theorem rowSum_ne_zero {n : ℕ} (s : Fin n → EReal) (hs : ∀ j, IsNum (s j)) (i : Fin n) : rowSum s ≠ 0 := by
  obtain ⟨j, hj⟩ := rowMax_mem s hs i
  intro h
  have h0 := (Finset.sum_eq_zero_iff_of_nonneg fun k _ => exp_nonneg (s k - rowMax s)).mp h j (Finset.mem_univ j)
  obtain ⟨r, hr⟩ := hs j
  rw [hj, hr, ← EReal.coe_sub, sub_self, Ideal.exp_coe, Real.exp_zero] at h0
  exact one_ne_zero h0

/-- The two ways to write a softmax of a row of numbers are one. -/
theorem probK_eq_prob {n : ℕ} (s : Fin n → EReal) (hs : ∀ j, IsNum (s j)) (j : Fin n) : probK s j = prob s j := by
  have h := rowSum_ne_zero s hs j
  rw [probK, prob, Ideal.div, Ideal.div, if_neg h, if_neg h, one_mul]

end Cert.Diff

end
-- ==== Proof.Pre.lean ====
module

public import proofs.«01_k».proof.Pre_finite_scores
public import proofs.«01_k».proof.Proof.RowMath
public import Idealize.ShloMosaic.Lib.ReduceAll

/-! The precondition says that the tokens' queries and keys are numbers. -/

@[expose] public section

set_option maxRecDepth 16384

noncomputable section

namespace Cert.Diff

open Idealize.ShloMosaic Cert.Pre_finite_scores

instance preFacts : Cert.Pre_finite_scores.Facts where
  slices_S8x2048x1536_S8x2048x1024_0_0_0 := by decide
  bitsLt_bf16_f32 := by decide
  slices_S8x256x1536_S8x256x1024_0_0_0 := by decide
  bcast_S_S8x2048x1024 := by decide
  reducesTo_S8x2048x1024_S_d0_1_2 := by decide
  h_S_ := by decide
  bcast_S_S8x256x1024 := by decide
  reducesTo_S8x256x1024_S_d0_1_2 := by decide

/-- An extended real whose absolute value is below infinity is a number. -/
theorem isNum_of_abs (x : EReal) (h : Ideal.cmp .olt (max x (-x)) (Ideal.ofBits .f32 0x7F800000#32) = 1#1) : IsNum x := by
  have e : Ideal.ofBits FTy.f32 0x7F800000#32 = (⊤ : EReal) := by simp [Ideal.ofBits, Ideal.ieee]
  rw [e] at h
  induction x with
  | bot => simp [Ideal.cmp] at h
  | top => simp [Ideal.cmp] at h
  | coe r => exact ⟨r, rfl⟩

theorem pre_isNum (x0 : Vec Ideal S8x2048x1536 .bf16) (x1 : Vec Ideal S8x256x1536 .bf16) (x2 x3 x4 x5 : Vec Ideal S64 .f32)
    (x6 : Vec Ideal S128 .f32) (h : Cert.Pre_finite_scores.fn (F := Ideal) x0 x1 x2 x3 x4 x5 x6 = fun _ => 1#1) :
    (∀ (b : Fin 8) (r : Fin 2048) (k : Fin 1536), k.val < 1024 → IsNum (x0 (ix3 b r k)))
      ∧ ∀ (b : Fin 8) (r : Fin 256) (k : Fin 1536), k.val < 1024 → IsNum (x1 (ix3 b r k)) := by
  haveI : Subsingleton S_.Idx := ⟨fun i j => funext fun a => a.elim0⟩
  have e := congrFun h ix0
  dsimp only [Cert.Pre_finite_scores.fn] at e
  have e' := IntOp.andi_eq_one.1 e
  have e0 := fun i => Host.reduce_andi_all _ _ _ _ _ e'.1 i
  have e1 := fun i => Host.reduce_andi_all _ _ _ _ _ e'.2 i
  refine ⟨fun b r k hk => ?_, fun b r k hk => ?_⟩
  · refine isNum_of_abs _ ?_
    have := e0 (ix3 b r ⟨k.val, hk⟩)
    pointwise at this
    exact this
  · refine isNum_of_abs _ ?_
    have := e1 (ix3 b r ⟨k.val, hk⟩)
    pointwise at this
    exact this

end Cert.Diff

end
-- ==== Proof.Inputs.lean ====
module

public import proofs.«01_k».proof.Proof.Gen.KernelIdeal.Value
public import Idealize.ShloMosaic.Lib.Pipeline.ValueKit
public import Idealize.ShloMosaic.Lib.StableHlo.RunRead

@[expose] public section

set_option maxRecDepth 16384

noncomputable section

namespace Cert.Diff

open Idealize.ShloMosaic Idealize.ShloMosaic.TcCoe Cert.KernelIdeal Cert.KernelIdeal.Gen

variable {F : FTy → Type} [FloatOps F]
variable (m : (ℓ : Loc nD τ sig) → Buf (Elt F) ℓ) (c : Dev nD)

theorem index0 : ∀ t : Fin cfg0.N, win0_0.index t 0 = t.val / 9 ∧ win0_0.index t 1 = 0 :=
  (by decide +kernel : ∀ t : Fin grid0.N, win0_0.index t 0 = t.val / 9 ∧ win0_0.index t 1 = 0)

theorem index1 : ∀ t : Fin cfg0.N, win0_1.index t 0 = 64 + t.val / 9 ∧ win0_1.index t 1 = 0 :=
  (by decide +kernel : ∀ t : Fin grid0.N, win0_1.index t 0 = 64 + t.val / 9 ∧ win0_1.index t 1 = 0)

theorem v7_congr {a b x d a' b' x' d' : Vec F S1x64 .f32} (ha : a = a') (hb : b = b') (hx : x = x') (hd : d = d') :
    concatenate S4x64 0 [⟨S1x64, a⟩, ⟨S1x64, b⟩, ⟨S1x64, x⟩, ⟨S1x64, d⟩] concatenates_S1x64_S1x64_S1x64_S1x64_S4x64_d0
      = concatenate S4x64 0 [⟨S1x64, a'⟩, ⟨S1x64, b'⟩, ⟨S1x64, x'⟩, ⟨S1x64, d'⟩]
          concatenates_S1x64_S1x64_S1x64_S1x64_S4x64_d0 := by
  subst ha hb hx hd
  rfl

theorem V_main_v7 : V m c main_v7 = concatenate S4x64 0
    [⟨S1x64, broadcastInDim S1x64 ![1] bcast_S64_S1x64_1 (m ((c : Thread nD τ).loc main_arg2))⟩,
      ⟨S1x64, broadcastInDim S1x64 ![1] bcast_S64_S1x64_1 (m ((c : Thread nD τ).loc main_arg3))⟩,
      ⟨S1x64, broadcastInDim S1x64 ![1] bcast_S64_S1x64_1 (m ((c : Thread nD τ).loc main_arg4))⟩,
      ⟨S1x64, broadcastInDim S1x64 ![1] bcast_S64_S1x64_1 (m ((c : Thread nD τ).loc main_arg5))⟩] concatenates_S1x64_S1x64_S1x64_S1x64_S4x64_d0 := by
  unfold_abbrev_sides
  after_reads_simp
  have e0 : StableHlo.upto hostOps0 (fun b => m (c, b)) 7 (Proc.tc.devRef (![main_v3, main_v4, main_v5, main_v6] 0))
      = broadcastInDim S1x64 ![1] bcast_S64_S1x64_1 (m ((c : Thread nD τ).loc main_arg2)) := by
    show StableHlo.upto hostOps0 (fun b => m (c, b)) 7 (Proc.tc.devRef main_v3) = _
    after_reads_simp
  have e1 : StableHlo.upto hostOps0 (fun b => m (c, b)) 7 (Proc.tc.devRef (![main_v3, main_v4, main_v5, main_v6] 1))
      = broadcastInDim S1x64 ![1] bcast_S64_S1x64_1 (m ((c : Thread nD τ).loc main_arg3)) := by
    show StableHlo.upto hostOps0 (fun b => m (c, b)) 7 (Proc.tc.devRef main_v4) = _
    after_reads_simp
  have e2 : StableHlo.upto hostOps0 (fun b => m (c, b)) 7 (Proc.tc.devRef (![main_v3, main_v4, main_v5, main_v6] 2))
      = broadcastInDim S1x64 ![1] bcast_S64_S1x64_1 (m ((c : Thread nD τ).loc main_arg4)) := by
    show StableHlo.upto hostOps0 (fun b => m (c, b)) 7 (Proc.tc.devRef main_v5) = _
    after_reads_simp
  have e3 : StableHlo.upto hostOps0 (fun b => m (c, b)) 7 (Proc.tc.devRef (![main_v3, main_v4, main_v5, main_v6] 3))
      = broadcastInDim S1x64 ![1] bcast_S64_S1x64_1 (m ((c : Thread nD τ).loc main_arg5)) := by
    show StableHlo.upto hostOps0 (fun b => m (c, b)) 7 (Proc.tc.devRef main_v6) = _
    after_reads_simp
  exact v7_congr e0 e1 e2 e3

theorem V_main_v8 : V m c main_v8 = broadcastInDim S1x128 ![1] bcast_S128_S1x128_1 (m ((c : Thread nD τ).loc main_arg6)) := by
  entry_read
  rfl

theorem V_main_v2 : V m c main_v2 = concatenate S18432x1536 0
    [⟨S16384x1536, shapeCast S16384x1536 (m ((c : Thread nD τ).loc main_arg0)) shapeCasts_S8x2048x1536_S16384x1536⟩,
     ⟨S2048x1536, shapeCast S2048x1536 (m ((c : Thread nD τ).loc main_arg1)) shapeCasts_S8x256x1536_S2048x1536⟩]
    concatenates_S16384x1536_S2048x1536_S18432x1536_d0 := by
  entry_read
  rfl

theorem v2_latent (A : Vec F S8x2048x1536 .bf16) (B : Vec F S8x256x1536 .bf16) (b : Fin 8) (r : Fin 2048) (k : Fin 1536) :
    concatenate S18432x1536 0
      [⟨S16384x1536, shapeCast S16384x1536 A shapeCasts_S8x2048x1536_S16384x1536⟩,
       ⟨S2048x1536, shapeCast S2048x1536 B shapeCasts_S8x256x1536_S2048x1536⟩]
      concatenates_S16384x1536_S2048x1536_S18432x1536_d0 (ix2 ⟨2048 * b.val + r.val, by omega⟩ k) = A (ix3 b r k) := by
  pointwise
  exact dif_pos (by omega)

theorem v2_context (A : Vec F S8x2048x1536 .bf16) (B : Vec F S8x256x1536 .bf16) (b : Fin 8) (r : Fin 256) (k : Fin 1536)
    (R : Fin 18432) (hR : R.val = 16384 + (256 * b.val + r.val)) :
    concatenate S18432x1536 0
      [⟨S16384x1536, shapeCast S16384x1536 A shapeCasts_S8x2048x1536_S16384x1536⟩,
       ⟨S2048x1536, shapeCast S2048x1536 B shapeCasts_S8x256x1536_S2048x1536⟩]
      concatenates_S16384x1536_S2048x1536_S18432x1536_d0 (ix2 R k) = B (ix3 b r k) := by
  pointwise
  rw [dif_neg (by omega)]
  refine congrArg B (congrArg₂ (fun a b => ix3 a b k) (Fin.ext ?_) (Fin.ext ?_))
  · show (R.val - 16384) / 256 = b.val
    omega
  · show (R.val - 16384) % 256 = r.val
    omega

theorem iblk0_apply (t : Fin cfg0.N) (r : Fin 2048) (k : Fin 1536) :
    iblk m c 0 t (ix2 r k) = m ((c : Thread nD τ).loc main_arg0) (ix3 ⟨t.val / 9, by have : t.val < 72 := t.isLt; omega⟩ r k) := by
  have ht : t.val < 72 := t.isLt
  have e : (win0_0.blk t).view.emb (ix2 r k) = ix2 ⟨2048 * (t.val / 9) + r.val, by omega⟩ k := by
    blk_ext [index0 t]
  unfold iblk
  rw [V_main_v2]
  blk_simp [e]
  exact v2_latent _ _ ⟨t.val / 9, by omega⟩ r k

theorem iblk1_apply (t : Fin cfg0.N) (r : Fin 256) (k : Fin 1536) :
    iblk m c 1 t (ix2 r k) = m ((c : Thread nD τ).loc main_arg1) (ix3 ⟨t.val / 9, by have : t.val < 72 := t.isLt; omega⟩ r k) := by
  have ht : t.val < 72 := t.isLt
  have e : (win0_1.blk t).view.emb (ix2 r k) = ix2 ⟨16384 + (256 * (t.val / 9) + r.val), by omega⟩ k := by
    blk_ext [index1 t]
  unfold iblk
  rw [V_main_v2]
  blk_simp [e]
  exact v2_context _ _ ⟨t.val / 9, by omega⟩ r k _ rfl

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem iblk3_apply (t : Fin cfg0.N) (k : Fin 128) :
    iblk m c 3 t (ix2 0 k) = m ((c : Thread nD τ).loc main_arg6) (ix1 k) := by
  have e : (win0_3.blk t).view.emb (ix2 0 k) = ix2 0 k := by
    blk_ext [index3 t]
  unfold iblk
  rw [V_main_v8]
  blk_simp [e]
  pointwise

theorem iblk2_0 (t : Fin cfg0.N) (k : Fin 64) :
    iblk m c 2 t (ix2 0 k) = m ((c : Thread nD τ).loc main_arg2) (ix1 k) := by
  have e : (win0_2.blk t).view.emb (ix2 0 k) = ix2 0 k := by blk_ext [index2 t]
  unfold iblk
  rw [V_main_v7]
  blk_simp [e]
  pointwise

theorem iblk2_1 (t : Fin cfg0.N) (k : Fin 64) :
    iblk m c 2 t (ix2 1 k) = m ((c : Thread nD τ).loc main_arg3) (ix1 k) := by
  have e : (win0_2.blk t).view.emb (ix2 1 k) = ix2 1 k := by blk_ext [index2 t]
  unfold iblk
  rw [V_main_v7]
  blk_simp [e]
  pointwise

theorem iblk2_2 (t : Fin cfg0.N) (k : Fin 64) :
    iblk m c 2 t (ix2 2 k) = m ((c : Thread nD τ).loc main_arg4) (ix1 k) := by
  have e : (win0_2.blk t).view.emb (ix2 2 k) = ix2 2 k := by blk_ext [index2 t]
  unfold iblk
  rw [V_main_v7]
  blk_simp [e]
  pointwise

theorem iblk2_3 (t : Fin cfg0.N) (k : Fin 64) :
    iblk m c 2 t (ix2 3 k) = m ((c : Thread nD τ).loc main_arg5) (ix1 k) := by
  have e : (win0_2.blk t).view.emb (ix2 3 k) = ix2 3 k := by blk_ext [index2 t]
  unfold iblk
  rw [V_main_v7]
  blk_simp [e]
  pointwise

end Cert.Diff

end
-- ==== Proof.Head.lean ====
/- The kernel's heads as functions of what a head reads: latent heads against all 2304 keys (`headL`), context heads
   against the 256 context keys (`headC`), each equal at an index to one row of `Cert.Diff.headRow` where queries and
   keys are numbers. -/
module

public import proofs.«01_k».proof.Proof.Gen.KernelIdeal.Skeleton
public import proofs.«01_k».proof.Proof.RowMath

@[expose] public section

set_option maxRecDepth 16384

noncomputable section

namespace Cert.Diff

open Idealize.ShloMosaic Cert.KernelIdeal Cert.KernelIdeal.Gen

variable {F : FTy → Type} [FloatOps F]

/-- One softmax of a latent head, as the kernel writes it: scores of 256 queries against 2304 keys, the row's largest
    taken off, exponentials, and the product with the reciprocal of their sum. -/
def probL (q : FVec F S256x64 .bf16) (k : Vec F S2304x64 .bf16) : FVec F S256x2304 .f32 :=
  have s : FVec F S256x2304 .f32 := mulf
    (matmul dot_S256x64_S2304x64_S256x2304_1_1_0_0_n_n none q k (constant S256x2304 .f32 0x00000000#32))
    (broadcast S256x2304 (Scalar.ofBits .f32 0x3E000000#32 : F .f32))
  have e : FVec F S256x2304 .f32 := exp (subf s (broadcastTo S256x2304 (shapeCast S256x1
    (multiReduction .maximumf [1] S256 s 0xFF800000#32 reduces_S256x2304_S256 (.inl rfl) rfl)
    shapeCasts_S256_S256x1) broadcasts_S256x1_S256x2304))
  mulf e (broadcastTo S256x2304 (divf (broadcast S256x1 (Scalar.ofBits .f32 0x3F800000#32 : F .f32)) (shapeCast S256x1
    (multiReduction .add [1] S256 e 0x00000000#32 reduces_S256x2304_S256 (.inl rfl) rfl)
    shapeCasts_S256_S256x1)) broadcasts_S256x1_S256x2304)

/-- The root mean square normalisation of a head's output, its gain and the layer's constant factor. -/
def normH (a : FVec F S256x128 .f32) (g : Vec F S1x128 .f32) : FVec F S256x128 .bf16 :=
  have r : FVec F S256x1 .f32 := rsqrt (addf (divf (shapeCast S256x1
    (multiReduction .add [1] S256 (mulf a a) 0x00000000#32 reduces_S256x128_S256 (.inl rfl) rfl)
    shapeCasts_S256_S256x1) (broadcast S256x1 (Scalar.ofBits .f32 0x43000000#32 : F .f32)))
    (broadcast S256x1 (Scalar.ofBits .f32 0x358637BD#32 : F .f32)))
  truncf .bf16 (mulf (mulf (mulf a (broadcastTo S256x128 r broadcasts_S256x1_S256x128))
    (broadcastTo S256x128 (shapeCast S1x128 g shapeCasts_S1x128_S1x128) broadcasts_S1x128_S256x128))
    (broadcast S256x128 (Scalar.ofBits .f32 0x3F4CCCCD#32 : F .f32))) bitsLt_bf16_f32

/-- A latent head: two softmaxes, their difference weighted by `lam`, the product with the values, the normalisation. -/
def headL (lam : FVec F S1x1 .f32) (q0 q1 : FVec F S256x64 .bf16) (k0 k1 : Vec F S2304x64 .bf16)
    (v : Vec F S2304x128 .bf16) (g : Vec F S1x128 .f32) : FVec F S256x128 .bf16 :=
  normH (matmul dot_S256x2304_S2304x128_S256x128_1_0_0_1_n_n none
    (truncf .bf16 (subf (probL q0 k0) (mulf (broadcastTo S256x2304 lam broadcasts_S1x1_S256x2304) (probL q1 k1)))
      bitsLt_bf16_f32) v (constant S256x128 .f32 0x00000000#32)) g

/-- One softmax of a context head: scores of 256 queries against the 256 context keys. -/
def probC (q : FVec F S256x64 .bf16) (k : Vec F S256x64 .bf16) : FVec F S256x256 .f32 :=
  have s : FVec F S256x256 .f32 := mulf
    (matmul dot_S256x64_S256x64_S256x256_1_1_0_0_n_n none q k (constant S256x256 .f32 0x00000000#32))
    (broadcast S256x256 (Scalar.ofBits .f32 0x3E000000#32 : F .f32))
  have e : FVec F S256x256 .f32 := exp (subf s (broadcastTo S256x256 (shapeCast S256x1
    (multiReduction .maximumf [1] S256 s 0xFF800000#32 reduces_S256x256_S256 (.inl rfl) rfl)
    shapeCasts_S256_S256x1) broadcasts_S256x1_S256x256))
  mulf e (broadcastTo S256x256 (divf (broadcast S256x1 (Scalar.ofBits .f32 0x3F800000#32 : F .f32)) (shapeCast S256x1
    (multiReduction .add [1] S256 e 0x00000000#32 reduces_S256x256_S256 (.inl rfl) rfl)
    shapeCasts_S256_S256x1)) broadcasts_S256x1_S256x256)

/-- A context head: two softmaxes, their difference weighted by `lam`, the product with the values, the normalisation. -/
def headC (lam : FVec F S1x1 .f32) (q0 q1 : FVec F S256x64 .bf16) (k0 k1 : Vec F S256x64 .bf16)
    (v : Vec F S256x128 .bf16) (g : Vec F S1x128 .f32) : FVec F S256x128 .bf16 :=
  normH (matmul dot_S256x256_S256x128_S256x128_1_0_0_1_n_n none
    (truncf .bf16 (subf (probC q0 k0) (mulf (broadcastTo S256x256 lam broadcasts_S1x1_S256x256) (probC q1 k1)))
      bitsLt_bf16_f32) v (constant S256x128 .f32 0x00000000#32)) g

theorem normH_apply (a : FVec Ideal S256x128 .f32) (g : Vec Ideal S1x128 .f32) (r : Fin 256) (e : Fin 128) :
    normH a g (ix2 r e) = normed (fun e => a (ix2 r e)) (fun e => g (ix2 0 e)) e := by
  pointwise [normH]
  rfl

/-- The second softmax's weight, from the four rows of the parameters. -/
theorem lam_apply (a b c d : Vec Ideal S1x64 .f32) :
    k0_pay5 a b c d (ix2 0 0)
      = lamOf (fun i => a (ix2 0 i)) (fun i => b (ix2 0 i)) (fun i => c (ix2 0 i)) fun i => d (ix2 0 i) := by
  pointwise [k0_pay5]
  rfl

theorem probL_apply (q : FVec Ideal S256x64 .bf16) (k : Vec Ideal S2304x64 .bf16) (r : Fin 256) (j : Fin 2304) :
    probL q k (ix2 r j) = probK (score (fun d => q (ix2 r d)) fun j d => k (ix2 j d)) j := by
  pointwise [probL]
  rfl

/-- Head `headL` at row `r`, column `e`, where the row's queries and all keys are numbers. -/
theorem headL_apply (lam : FVec Ideal S1x1 .f32) (q0 q1 : FVec Ideal S256x64 .bf16) (k0 k1 : Vec Ideal S2304x64 .bf16)
    (v : Vec Ideal S2304x128 .bf16) (g : Vec Ideal S1x128 .f32) (r : Fin 256) (e : Fin 128)
    (hq0 : ∀ d, IsNum (q0 (ix2 r d))) (hq1 : ∀ d, IsNum (q1 (ix2 r d)))
    (hk0 : ∀ j d, IsNum (k0 (ix2 j d))) (hk1 : ∀ j d, IsNum (k1 (ix2 j d))) :
    headL lam q0 q1 k0 k1 v g (ix2 r e)
      = headRow (lam (ix2 0 0)) (fun d => q0 (ix2 r d)) (fun d => q1 (ix2 r d)) (fun j d => k0 (ix2 j d))
          (fun j d => k1 (ix2 j d)) (fun j e => v (ix2 j e)) (fun e => g (ix2 0 e)) e := by
  rw [headL, normH_apply, headRow]
  refine congrArg (fun a => normed a _ e) (funext fun e => ?_)
  pointwise
  rw [mix]
  refine Finset.sum_congr rfl fun j _ => ?_
  rw [probL_apply, probL_apply, probK_eq_prob _ (isNum_score _ _ hq0 hk0), probK_eq_prob _ (isNum_score _ _ hq1 hk1)]

theorem probC_apply (q : FVec Ideal S256x64 .bf16) (k : Vec Ideal S256x64 .bf16) (r : Fin 256) (j : Fin 256) :
    probC q k (ix2 r j) = probK (score (fun d => q (ix2 r d)) fun j d => k (ix2 j d)) j := by
  pointwise [probC]
  rfl

/-- Head `headC` at row `r`, column `e`, where the row's queries and all keys are numbers. -/
theorem headC_apply (lam : FVec Ideal S1x1 .f32) (q0 q1 : FVec Ideal S256x64 .bf16) (k0 k1 : Vec Ideal S256x64 .bf16)
    (v : Vec Ideal S256x128 .bf16) (g : Vec Ideal S1x128 .f32) (r : Fin 256) (e : Fin 128)
    (hq0 : ∀ d, IsNum (q0 (ix2 r d))) (hq1 : ∀ d, IsNum (q1 (ix2 r d)))
    (hk0 : ∀ j d, IsNum (k0 (ix2 j d))) (hk1 : ∀ j d, IsNum (k1 (ix2 j d))) :
    headC lam q0 q1 k0 k1 v g (ix2 r e)
      = headRow (lam (ix2 0 0)) (fun d => q0 (ix2 r d)) (fun d => q1 (ix2 r d)) (fun j d => k0 (ix2 j d))
          (fun j d => k1 (ix2 j d)) (fun j e => v (ix2 j e)) (fun e => g (ix2 0 e)) e := by
  rw [headC, normH_apply, headRow]
  refine congrArg (fun a => normed a _ e) (funext fun e => ?_)
  pointwise
  rw [mix]
  refine Finset.sum_congr rfl fun j _ => ?_
  rw [probC_apply, probC_apply, probK_eq_prob _ (isNum_score _ _ hq0 hk0), probK_eq_prob _ (isNum_score _ _ hq1 hk1)]

end Cert.Diff

end
-- ==== Proof.Pieces.lean ====
module

public import proofs.«01_k».proof.Proof.Head

/-! The heads of a block, stored side by side: a stored column names its head, and the head's value there is one row of
    differential attention over that head's queries, keys and values among the token's 1536 columns (512 of queries, 512
    of keys, 512 of values). -/

@[expose] public section

set_option maxRecDepth 16384

noncomputable section

namespace Cert.Diff

open Idealize.ShloMosaic Idealize.ShloMosaic.TcCoe Cert.KernelIdeal Cert.KernelIdeal.Gen

/-- Column `col` of a token's result: its head's row over the token's own queries `Q` and all tokens' keys and values `KV`. -/
def headAt {n : ℕ} (lam : EReal) (Q : Fin 1536 → EReal) (KV : Fin n → Fin 1536 → EReal) (g : Fin 128 → EReal) (col : Fin 512) :
    EReal :=
  headRow lam (fun d : Fin 64 => Q ⟨col.val / 128 * 128 + d.val, by omega⟩)
    (fun d : Fin 64 => Q ⟨col.val / 128 * 128 + 64 + d.val, by omega⟩)
    (fun j (d : Fin 64) => KV j ⟨512 + col.val / 128 * 128 + d.val, by omega⟩)
    (fun j (d : Fin 64) => KV j ⟨512 + col.val / 128 * 128 + 64 + d.val, by omega⟩)
    (fun j (e : Fin 128) => KV j ⟨1024 + col.val / 128 * 128 + e.val, by omega⟩) g ⟨col.val % 128, by omega⟩

/-- The latents' tokens, then the context's. -/
def cat (X : Fin 2048 → Fin 1536 → EReal) (Y : Fin 256 → Fin 1536 → EReal) (j : Fin 2304) (c : Fin 1536) : EReal :=
  if h : j.val < 2048 then X ⟨j.val, h⟩ c else Y ⟨j.val - 2048, by omega⟩ c

theorem pieceL {lam : FVec Ideal S1x1 .f32} {q0 q1 : FVec Ideal S256x64 .bf16} {k0 k1 : Vec Ideal S2304x64 .bf16}
    {v : Vec Ideal S2304x128 .bf16} {g : Vec Ideal S1x128 .f32} (x : S256x128.Idx) (Q : Fin 1536 → EReal)
    (KV : Fin 2304 → Fin 1536 → EReal) (o : ℕ) (ho : o % 128 = 0) (ho' : o ≤ 384) (col : Fin 512)
    (hc : col.val = o + (x 1).val) (hQ : ∀ c, c.val < 1024 → IsNum (Q c)) (hKV : ∀ j c, c.val < 1024 → IsNum (KV j c))
    (hq0 : ∀ d, q0 (ix2 (x 0) d) = Q ⟨o + d.val, by omega⟩) (hq1 : ∀ d, q1 (ix2 (x 0) d) = Q ⟨o + 64 + d.val, by omega⟩)
    (hk0 : ∀ j d, k0 (ix2 j d) = KV j ⟨512 + o + d.val, by omega⟩)
    (hk1 : ∀ j d, k1 (ix2 j d) = KV j ⟨512 + o + 64 + d.val, by omega⟩)
    (hv : ∀ j e, v (ix2 j e) = KV j ⟨1024 + o + e.val, by omega⟩) :
    headL lam q0 q1 k0 k1 v g x = headAt (lam (ix2 0 0)) Q KV (fun e => g (ix2 0 e)) col := by
  obtain ⟨r, e, rfl⟩ : ∃ (r : Fin 256) (e : Fin 128), x = ix2 r e := ⟨x 0, x 1, eq_ix2 x⟩
  have hc : col.val = o + e.val := hc
  have hq0 : ∀ d, q0 (ix2 r d) = Q ⟨o + d.val, by omega⟩ := hq0
  have hq1 : ∀ d, q1 (ix2 r d) = Q ⟨o + 64 + d.val, by omega⟩ := hq1
  have h1 : col.val / 128 * 128 = o := by omega
  have h2 : (⟨col.val % 128, by omega⟩ : Fin 128) = e := Fin.ext (by show col.val % 128 = e.val; omega)
  rw [headL_apply lam q0 q1 k0 k1 v g r e (fun d => hq0 d ▸ hQ _ (by show o + d.val < 1024; omega))
    (fun d => hq1 d ▸ hQ _ (by show o + 64 + d.val < 1024; omega))
    (fun j d => hk0 j d ▸ hKV _ _ (by show 512 + o + d.val < 1024; omega))
    (fun j d => hk1 j d ▸ hKV _ _ (by show 512 + o + 64 + d.val < 1024; omega))]
  simp only [headAt, h1, h2, hq0, hq1, hk0, hk1, hv]

theorem pieceC {lam : FVec Ideal S1x1 .f32} {q0 q1 : FVec Ideal S256x64 .bf16} {k0 k1 : Vec Ideal S256x64 .bf16}
    {v : Vec Ideal S256x128 .bf16} {g : Vec Ideal S1x128 .f32} (x : S256x128.Idx) (Q : Fin 1536 → EReal)
    (KV : Fin 256 → Fin 1536 → EReal) (o : ℕ) (ho : o % 128 = 0) (ho' : o ≤ 384) (col : Fin 512)
    (hc : col.val = o + (x 1).val) (hQ : ∀ c, c.val < 1024 → IsNum (Q c)) (hKV : ∀ j c, c.val < 1024 → IsNum (KV j c))
    (hq0 : ∀ d, q0 (ix2 (x 0) d) = Q ⟨o + d.val, by omega⟩) (hq1 : ∀ d, q1 (ix2 (x 0) d) = Q ⟨o + 64 + d.val, by omega⟩)
    (hk0 : ∀ j d, k0 (ix2 j d) = KV j ⟨512 + o + d.val, by omega⟩)
    (hk1 : ∀ j d, k1 (ix2 j d) = KV j ⟨512 + o + 64 + d.val, by omega⟩)
    (hv : ∀ j e, v (ix2 j e) = KV j ⟨1024 + o + e.val, by omega⟩) :
    headC lam q0 q1 k0 k1 v g x = headAt (lam (ix2 0 0)) Q KV (fun e => g (ix2 0 e)) col := by
  obtain ⟨r, e, rfl⟩ : ∃ (r : Fin 256) (e : Fin 128), x = ix2 r e := ⟨x 0, x 1, eq_ix2 x⟩
  have hc : col.val = o + e.val := hc
  have hq0 : ∀ d, q0 (ix2 r d) = Q ⟨o + d.val, by omega⟩ := hq0
  have hq1 : ∀ d, q1 (ix2 r d) = Q ⟨o + 64 + d.val, by omega⟩ := hq1
  have h1 : col.val / 128 * 128 = o := by omega
  have h2 : (⟨col.val % 128, by omega⟩ : Fin 128) = e := Fin.ext (by show col.val % 128 = e.val; omega)
  rw [headC_apply lam q0 q1 k0 k1 v g r e (fun d => hq0 d ▸ hQ _ (by show o + d.val < 1024; omega))
    (fun d => hq1 d ▸ hQ _ (by show o + 64 + d.val < 1024; omega))
    (fun j d => hk0 j d ▸ hKV _ _ (by show 512 + o + d.val < 1024; omega))
    (fun j d => hk1 j d ▸ hKV _ _ (by show 512 + o + 64 + d.val < 1024; omega))]
  simp only [headAt, h1, h2, hq0, hq1, hk0, hk1, hv]

/-! The four latent heads and the four context heads as the program computes them. -/

variable {F : FTy → Type} [FloatOps F] (lam : FVec F S1x1 .f32) (q : FVec F S256x512 .bf16) (g : Vec F S1x128 .f32)

theorem headL0 (Q : Vec F S256x512 .bf16) (k0 k1 : Vec F S2304x64 .bf16) (v : Vec F S2304x128 .bf16) :
    k0_pay10 (k0_pay9 lam Q k0 k1) v g
      = headL lam (extractStridedSlice S256x64 ![0, 0] (k0_pay8 Q) slices_S256x512_o0_0_S256x64)
          (extractStridedSlice S256x64 ![0, 64] (k0_pay8 Q) slices_S256x512_o0_64_S256x64) k0 k1 v g := rfl

theorem headL1 (k0 k1 : Vec F S2304x64 .bf16) (v : Vec F S2304x128 .bf16) :
    k0_pay14 lam (k0_pay11 q k0) (k0_pay12 q k1) k0_pay13 v g
      = headL lam (extractStridedSlice S256x64 ![0, 128] q slices_S256x512_o0_128_S256x64)
          (extractStridedSlice S256x64 ![0, 192] q slices_S256x512_o0_192_S256x64) k0 k1 v g := rfl

theorem headL2 (k0 k1 : Vec F S2304x64 .bf16) (v : Vec F S2304x128 .bf16) :
    k0_pay17 (k0_pay16 lam q (k0_pay15 q k0) k1 v) g
      = headL lam (extractStridedSlice S256x64 ![0, 256] q slices_S256x512_o0_256_S256x64)
          (extractStridedSlice S256x64 ![0, 320] q slices_S256x512_o0_320_S256x64) k0 k1 v g := rfl

theorem headL3 (k0 k1 : Vec F S2304x64 .bf16) (v : Vec F S2304x128 .bf16) :
    k0_pay6 (k0_pay18 q k0) (k0_pay19 q k1) (k0_pay20 lam) v g
      = headL lam (extractStridedSlice S256x64 ![0, 384] q slices_S256x512_o0_384_S256x64)
          (extractStridedSlice S256x64 ![0, 448] q slices_S256x512_o0_448_S256x64) k0 k1 v g := rfl

theorem headC0 (k0 k1 : Vec F S256x64 .bf16) (v : Vec F S256x128 .bf16) (Q : Vec F S256x512 .bf16) :
    k0_pay23 (k0_pay22 lam Q k0 k1) v g
      = headC lam (extractStridedSlice S256x64 ![0, 0] (k0_pay21 Q) slices_S256x512_o0_0_S256x64)
          (extractStridedSlice S256x64 ![0, 64] (k0_pay21 Q) slices_S256x512_o0_64_S256x64) k0 k1 v g := rfl

theorem headC1 (k0 k1 : Vec F S256x64 .bf16) (v : Vec F S256x128 .bf16) :
    k0_pay26 lam (k0_pay24 q k0) (k0_pay25 q k1) v g
      = headC lam (extractStridedSlice S256x64 ![0, 128] q slices_S256x512_o0_128_S256x64)
          (extractStridedSlice S256x64 ![0, 192] q slices_S256x512_o0_192_S256x64) k0 k1 v g := rfl

theorem headC2 (k0 k1 : Vec F S256x64 .bf16) (v : Vec F S256x128 .bf16) :
    k0_pay30 (k0_pay28 lam q (k0_pay27 q k0) (FloatOps.ofBits FTy.f32 0x3E000000#32) k1 v)
        (k0_pay29 lam q (k0_pay27 q k0) (FloatOps.ofBits FTy.f32 0x3E000000#32) k1 v) g
      = headC lam (extractStridedSlice S256x64 ![0, 256] q slices_S256x512_o0_256_S256x64)
          (extractStridedSlice S256x64 ![0, 320] q slices_S256x512_o0_320_S256x64) k0 k1 v g := rfl

theorem headC3 (a b c d : Vec F S1x64 .f32) (k0 k1 : Vec F S256x64 .bf16) (v : Vec F S256x128 .bf16) :
    k0_pay7 a b c d (k0_pay31 q k0) (k0_pay32 q k1) (k0_pay33 q k1) v g
      = headC (k0_pay5 a b c d) (extractStridedSlice S256x64 ![0, 384] q slices_S256x512_o0_384_S256x64)
          (extractStridedSlice S256x64 ![0, 448] q slices_S256x512_o0_448_S256x64) k0 k1 v g := rfl

end Cert.Diff

end
-- ==== Proof.Block.lean ====
module

public import proofs.«01_k».proof.Proof.Inputs
public import proofs.«01_k».proof.Proof.Pieces
public import Idealize.ShloMosaic.Lib.Pipeline.ReadBack

@[expose] public section

set_option maxRecDepth 16384

noncomputable section

namespace Cert.Diff

open Idealize.ShloMosaic Idealize.ShloMosaic.TcCoe Cert.KernelIdeal Cert.KernelIdeal.Gen Idealize.ShloMosaic.Tactic

variable (m : (ℓ : Loc nD τ sig) → Buf (Elt Ideal) ℓ) (c : Dev nD)

/-- Latent token `r` of batch `b`, column `k`. -/
def lat (b : Fin 8) (r : Fin 2048) (k : Fin 1536) : EReal := m ((c : Thread nD τ).loc main_arg0) (ix3 b r k)

/-- Context token `r` of batch `b`, column `k`. -/
def ctx (b : Fin 8) (r : Fin 256) (k : Fin 1536) : EReal := m ((c : Thread nD τ).loc main_arg1) (ix3 b r k)

/-- The weight of the second softmax. -/
def lamM : EReal := lamOf (fun i => m ((c : Thread nD τ).loc main_arg2) (ix1 i)) (fun i => m ((c : Thread nD τ).loc main_arg3) (ix1 i))
  (fun i => m ((c : Thread nD τ).loc main_arg4) (ix1 i)) fun i => m ((c : Thread nD τ).loc main_arg5) (ix1 i)

/-- The gain. -/
def gM (e : Fin 128) : EReal := m ((c : Thread nD τ).loc main_arg6) (ix1 e)

/-- The batch of a grid point. -/
def bat (t : Fin cfg0.N) : Fin 8 := ⟨t.val / 9, by have : t.val < 72 := t.isLt; omega⟩

theorem lam_read (t : Fin cfg0.N) :
    k0_pay5 (View.ld (iblk m c 2 t) (Rect.unit ![0, 0] ![1, 64] inb_S4x64_S1x64_0_0))
      (View.ld (iblk m c 2 t) (Rect.unit ![1, 0] ![1, 64] inb_S4x64_S1x64_1_0))
      (View.ld (iblk m c 2 t) (Rect.unit ![2, 0] ![1, 64] inb_S4x64_S1x64_2_0))
      (View.ld (iblk m c 2 t) (Rect.unit ![3, 0] ![1, 64] inb_S4x64_S1x64_3_0)) (ix2 0 0) = lamM m c := by
  refine (lam_apply _ _ _ _).trans ?_
  pointwise
  simp only [iblk2_0, iblk2_1, iblk2_2, iblk2_3]
  rfl

/-- What the first point of a batch stores in the key scratch. -/
theorem keys_fill (t : Fin cfg0.N) (j : Fin 2304) (d : Fin 512) :
    View.canon (Val := Elt Ideal) (s := S2304x512) (e := .bf16)
      [⟨Rect.unit ![2048, 0] ![256, 512] inb_S2304x512_S256x512_2048_0,
          k0_pay2 (View.ld (iblk m c 1 t) (Rect.unit ![0, 512] ![256, 512] inb_S256x1536_S256x512_0_512))⟩,
        ⟨Rect.unit ![0, 0] ![2048, 512] inb_S2304x512_S2048x512_0_0,
          k0_pay1 (View.ld (iblk m c 0 t) (Rect.unit ![0, 512] ![2048, 512] inb_S2048x1536_S2048x512_0_512))⟩] (ix2 j d)
      = cat (lat m c (bat t)) (ctx m c (bat t)) j ⟨512 + d.val, by omega⟩ := by
  canon_tiles x h using (View.cover_of_tiledBy _ ![256, 512] (by sl_kernel_rfl) _)
  · obtain ⟨a, b, rfl⟩ : ∃ (a : Fin 256) (b : Fin 512), x = ix2 a b := ⟨x 0, x 1, eq_ix2 x⟩
    have h0 : j.val = 2048 + a.val := h0
    have h1 : d.val = b.val := by have : d.val = 0 + b.val := by first | exact h1 | (rw [Nat.zero_add]; exact h1)
                                  omega
    pointwise [k0_pay2]
    rw [iblk1_apply, cat, dif_neg (by omega)]
    refine congrArg₂ (fun r k => m ((c : Thread nD τ).loc main_arg1) (ix3 (bat t) r k)) (Fin.ext ?_) (Fin.ext ?_)
    · show a.val = j.val - 2048
      omega
    · show 512 + b.val = 512 + d.val
      omega
  · obtain ⟨a, b, rfl⟩ : ∃ (a : Fin 2048) (b : Fin 512), x = ix2 a b := ⟨x 0, x 1, eq_ix2 x⟩
    have h0 : j.val = a.val := by have : j.val = 0 + a.val := by first | exact h0 | (rw [Nat.zero_add]; exact h0)
                                  omega
    have h1 : d.val = b.val := by have : d.val = 0 + b.val := by first | exact h1 | (rw [Nat.zero_add]; exact h1)
                                  omega
    pointwise [k0_pay1]
    rw [iblk0_apply, cat, dif_pos (by omega)]
    refine congrArg₂ (fun r k => m ((c : Thread nD τ).loc main_arg0) (ix3 (bat t) r k)) (Fin.ext ?_) (Fin.ext ?_)
    · exact h0.symm
    · show 512 + b.val = 512 + d.val
      omega

/-- What the first point of a batch stores in the value scratch. -/
theorem vals_fill (t : Fin cfg0.N) (j : Fin 2304) (d : Fin 512) :
    View.canon (Val := Elt Ideal) (s := S2304x512) (e := .bf16)
      [⟨Rect.unit ![2048, 0] ![256, 512] inb_S2304x512_S256x512_2048_0,
          k0_pay4 (View.ld (iblk m c 1 t) (Rect.unit ![0, 1024] ![256, 512] inb_S256x1536_S256x512_0_1024))⟩,
        ⟨Rect.unit ![0, 0] ![2048, 512] inb_S2304x512_S2048x512_0_0,
          k0_pay3 (View.ld (iblk m c 0 t) (Rect.unit ![0, 1024] ![2048, 512] inb_S2048x1536_S2048x512_0_1024))⟩] (ix2 j d)
      = cat (lat m c (bat t)) (ctx m c (bat t)) j ⟨1024 + d.val, by omega⟩ := by
  canon_tiles x h using (View.cover_of_tiledBy _ ![256, 512] (by sl_kernel_rfl) _)
  · obtain ⟨a, b, rfl⟩ : ∃ (a : Fin 256) (b : Fin 512), x = ix2 a b := ⟨x 0, x 1, eq_ix2 x⟩
    have h0 : j.val = 2048 + a.val := h0
    have h1 : d.val = b.val := by have : d.val = 0 + b.val := by first | exact h1 | (rw [Nat.zero_add]; exact h1)
                                  omega
    pointwise [k0_pay4]
    rw [iblk1_apply, cat, dif_neg (by omega)]
    refine congrArg₂ (fun r k => m ((c : Thread nD τ).loc main_arg1) (ix3 (bat t) r k)) (Fin.ext ?_) (Fin.ext ?_)
    · show a.val = j.val - 2048
      omega
    · show 1024 + b.val = 1024 + d.val
      omega
  · obtain ⟨a, b, rfl⟩ : ∃ (a : Fin 2048) (b : Fin 512), x = ix2 a b := ⟨x 0, x 1, eq_ix2 x⟩
    have h0 : j.val = a.val := by have : j.val = 0 + a.val := by first | exact h0 | (rw [Nat.zero_add]; exact h0)
                                  omega
    have h1 : d.val = b.val := by have : d.val = 0 + b.val := by first | exact h1 | (rw [Nat.zero_add]; exact h1)
                                  omega
    pointwise [k0_pay3]
    rw [iblk0_apply, cat, dif_pos (by omega)]
    refine congrArg₂ (fun r k => m ((c : Thread nD τ).loc main_arg0) (ix3 (bat t) r k)) (Fin.ext ?_) (Fin.ext ?_)
    · exact h0.symm
    · show 1024 + b.val = 1024 + d.val
      omega

end Cert.Diff

end
-- ==== Proof.Carry.lean ====
module

public import proofs.«01_k».proof.Proof.Block

@[expose] public section

set_option maxRecDepth 16384

noncomputable section

namespace Cert.Diff

open Idealize.ShloMosaic Idealize.ShloMosaic.TcCoe Cert.KernelIdeal Cert.KernelIdeal.Gen Idealize.ShloMosaic.Tactic

variable (m : (ℓ : Loc nD τ sig) → Buf (Elt Ideal) ℓ) (c : Dev nD)

theorem carryB1 (t : Fin cfg0.N) (h0 : ¬t.val % 9 = 0) (h1 : t.val % 9 ≤ 7) (h2 : ¬t.val % 9 = 8) (hp : t.val - 1 < cfg0.N) :
    (outsAt0 m c t.val t.isLt).2.1 = (outsAt0 m c (t.val - 1) hp).2.1 := by
  rw [outsAt0_B m c t h0 h1 h2]; rfl

theorem carryB2 (t : Fin cfg0.N) (h0 : ¬t.val % 9 = 0) (h1 : t.val % 9 ≤ 7) (h2 : ¬t.val % 9 = 8) (hp : t.val - 1 < cfg0.N) :
    (outsAt0 m c t.val t.isLt).2.2 = (outsAt0 m c (t.val - 1) hp).2.2 := by
  rw [outsAt0_B m c t h0 h1 h2]; rfl

theorem carryC1 (t : Fin cfg0.N) (h0 : ¬t.val % 9 = 0) (h1 : ¬t.val % 9 ≤ 7) (h2 : t.val % 9 = 8) (hp : t.val - 1 < cfg0.N) :
    (outsAt0 m c t.val t.isLt).2.1 = (outsAt0 m c (t.val - 1) hp).2.1 := by
  rw [outsAt0_C m c t h0 h1 h2]; rfl

theorem carryC2 (t : Fin cfg0.N) (h0 : ¬t.val % 9 = 0) (h1 : ¬t.val % 9 ≤ 7) (h2 : t.val % 9 = 8) (hp : t.val - 1 < cfg0.N) :
    (outsAt0 m c t.val t.isLt).2.2 = (outsAt0 m c (t.val - 1) hp).2.2 := by
  rw [outsAt0_C m c t h0 h1 h2]; rfl

/-- The key and value scratch after any point: the keys and values of its batch. -/
theorem scratch_eq (n : ℕ) (hn : n < cfg0.N) (j : Fin 2304) (d : Fin 512) :
    (outsAt0 m c n hn).2.1 (ix2 j d) = cat (lat m c (bat ⟨n, hn⟩)) (ctx m c (bat ⟨n, hn⟩)) j ⟨512 + d.val, by omega⟩
    ∧ (outsAt0 m c n hn).2.2 (ix2 j d) = cat (lat m c (bat ⟨n, hn⟩)) (ctx m c (bat ⟨n, hn⟩)) j ⟨1024 + d.val, by omega⟩ := by
  induction n with
  | zero =>
    constructor
    · rw [outsAt0_A m c ⟨0, hn⟩ rfl (Nat.zero_le 7) (by show ¬0 % 9 = 8; omega)]
      frame_out
      exact keys_fill m c _ j d
    · rw [outsAt0_A m c ⟨0, hn⟩ rfl (Nat.zero_le 7) (by show ¬0 % 9 = 8; omega)]
      frame_out
      exact vals_fill m c _ j d
  | succ n ih =>
    by_cases h0 : (n + 1) % 9 = 0
    · constructor
      · rw [outsAt0_A m c ⟨n + 1, hn⟩ h0 (by show (n + 1) % 9 ≤ 7; omega) (by show ¬(n + 1) % 9 = 8; omega)]
        frame_out
        exact keys_fill m c _ j d
      · rw [outsAt0_A m c ⟨n + 1, hn⟩ h0 (by show (n + 1) % 9 ≤ 7; omega) (by show ¬(n + 1) % 9 = 8; omega)]
        frame_out
        exact vals_fill m c _ j d
    · have hb : bat ⟨n + 1, hn⟩ = bat ⟨n, Nat.lt_of_succ_lt hn⟩ := Fin.ext (by show (n + 1) / 9 = n / 9; omega)
      rw [hb]
      by_cases h2 : (n + 1) % 9 = 8
      · exact ⟨(congrFun (carryC1 m c ⟨n + 1, hn⟩ h0 (by show ¬(n + 1) % 9 ≤ 7; omega) h2 (Nat.lt_of_succ_lt hn)) _).trans
            (ih (Nat.lt_of_succ_lt hn)).1,
          (congrFun (carryC2 m c ⟨n + 1, hn⟩ h0 (by show ¬(n + 1) % 9 ≤ 7; omega) h2 (Nat.lt_of_succ_lt hn)) _).trans
            (ih (Nat.lt_of_succ_lt hn)).2⟩
      · exact ⟨(congrFun (carryB1 m c ⟨n + 1, hn⟩ h0 (by show (n + 1) % 9 ≤ 7; omega) h2 (Nat.lt_of_succ_lt hn)) _).trans
            (ih (Nat.lt_of_succ_lt hn)).1,
          (congrFun (carryB2 m c ⟨n + 1, hn⟩ h0 (by show (n + 1) % 9 ≤ 7; omega) h2 (Nat.lt_of_succ_lt hn)) _).trans
            (ih (Nat.lt_of_succ_lt hn)).2⟩

end Cert.Diff

end
-- ==== Proof.Out.lean ====
module

public import proofs.«01_k».proof.Proof.Carry

@[expose] public section

set_option maxRecDepth 16384

noncomputable section

namespace Cert.Diff

open Idealize.ShloMosaic Idealize.ShloMosaic.TcCoe Cert.KernelIdeal Cert.KernelIdeal.Gen Idealize.ShloMosaic.Tactic

variable (m : (ℓ : Loc nD τ sig) → Buf (Elt Ideal) ℓ) (c : Dev nD)

theorem off1_eq : ∀ t : Fin cfg0.N, t.val % 9 ≤ 7 → k0_off1 (grid0.coords t) = ![t.val % 9 * 256, 0] :=
  (by decide +kernel : ∀ t : Fin grid0.N, t.val % 9 ≤ 7 → k0_off1 (grid0.coords t) = ![t.val % 9 * 256, 0])

theorem off2_eq : ∀ t : Fin cfg0.N, t.val % 9 = 8 → k0_off2 (grid0.coords t) = ![0, 0] :=
  (by decide +kernel : ∀ t : Fin grid0.N, t.val % 9 = 8 → k0_off2 (grid0.coords t) = ![0, 0])

/-- The queries of a latent block: 256 of the batch's tokens, from row `o` on. -/
theorem ldQ (t : Fin cfg0.N) (off : Fin 2 → ℕ) (o : ℕ) (h : off = ![o, 0]) (ho : o + 256 ≤ 2048) (inb) (r : Fin 256) (d : Fin 512) :
    k0_pay8 (View.ld (iblk m c 0 t) (Rect.unit (s := S2048x1536) off ![256, 512] inb)) (ix2 r d)
      = lat m c (bat t) ⟨o + r.val, by omega⟩ ⟨d.val, by omega⟩ := by
  subst h
  pointwise [k0_pay8]
  rw [iblk0_apply]
  rfl

/-- The queries of a context block: the batch's context tokens. -/
theorem ldQC (t : Fin cfg0.N) (off : Fin 2 → ℕ) (h : off = ![0, 0]) (inb) (r : Fin 256) (d : Fin 512) :
    k0_pay21 (View.ld (iblk m c 1 t) (Rect.unit (s := S256x1536) off ![256, 512] inb)) (ix2 r d)
      = ctx m c (bat t) r ⟨d.val, by omega⟩ := by
  subst h
  pointwise [k0_pay21]
  rw [iblk1_apply]
  rfl

/-- Row `r` of the 256 latent tokens from row `o` on. -/
def latRow (b : Fin 8) (o : ℕ) (ho : o + 256 ≤ 2048) (r : Fin 256) : Fin 1536 → EReal := lat m c b ⟨o + r.val, by omega⟩

/-- 64 or 128 columns of the scratch, from column `o` on. -/
theorem ldK {K : Vec Ideal S2304x512 .bf16} {KV : Fin 2304 → Fin 1536 → EReal} (p : ℕ) (hp : p ≤ 1024)
    (hK : ∀ j (d : Fin 512), K (ix2 j d) = KV j ⟨p + d.val, by omega⟩) (o : ℕ) (ho : o + 64 ≤ 512) (inb) (j : Fin 2304) (d : Fin 64) :
    View.ld K (Rect.unit (s := S2304x512) ![0, o] ![2304, 64] inb) (ix2 j d) = KV j ⟨p + o + d.val, by omega⟩ :=
  ((View.ld_unit_apply_of K ![0, o] ![2304, 64] inb (ix2 j d) (ix2 j ⟨o + d.val, by omega⟩) (fun a => by
    fin_cases a
    · show j.val = 0 + j.val
      omega
    · rfl)).trans (hK _ _)).trans (congrArg (KV j) (Fin.ext (by show p + (o + d.val) = p + o + d.val; omega)))

theorem ldV {K : Vec Ideal S2304x512 .bf16} {KV : Fin 2304 → Fin 1536 → EReal} (p : ℕ) (hp : p ≤ 1024)
    (hK : ∀ j (d : Fin 512), K (ix2 j d) = KV j ⟨p + d.val, by omega⟩) (o : ℕ) (ho : o + 128 ≤ 512) (inb) (j : Fin 2304) (d : Fin 128) :
    View.ld K (Rect.unit (s := S2304x512) ![0, o] ![2304, 128] inb) (ix2 j d) = KV j ⟨p + o + d.val, by omega⟩ :=
  ((View.ld_unit_apply_of K ![0, o] ![2304, 128] inb (ix2 j d) (ix2 j ⟨o + d.val, by omega⟩) (fun a => by
    fin_cases a
    · show j.val = 0 + j.val
      omega
    · rfl)).trans (hK _ _)).trans (congrArg (KV j) (Fin.ext (by show p + (o + d.val) = p + o + d.val; omega)))

/-- The same columns of the context's rows alone. -/
theorem ldKC {K : Vec Ideal S2304x512 .bf16} {X Y} (p : ℕ) (hp : p ≤ 1024)
    (hK : ∀ j (d : Fin 512), K (ix2 j d) = cat X Y j ⟨p + d.val, by omega⟩) (o : ℕ) (ho : o + 64 ≤ 512) (inb) (j : Fin 256) (d : Fin 64) :
    View.ld K (Rect.unit (s := S2304x512) ![2048, o] ![256, 64] inb) (ix2 j d) = Y j ⟨p + o + d.val, by omega⟩ :=
  ((View.ld_unit_apply_of K ![2048, o] ![256, 64] inb (ix2 j d) (ix2 ⟨2048 + j.val, by omega⟩ ⟨o + d.val, by omega⟩) (fun a => by
    fin_cases a
    · rfl
    · rfl)).trans (hK _ _)).trans (by
      rw [cat, dif_neg (by show ¬2048 + j.val < 2048; omega)]
      exact congrArg₂ Y (Fin.ext (by show 2048 + j.val - 2048 = j.val; omega)) (Fin.ext (by show p + (o + d.val) = p + o + d.val; omega)))

theorem ldVC {K : Vec Ideal S2304x512 .bf16} {X Y} (p : ℕ) (hp : p ≤ 1024)
    (hK : ∀ j (d : Fin 512), K (ix2 j d) = cat X Y j ⟨p + d.val, by omega⟩) (o : ℕ) (ho : o + 128 ≤ 512) (inb) (j : Fin 256) (d : Fin 128) :
    View.ld K (Rect.unit (s := S2304x512) ![2048, o] ![256, 128] inb) (ix2 j d) = Y j ⟨p + o + d.val, by omega⟩ :=
  ((View.ld_unit_apply_of K ![2048, o] ![256, 128] inb (ix2 j d) (ix2 ⟨2048 + j.val, by omega⟩ ⟨o + d.val, by omega⟩) (fun a => by
    fin_cases a
    · rfl
    · rfl)).trans (hK _ _)).trans (by
      rw [cat, dif_neg (by show ¬2048 + j.val < 2048; omega)]
      exact congrArg₂ Y (Fin.ext (by show 2048 + j.val - 2048 = j.val; omega)) (Fin.ext (by show p + (o + d.val) = p + o + d.val; omega)))

/-- 64 of a block's query columns, from column `o` on. -/
theorem slQ {q : FVec Ideal S256x512 .bf16} {Q : Fin 256 → Fin 1536 → EReal} (hq : ∀ r (d : Fin 512), q (ix2 r d) = Q r ⟨d.val, by omega⟩)
    (o : ℕ) (ho : o + 64 ≤ 512) (hs) (r : Fin 256) (d : Fin 64) :
    extractStridedSlice S256x64 ![0, o] q hs (ix2 r d) = Q r ⟨o + d.val, by omega⟩ :=
  (congrArg q (funext fun a => by
    fin_cases a
    · exact Fin.ext (by show 0 + r.val = r.val; omega)
    · rfl : _ = ix2 r ⟨o + d.val, by omega⟩)).trans (hq _ _)

/-- What a latent block's point stores, over the key and value scratch it reads. -/
theorem outL (t : Fin cfg0.N) (h1 : t.val % 9 ≤ 7) (inb) (K V : Vec Ideal S2304x512 .bf16)
    (hn : ∀ b r k, k.val < 1024 → IsNum (lat m c b r k)) (hn' : ∀ b r k, k.val < 1024 → IsNum (ctx m c b r k))
    (hK : ∀ j (d : Fin 512), K (ix2 j d) = cat (lat m c (bat t)) (ctx m c (bat t)) j ⟨512 + d.val, by omega⟩)
    (hV : ∀ j (d : Fin 512), V (ix2 j d) = cat (lat m c (bat t)) (ctx m c (bat t)) j ⟨1024 + d.val, by omega⟩)
    (lam : FVec Ideal S1x1 .f32) (hlam : lam (ix2 0 0) = lamM m c) (y : S256x512.Idx) :
    View.canon (Val := Elt Ideal) (s := S256x512) (e := .bf16)
      [⟨Rect.unit ![0, 384] ![256, 128] inb_S256x512_S256x128_0_384,
          k0_pay6
            (k0_pay18 (k0_pay8 (View.ld (iblk m c 0 t) (Rect.unit (s := S2048x1536) (k0_off1 (grid0.coords t)) ![256, 512] inb)))
              (View.ld K (Rect.unit ![0, 384] ![2304, 64] inb_S2304x512_S2304x64_0_384)))
            (k0_pay19 (k0_pay8 (View.ld (iblk m c 0 t) (Rect.unit (s := S2048x1536) (k0_off1 (grid0.coords t)) ![256, 512] inb)))
              (View.ld K (Rect.unit ![0, 448] ![2304, 64] inb_S2304x512_S2304x64_0_448)))
            (k0_pay20 lam)
            (View.ld V (Rect.unit ![0, 384] ![2304, 128] inb_S2304x512_S2304x128_0_384)) (iblk m c 3 t)⟩,
        ⟨Rect.unit ![0, 256] ![256, 128] inb_S256x512_S256x128_0_256,
          k0_pay17
            (k0_pay16 lam
              (k0_pay8 (View.ld (iblk m c 0 t) (Rect.unit (s := S2048x1536) (k0_off1 (grid0.coords t)) ![256, 512] inb)))
              (k0_pay15 (k0_pay8 (View.ld (iblk m c 0 t) (Rect.unit (s := S2048x1536) (k0_off1 (grid0.coords t)) ![256, 512] inb)))
                (View.ld K (Rect.unit ![0, 256] ![2304, 64] inb_S2304x512_S2304x64_0_256)))
              (View.ld K (Rect.unit ![0, 320] ![2304, 64] inb_S2304x512_S2304x64_0_320))
              (View.ld V (Rect.unit ![0, 256] ![2304, 128] inb_S2304x512_S2304x128_0_256))) (iblk m c 3 t)⟩,
        ⟨Rect.unit ![0, 128] ![256, 128] inb_S256x512_S256x128_0_128,
          k0_pay14 lam
            (k0_pay11 (k0_pay8 (View.ld (iblk m c 0 t) (Rect.unit (s := S2048x1536) (k0_off1 (grid0.coords t)) ![256, 512] inb)))
              (View.ld K (Rect.unit ![0, 128] ![2304, 64] inb_S2304x512_S2304x64_0_128)))
            (k0_pay12 (k0_pay8 (View.ld (iblk m c 0 t) (Rect.unit (s := S2048x1536) (k0_off1 (grid0.coords t)) ![256, 512] inb)))
              (View.ld K (Rect.unit ![0, 192] ![2304, 64] inb_S2304x512_S2304x64_0_192)))
            k0_pay13 (View.ld V (Rect.unit ![0, 128] ![2304, 128] inb_S2304x512_S2304x128_0_128)) (iblk m c 3 t)⟩,
        ⟨Rect.unit ![0, 0] ![256, 128] inb_S256x512_S256x128_0_0,
          k0_pay10
            (k0_pay9 lam (View.ld (iblk m c 0 t) (Rect.unit (s := S2048x1536) (k0_off1 (grid0.coords t)) ![256, 512] inb))
              (View.ld K (Rect.unit ![0, 0] ![2304, 64] inb_S2304x512_S2304x64_0_0))
              (View.ld K (Rect.unit ![0, 64] ![2304, 64] inb_S2304x512_S2304x64_0_64)))
            (View.ld V (Rect.unit ![0, 0] ![2304, 128] inb_S2304x512_S2304x128_0_0)) (iblk m c 3 t)⟩] y
      = headAt (lamM m c) (latRow m c (bat t) (t.val % 9 * 256) (by omega) (y 0))
          (cat (lat m c (bat t)) (ctx m c (bat t))) (gM m c) (y 1) := by
  have hcat : ∀ j k, k.val < 1024 → IsNum (cat (lat m c (bat t)) (ctx m c (bat t)) j k) := by
    intro j k hk
    unfold cat
    split
    · exact hn _ _ _ hk
    · exact hn' _ _ _ hk
  have hq : ∀ r (d : Fin 512), k0_pay8 (View.ld (iblk m c 0 t) (Rect.unit (s := S2048x1536) (k0_off1 (grid0.coords t)) ![256, 512] inb)) (ix2 r d)
      = latRow m c (bat t) (t.val % 9 * 256) (by omega) r ⟨d.val, by omega⟩ :=
    fun r d => ldQ m c t _ _ (off1_eq t h1) (by omega) inb r d
  have hg : (fun e => iblk m c 3 t (ix2 0 e)) = gM m c := funext fun e => iblk3_apply m c t e
  have hl := hlam
  canon_tiles x h
  · have hx : y 0 = x 0 := Fin.ext h0
    rw [headL3, hx]
    refine (pieceL x (latRow m c (bat t) (t.val % 9 * 256) (by omega) (x 0)) (cat (lat m c (bat t)) (ctx m c (bat t))) 384 (by decide) (by decide)
      (y 1) h1 (fun k hk => hn (bat t) _ k hk) hcat (fun d => slQ hq 384 (by decide) _ _ d) (fun d => slQ hq 448 (by decide) _ _ d)
      (fun j d => ldK 512 (by decide) hK 384 (by decide) _ j d) (fun j d => ldK 512 (by decide) hK 448 (by decide) _ j d)
      (fun j e => ldV 1024 (by decide) hV 384 (by decide) _ j e)).trans ?_
    rw [hl, hg]
  · have hx : y 0 = x 0 := Fin.ext h0
    rw [headL2, hx]
    refine (pieceL x (latRow m c (bat t) (t.val % 9 * 256) (by omega) (x 0)) (cat (lat m c (bat t)) (ctx m c (bat t))) 256 (by decide) (by decide)
      (y 1) h1 (fun k hk => hn (bat t) _ k hk) hcat (fun d => slQ hq 256 (by decide) _ _ d) (fun d => slQ hq 320 (by decide) _ _ d)
      (fun j d => ldK 512 (by decide) hK 256 (by decide) _ j d) (fun j d => ldK 512 (by decide) hK 320 (by decide) _ j d)
      (fun j e => ldV 1024 (by decide) hV 256 (by decide) _ j e)).trans ?_
    rw [hl, hg]
  · have hx : y 0 = x 0 := Fin.ext h0
    rw [headL1, hx]
    refine (pieceL x (latRow m c (bat t) (t.val % 9 * 256) (by omega) (x 0)) (cat (lat m c (bat t)) (ctx m c (bat t))) 128 (by decide) (by decide)
      (y 1) h1 (fun k hk => hn (bat t) _ k hk) hcat (fun d => slQ hq 128 (by decide) _ _ d) (fun d => slQ hq 192 (by decide) _ _ d)
      (fun j d => ldK 512 (by decide) hK 128 (by decide) _ j d) (fun j d => ldK 512 (by decide) hK 192 (by decide) _ j d)
      (fun j e => ldV 1024 (by decide) hV 128 (by decide) _ j e)).trans ?_
    rw [hl, hg]
  · have hx : y 0 = x 0 := Fin.ext h0
    rw [headL0, hx]
    refine (pieceL x (latRow m c (bat t) (t.val % 9 * 256) (by omega) (x 0)) (cat (lat m c (bat t)) (ctx m c (bat t))) 0 (by decide) (by decide)
      (y 1) (h1.trans (Nat.zero_add _).symm) (fun k hk => hn (bat t) _ k hk) hcat (fun d => slQ hq 0 (by decide) _ _ d) (fun d => slQ hq 64 (by decide) _ _ d)
      (fun j d => ldK 512 (by decide) hK 0 (by decide) _ j d) (fun j d => ldK 512 (by decide) hK 64 (by decide) _ j d)
      (fun j e => ldV 1024 (by decide) hV 0 (by decide) _ j e)).trans ?_
    rw [hl, hg]

/-- What a context block's point stores, over the key and value scratch it reads. -/
theorem outC (t : Fin cfg0.N) (h1 : t.val % 9 = 8) (inb) (K V : Vec Ideal S2304x512 .bf16)
    (hn' : ∀ b r k, k.val < 1024 → IsNum (ctx m c b r k))
    (hK : ∀ j (d : Fin 512), K (ix2 j d) = cat (lat m c (bat t)) (ctx m c (bat t)) j ⟨512 + d.val, by omega⟩)
    (hV : ∀ j (d : Fin 512), V (ix2 j d) = cat (lat m c (bat t)) (ctx m c (bat t)) j ⟨1024 + d.val, by omega⟩)
    (y : S256x512.Idx) :
    View.canon (Val := Elt Ideal) (s := S256x512) (e := .bf16)
      [⟨Rect.unit ![0, 384] ![256, 128] inb_S256x512_S256x128_0_384,
          k0_pay7 (View.ld (iblk m c 2 t) (Rect.unit ![0, 0] ![1, 64] inb_S4x64_S1x64_0_0)) (View.ld (iblk m c 2 t) (Rect.unit ![1, 0] ![1, 64] inb_S4x64_S1x64_1_0))
            (View.ld (iblk m c 2 t) (Rect.unit ![2, 0] ![1, 64] inb_S4x64_S1x64_2_0)) (View.ld (iblk m c 2 t) (Rect.unit ![3, 0] ![1, 64] inb_S4x64_S1x64_3_0))
            (k0_pay31 (k0_pay21 (View.ld (iblk m c 1 t) (Rect.unit (s := S256x1536) (k0_off2 (grid0.coords t)) ![256, 512] inb))) (View.ld K (Rect.unit ![2048, 384] ![256, 64] inb_S2304x512_S256x64_2048_384)))
            (k0_pay32 (k0_pay21 (View.ld (iblk m c 1 t) (Rect.unit (s := S256x1536) (k0_off2 (grid0.coords t)) ![256, 512] inb))) (View.ld K (Rect.unit ![2048, 448] ![256, 64] inb_S2304x512_S256x64_2048_448)))
            (k0_pay33 (k0_pay21 (View.ld (iblk m c 1 t) (Rect.unit (s := S256x1536) (k0_off2 (grid0.coords t)) ![256, 512] inb))) (View.ld K (Rect.unit ![2048, 448] ![256, 64] inb_S2304x512_S256x64_2048_448)))
            (View.ld V (Rect.unit ![2048, 384] ![256, 128] inb_S2304x512_S256x128_2048_384)) (iblk m c 3 t)⟩,
        ⟨Rect.unit ![0, 256] ![256, 128] inb_S256x512_S256x128_0_256,
          k0_pay30 (k0_pay28 (k0_pay5 (View.ld (iblk m c 2 t) (Rect.unit ![0, 0] ![1, 64] inb_S4x64_S1x64_0_0)) (View.ld (iblk m c 2 t) (Rect.unit ![1, 0] ![1, 64] inb_S4x64_S1x64_1_0))
            (View.ld (iblk m c 2 t) (Rect.unit ![2, 0] ![1, 64] inb_S4x64_S1x64_2_0)) (View.ld (iblk m c 2 t) (Rect.unit ![3, 0] ![1, 64] inb_S4x64_S1x64_3_0)))
              (k0_pay21 (View.ld (iblk m c 1 t) (Rect.unit (s := S256x1536) (k0_off2 (grid0.coords t)) ![256, 512] inb))) (k0_pay27 (k0_pay21 (View.ld (iblk m c 1 t) (Rect.unit (s := S256x1536) (k0_off2 (grid0.coords t)) ![256, 512] inb))) (View.ld K (Rect.unit ![2048, 256] ![256, 64] inb_S2304x512_S256x64_2048_256)))
              (FloatOps.ofBits FTy.f32 1040187392#32) (View.ld K (Rect.unit ![2048, 320] ![256, 64] inb_S2304x512_S256x64_2048_320)) (View.ld V (Rect.unit ![2048, 256] ![256, 128] inb_S2304x512_S256x128_2048_256)))
            (k0_pay29 (k0_pay5 (View.ld (iblk m c 2 t) (Rect.unit ![0, 0] ![1, 64] inb_S4x64_S1x64_0_0)) (View.ld (iblk m c 2 t) (Rect.unit ![1, 0] ![1, 64] inb_S4x64_S1x64_1_0))
            (View.ld (iblk m c 2 t) (Rect.unit ![2, 0] ![1, 64] inb_S4x64_S1x64_2_0)) (View.ld (iblk m c 2 t) (Rect.unit ![3, 0] ![1, 64] inb_S4x64_S1x64_3_0)))
              (k0_pay21 (View.ld (iblk m c 1 t) (Rect.unit (s := S256x1536) (k0_off2 (grid0.coords t)) ![256, 512] inb))) (k0_pay27 (k0_pay21 (View.ld (iblk m c 1 t) (Rect.unit (s := S256x1536) (k0_off2 (grid0.coords t)) ![256, 512] inb))) (View.ld K (Rect.unit ![2048, 256] ![256, 64] inb_S2304x512_S256x64_2048_256)))
              (FloatOps.ofBits FTy.f32 1040187392#32) (View.ld K (Rect.unit ![2048, 320] ![256, 64] inb_S2304x512_S256x64_2048_320)) (View.ld V (Rect.unit ![2048, 256] ![256, 128] inb_S2304x512_S256x128_2048_256)))
            (iblk m c 3 t)⟩,
        ⟨Rect.unit ![0, 128] ![256, 128] inb_S256x512_S256x128_0_128,
          k0_pay26 (k0_pay5 (View.ld (iblk m c 2 t) (Rect.unit ![0, 0] ![1, 64] inb_S4x64_S1x64_0_0)) (View.ld (iblk m c 2 t) (Rect.unit ![1, 0] ![1, 64] inb_S4x64_S1x64_1_0))
            (View.ld (iblk m c 2 t) (Rect.unit ![2, 0] ![1, 64] inb_S4x64_S1x64_2_0)) (View.ld (iblk m c 2 t) (Rect.unit ![3, 0] ![1, 64] inb_S4x64_S1x64_3_0)))
            (k0_pay24 (k0_pay21 (View.ld (iblk m c 1 t) (Rect.unit (s := S256x1536) (k0_off2 (grid0.coords t)) ![256, 512] inb))) (View.ld K (Rect.unit ![2048, 128] ![256, 64] inb_S2304x512_S256x64_2048_128)))
            (k0_pay25 (k0_pay21 (View.ld (iblk m c 1 t) (Rect.unit (s := S256x1536) (k0_off2 (grid0.coords t)) ![256, 512] inb))) (View.ld K (Rect.unit ![2048, 192] ![256, 64] inb_S2304x512_S256x64_2048_192)))
            (View.ld V (Rect.unit ![2048, 128] ![256, 128] inb_S2304x512_S256x128_2048_128)) (iblk m c 3 t)⟩,
        ⟨Rect.unit ![0, 0] ![256, 128] inb_S256x512_S256x128_0_0,
          k0_pay23 (k0_pay22 (k0_pay5 (View.ld (iblk m c 2 t) (Rect.unit ![0, 0] ![1, 64] inb_S4x64_S1x64_0_0)) (View.ld (iblk m c 2 t) (Rect.unit ![1, 0] ![1, 64] inb_S4x64_S1x64_1_0))
            (View.ld (iblk m c 2 t) (Rect.unit ![2, 0] ![1, 64] inb_S4x64_S1x64_2_0)) (View.ld (iblk m c 2 t) (Rect.unit ![3, 0] ![1, 64] inb_S4x64_S1x64_3_0)))
              (View.ld (iblk m c 1 t) (Rect.unit (s := S256x1536) (k0_off2 (grid0.coords t)) ![256, 512] inb)) (View.ld K (Rect.unit ![2048, 0] ![256, 64] inb_S2304x512_S256x64_2048_0)) (View.ld K (Rect.unit ![2048, 64] ![256, 64] inb_S2304x512_S256x64_2048_64)))
            (View.ld V (Rect.unit ![2048, 0] ![256, 128] inb_S2304x512_S256x128_2048_0)) (iblk m c 3 t)⟩] y
      = headAt (lamM m c) (ctx m c (bat t) (y 0)) (ctx m c (bat t)) (gM m c) (y 1) := by
  have hq : ∀ r (d : Fin 512), k0_pay21 (View.ld (iblk m c 1 t) (Rect.unit (s := S256x1536) (k0_off2 (grid0.coords t)) ![256, 512] inb)) (ix2 r d)
      = ctx m c (bat t) r ⟨d.val, by omega⟩ :=
    fun r d => ldQC m c t _ (off2_eq t h1) inb r d
  have hg : (fun e => iblk m c 3 t (ix2 0 e)) = gM m c := funext fun e => iblk3_apply m c t e
  canon_tiles x h
  · have hx : y 0 = x 0 := Fin.ext h0
    rw [headC3, hx]
    refine (pieceC x (ctx m c (bat t) (x 0)) (ctx m c (bat t)) 384 (by decide) (by decide)
      (y 1) h1 (fun k hk => hn' _ _ _ hk) (hn' _) (fun d => slQ hq 384 (by decide) _ _ d) (fun d => slQ hq 448 (by decide) _ _ d)
      (fun j d => ldKC 512 (by decide) hK 384 (by decide) _ j d) (fun j d => ldKC 512 (by decide) hK 448 (by decide) _ j d)
      (fun j e => ldVC 1024 (by decide) hV 384 (by decide) _ j e)).trans ?_
    rw [lam_read, hg]
  · have hx : y 0 = x 0 := Fin.ext h0
    rw [headC2, hx]
    refine (pieceC x (ctx m c (bat t) (x 0)) (ctx m c (bat t)) 256 (by decide) (by decide)
      (y 1) h1 (fun k hk => hn' _ _ _ hk) (hn' _) (fun d => slQ hq 256 (by decide) _ _ d) (fun d => slQ hq 320 (by decide) _ _ d)
      (fun j d => ldKC 512 (by decide) hK 256 (by decide) _ j d) (fun j d => ldKC 512 (by decide) hK 320 (by decide) _ j d)
      (fun j e => ldVC 1024 (by decide) hV 256 (by decide) _ j e)).trans ?_
    rw [lam_read, hg]
  · have hx : y 0 = x 0 := Fin.ext h0
    rw [headC1, hx]
    refine (pieceC x (ctx m c (bat t) (x 0)) (ctx m c (bat t)) 128 (by decide) (by decide)
      (y 1) h1 (fun k hk => hn' _ _ _ hk) (hn' _) (fun d => slQ hq 128 (by decide) _ _ d) (fun d => slQ hq 192 (by decide) _ _ d)
      (fun j d => ldKC 512 (by decide) hK 128 (by decide) _ j d) (fun j d => ldKC 512 (by decide) hK 192 (by decide) _ j d)
      (fun j e => ldVC 1024 (by decide) hV 128 (by decide) _ j e)).trans ?_
    rw [lam_read, hg]
  · have hx : y 0 = x 0 := Fin.ext h0
    rw [headC0, hx]
    refine (pieceC x (ctx m c (bat t) (x 0)) (ctx m c (bat t)) 0 (by decide) (by decide)
      (y 1) (h1.trans (Nat.zero_add _).symm) (fun k hk => hn' _ _ _ hk) (hn' _) (fun d => slQ hq 0 (by decide) _ _ d) (fun d => slQ hq 64 (by decide) _ _ d)
      (fun j d => ldKC 512 (by decide) hK 0 (by decide) _ j d) (fun j d => ldKC 512 (by decide) hK 64 (by decide) _ j d)
      (fun j e => ldVC 1024 (by decide) hV 0 (by decide) _ j e)).trans ?_
    rw [lam_read, hg]

end Cert.Diff

end
-- ==== Proof.Final.lean ====
module

public import proofs.«01_k».proof.Proof.Out

@[expose] public section

set_option maxRecDepth 16384

noncomputable section

namespace Cert.Diff

open Idealize.ShloMosaic Idealize.ShloMosaic.TcCoe Cert.KernelIdeal Cert.KernelIdeal.Gen Idealize.ShloMosaic.Tactic
open Idealize.ShloMosaic.Pipeline (Dat Cfg Window)

variable (m : (ℓ : Loc nD τ sig) → Buf (Elt Ideal) ℓ) (c : Dev nD)
  (hn : ∀ b r k, k.val < 1024 → IsNum (lat m c b r k)) (hn' : ∀ b r k, k.val < 1024 → IsNum (ctx m c b r k))

include hn hn'

theorem outs_latent (t : Fin cfg0.N) (h1 : t.val % 9 ≤ 7) (y : S256x512.Idx) :
    (outsAt0 m c t.val t.isLt).1 y = headAt (lamM m c) (latRow m c (bat t) (t.val % 9 * 256) (by omega) (y 0))
      (cat (lat m c (bat t)) (ctx m c (bat t))) (gM m c) (y 1) := by
  have h2 : ¬t.val % 9 = 8 := by omega
  by_cases h0 : t.val % 9 = 0
  · rw [outsAt0_A m c t h0 h1 h2]
    frame_out
    simp only [View.readCov_eq_canon']
    exact outL m c t h1 _ _ _ hn hn' (keys_fill m c t) (vals_fill m c t) _ (lam_read m c t) y
  · rw [outsAt0_B m c t h0 h1 h2]
    frame_out
    simp only [read_unread_whole]
    have hb : bat t = bat ⟨t.val - 1, Nat.lt_of_le_of_lt (Nat.sub_le _ _) t.isLt⟩ :=
      Fin.ext (by show t.val / 9 = (t.val - 1) / 9; omega)
    exact outL m c t h1 _ _ _ hn hn' (fun j d => hb ▸ (scratch_eq m c _ _ j d).1) (fun j d => hb ▸ (scratch_eq m c _ _ j d).2) _
      (lam_read m c t) y

omit hn in
theorem outs_context (t : Fin cfg0.N) (h2 : t.val % 9 = 8) (y : S256x512.Idx) :
    (outsAt0 m c t.val t.isLt).1 y = headAt (lamM m c) (ctx m c (bat t) (y 0)) (ctx m c (bat t)) (gM m c) (y 1) := by
  rw [outsAt0_C m c t (by omega) (by omega) h2]
  frame_out
  simp only [read_unread_whole]
  have hb : bat t = bat ⟨t.val - 1, Nat.lt_of_le_of_lt (Nat.sub_le _ _) t.isLt⟩ :=
    Fin.ext (by show t.val / 9 = (t.val - 1) / 9; omega)
  exact outC m c t h2 _ _ _ hn' (fun j d => hb ▸ (scratch_eq m c _ _ j d).1) (fun j d => hb ▸ (scratch_eq m c _ _ j d).2) y

omit hn hn' in
/-- The layer's differential attention: the latents' tokens batch by batch, then the context's. -/
def res (i : S18432x512.Idx) : EReal :=
  if h : (i 0).val < 16384 then
    headAt (lamM m c) (lat m c ⟨(i 0).val / 2048, by omega⟩ ⟨(i 0).val % 2048, by omega⟩)
      (cat (lat m c ⟨(i 0).val / 2048, by omega⟩) (ctx m c ⟨(i 0).val / 2048, by omega⟩)) (gM m c) (i 1)
  else
    headAt (lamM m c) (ctx m c ⟨((i 0).val - 16384) / 256, by have : (i 0).val < 18432 := (i 0).isLt; omega⟩ ⟨((i 0).val - 16384) % 256, by omega⟩)
      (ctx m c ⟨((i 0).val - 16384) / 256, by have : (i 0).val < 18432 := (i 0).isLt; omega⟩) (gM m c) (i 1)

omit hn hn' in
theorem index4 : ∀ t : Fin cfg0.N, win0_4.index t 0 = (if t.val % 9 ≤ 7 then 8 * (t.val / 9) + t.val % 9 else 64 + t.val / 9) ∧ win0_4.index t 1 = 0 :=
  (by decide +kernel : ∀ t : Fin grid0.N, win0_4.index t 0 = (if t.val % 9 ≤ 7 then 8 * (t.val / 9) + t.val % 9 else 64 + t.val / 9) ∧ win0_4.index t 1 = 0)

omit hn hn' in
theorem res_latent (b : Fin 8) (r : Fin 2048) (R : Fin 18432) (hR : R.val = 2048 * b.val + r.val) (k : Fin 512) :
    res m c (ix2 R k) = headAt (lamM m c) (lat m c b r) (cat (lat m c b) (ctx m c b)) (gM m c) k := by
  have h2 : R.val / 2048 = b.val := by omega
  have h3 : R.val % 2048 = r.val := by omega
  refine (dif_pos (show R.val < 16384 by omega)).trans ?_
  show headAt (lamM m c) (lat m c ⟨R.val / 2048, _⟩ ⟨R.val % 2048, _⟩) (cat (lat m c ⟨R.val / 2048, _⟩) (ctx m c ⟨R.val / 2048, _⟩)) (gM m c) k = _
  simp only [h2, h3]

omit hn hn' in
theorem res_context (b : Fin 8) (r : Fin 256) (R : Fin 18432) (hR : R.val = 16384 + (256 * b.val + r.val)) (k : Fin 512) :
    res m c (ix2 R k) = headAt (lamM m c) (ctx m c b r) (ctx m c b) (gM m c) k := by
  have h2 : (R.val - 16384) / 256 = b.val := by omega
  have h3 : (R.val - 16384) % 256 = r.val := by omega
  refine (dif_neg (show ¬R.val < 16384 by omega)).trans ?_
  show headAt (lamM m c) (ctx m c ⟨(R.val - 16384) / 256, _⟩ ⟨(R.val - 16384) % 256, _⟩) (ctx m c ⟨(R.val - 16384) / 256, _⟩) (gM m c) k = _
  simp only [h2, h3]

theorem final_eq : (dats m 0 c).arrAt 4 cfg0.N = res m c := by
  refine (dats m 0 c).arrAt_eq_of_covers 4 _ (by decide +kernel) fun t hf y => ?_
  blk_simp
  rw [after0_4]
  have ht : t.val < 72 := t.isLt
  have hy : (y 0).val < 256 := (y 0).isLt
  have hi := (index4 t).1
  have hlt : win0_4.index t 0 * 256 + (y 0).val < 18432 := by
    rw [hi]
    split <;> omega
  have e : (win0_4.blk t).view.emb y = ix2 ⟨win0_4.index t 0 * 256 + (y 0).val, hlt⟩ (y 1) := by
    blk_ext [index4 t]
  rw [e]
  by_cases h1 : t.val % 9 ≤ 7
  · rw [if_pos h1] at hi
    refine (outs_latent m c hn hn' t h1 y).trans (res_latent m c (bat t) ⟨t.val % 9 * 256 + (y 0).val, by omega⟩ _ ?_ (y 1)).symm
    show win0_4.index t 0 * 256 + (y 0).val = 2048 * (t.val / 9) + (t.val % 9 * 256 + (y 0).val)
    omega
  · rw [if_neg h1] at hi
    refine (outs_context m c hn' t (by omega) y).trans (res_context m c (bat t) (y 0) _ ?_ (y 1)).symm
    show win0_4.index t 0 * 256 + (y 0).val = 16384 + (256 * (t.val / 9) + (y 0).val)
    omega

end Cert.Diff

end
-- ==== Proof.RefValue.lean ====
module

public import proofs.«01_k».proof.Proof.Gen.ReferenceIdeal.Read
public import proofs.«01_k».proof.Proof.Pieces
public import Idealize.ShloMosaic.Lib.Pipeline.ValueKit

@[expose] public section

set_option maxRecDepth 16384

noncomputable section

namespace Cert.Diff

open Idealize.ShloMosaic Idealize.ShloMosaic.TcCoe Cert.ReferenceIdeal Cert.ReferenceIdeal.Gen Cert.ReferenceIdeal.Read

variable (x0 : Vec Ideal S8x2048x1536 .bf16) (x1 : Vec Ideal S8x256x1536 .bf16)
  (x2 x3 x4 x5 : Vec Ideal S64 .f32) (x6 : Vec Ideal S128 .f32)

/-- The scores of the latents' queries. -/
theorem ref_score (b : Fin 8) (h : Fin 4) (s : Fin 2) (r : Fin 2048) (j : Fin 2304) :
    val_main_v26 (F := Ideal) x0 x1 (ix5 b h s r j)
      = score (fun d : Fin 64 => x0 (ix3 b r ⟨h.val * 128 + s.val * 64 + d.val, by omega⟩))
          (fun j (d : Fin 64) => cat (fun r k => x0 (ix3 b r k)) (fun r k => x1 (ix3 b r k)) j ⟨512 + (h.val * 128 + s.val * 64 + d.val), by omega⟩) j := by
  pointwise [val_main_v26, val_main_v25, val_main_v24, val_main_v12, val_main_v9, val_main_v8, val_main_v22, val_main_v13, val_main_v10,
    val_main_v20, val_main_v17, val_main_v15, val_main_cst_2]
  rfl

/-- The scores of the context's queries. -/
theorem ref_scoreC (b : Fin 8) (h : Fin 4) (s : Fin 2) (r : Fin 256) (j : Fin 256) :
    val_main_v49 (F := Ideal) x1 (ix5 b h s r j)
      = score (fun d : Fin 64 => x1 (ix3 b r ⟨h.val * 128 + s.val * 64 + d.val, by omega⟩))
          (fun j (d : Fin 64) => x1 (ix3 b j ⟨512 + (h.val * 128 + s.val * 64 + d.val), by omega⟩)) j := by
  pointwise [val_main_v49, val_main_v48, val_main_v47, val_main_v19, val_main_v16, val_main_v15, val_main_v20, val_main_v17, val_main_cst_6]
  rfl

theorem ref_lam : val_main_v7 (F := Ideal) x2 x3 x4 x5 (Shape.Idx.first h_S_) = lamOf (fun i => x2 (ix1 i)) (fun i => x3 (ix1 i)) (fun i => x4 (ix1 i)) (fun i => x5 (ix1 i)) := by
  pointwise [val_main_v7, val_main_v6, val_main_v5, val_main_v4, val_main_v3, val_main_v2, val_main_v1, val_main_v0, val_main_cst, val_main_cst_0, val_main_cst_1]
  rfl

/-- The largest of a row of 2304 scores, the fold over its keys. -/
theorem ref_max (b : Fin 8) (h : Fin 4) (s : Fin 2) (r : Fin 2048) :
    val_main_v29 (F := Ideal) x0 x1 (ix4 b h s r) = rowMax (fun j => val_main_v26 (F := Ideal) x0 x1 (ix5 b h s r j)) := by
  rw [val_main_v29_apply]
  unfold val_main_v27
  generalize val_main_v26 (F := Ideal) x0 x1 = S
  rw [val_main_v28_apply, val_main_cst_4_apply]
  change max (Ideal.ofBits FTy.f32 0xFF800000#32) (Host.reduce (max : EReal → EReal → EReal) S _ _ _ _) = _
  rw [Host.reduce_eq_fold_single _ _ _ reducesTo_S8x4x2x2048x2304_S8x4x2x2048_d4 (by decide), ninf_eq_bot, max_eq_right bot_le]
  unfold rowMax
  refine Finset.fold_congr fun k _ => ?_
  exact congrArg S (funext fun a => Fin.ext (by match a with | ⟨0, _⟩ => rfl | ⟨1, _⟩ => rfl | ⟨2, _⟩ => rfl | ⟨3, _⟩ => rfl | ⟨4, _⟩ => rfl))

theorem ref_maxC (b : Fin 8) (h : Fin 4) (s : Fin 2) (r : Fin 256) :
    val_main_v52 (F := Ideal) x1 (ix4 b h s r) = rowMax (fun j => val_main_v49 (F := Ideal) x1 (ix5 b h s r j)) := by
  rw [val_main_v52_apply]
  unfold val_main_v50
  generalize val_main_v49 (F := Ideal) x1 = S
  rw [val_main_v51_apply, val_main_cst_8_apply]
  change max (Ideal.ofBits FTy.f32 0xFF800000#32) (Host.reduce (max : EReal → EReal → EReal) S _ _ _ _) = _
  rw [Host.reduce_eq_fold_single _ _ _ reducesTo_S8x4x2x256x256_S8x4x2x256_d4 (by decide), ninf_eq_bot, max_eq_right bot_le]
  unfold rowMax
  refine Finset.fold_congr fun k _ => ?_
  exact congrArg S (funext fun a => Fin.ext (by match a with | ⟨0, _⟩ => rfl | ⟨1, _⟩ => rfl | ⟨2, _⟩ => rfl | ⟨3, _⟩ => rfl | ⟨4, _⟩ => rfl))

/-- A softmax of the latents' queries, in its scores. -/
theorem ref_prob (b : Fin 8) (h : Fin 4) (s : Fin 2) (r : Fin 2048) (j : Fin 2304) :
    val_main_v37 (F := Ideal) x0 x1 (ix5 b h s r j) = prob (fun j => val_main_v26 (F := Ideal) x0 x1 (ix5 b h s r j)) j := by
  unfold prob rowSum
  rw [← ref_max]
  generalize hS : val_main_v26 (F := Ideal) x0 x1 = S
  pointwise [val_main_v37, val_main_v36, val_main_v35, val_main_v34, val_main_v33, val_main_v32, val_main_v31, val_main_v30, val_main_cst_5, hS]

theorem ref_probC (b : Fin 8) (h : Fin 4) (s : Fin 2) (r : Fin 256) (j : Fin 256) :
    val_main_v60 (F := Ideal) x1 (ix5 b h s r j) = prob (fun j => val_main_v49 (F := Ideal) x1 (ix5 b h s r j)) j := by
  unfold prob rowSum
  rw [← ref_maxC]
  generalize hS : val_main_v49 (F := Ideal) x1 = S
  pointwise [val_main_v60, val_main_v59, val_main_v58, val_main_v57, val_main_v56, val_main_v55, val_main_v54, val_main_v53, val_main_cst_9, hS]

/-- The values of all tokens, as a head sees them. -/
theorem ref_val (b : Fin 8) (j : Fin 2304) (h : Fin 4) (e : Fin 128) :
    val_main_v23 (F := Ideal) x0 x1 (ix4 b j h e)
      = cat (fun r k => x0 (ix3 b r k)) (fun r k => x1 (ix3 b r k)) j ⟨1024 + (h.val * 128 + e.val), by omega⟩ := by
  pointwise [val_main_v23, val_main_v14, val_main_v11, val_main_v8, val_main_v21, val_main_v18, val_main_v15]
  rfl

theorem ref_valC (b : Fin 8) (j : Fin 256) (h : Fin 4) (e : Fin 128) :
    val_main_v21 (F := Ideal) x1 (ix4 b j h e) = x1 (ix3 b j ⟨1024 + (h.val * 128 + e.val), by omega⟩) := by
  pointwise [val_main_v21, val_main_v18, val_main_v15]

theorem ref_part39 (b : Fin 8) (h : Fin 4) (r : Fin 2048) (j : Fin 2304) :
    val_main_v39 (F := Ideal) x0 x1 (ix4 b h r j) = val_main_v37 (F := Ideal) x0 x1 (ix5 b h 0 r j) := by
  rw [val_main_v39_apply, val_main_v38_apply]
  refine congrArg _ (funext fun a => Fin.ext ?_)
  match a with
  | ⟨0, _⟩ => show (((b.val * 4 + h.val) * 2048 + r.val) * 2304 + j.val) / 18874368 = b.val; omega
  | ⟨1, _⟩ => show (((b.val * 4 + h.val) * 2048 + r.val) * 2304 + j.val) / 4718592 % 4 = h.val; omega
  | ⟨2, _⟩ => rfl
  | ⟨3, _⟩ => show (((b.val * 4 + h.val) * 2048 + r.val) * 2304 + j.val) / 2304 % 2048 = r.val; omega
  | ⟨4, _⟩ => show (((b.val * 4 + h.val) * 2048 + r.val) * 2304 + j.val) % 2304 = j.val; omega

theorem ref_part41 (b : Fin 8) (h : Fin 4) (r : Fin 2048) (j : Fin 2304) :
    val_main_v41 (F := Ideal) x0 x1 (ix4 b h r j) = val_main_v37 (F := Ideal) x0 x1 (ix5 b h 1 r j) := by
  rw [val_main_v41_apply, val_main_v40_apply]
  refine congrArg _ (funext fun a => Fin.ext ?_)
  match a with
  | ⟨0, _⟩ => show (((b.val * 4 + h.val) * 2048 + r.val) * 2304 + j.val) / 18874368 = b.val; omega
  | ⟨1, _⟩ => show (((b.val * 4 + h.val) * 2048 + r.val) * 2304 + j.val) / 4718592 % 4 = h.val; omega
  | ⟨2, _⟩ => rfl
  | ⟨3, _⟩ => show (((b.val * 4 + h.val) * 2048 + r.val) * 2304 + j.val) / 2304 % 2048 = r.val; omega
  | ⟨4, _⟩ => show (((b.val * 4 + h.val) * 2048 + r.val) * 2304 + j.val) % 2304 = j.val; omega

theorem ref_part62 (b : Fin 8) (h : Fin 4) (r : Fin 256) (j : Fin 256) :
    val_main_v62 (F := Ideal) x1 (ix4 b h r j) = val_main_v60 (F := Ideal) x1 (ix5 b h 0 r j) := by
  rw [val_main_v62_apply, val_main_v61_apply]
  refine congrArg _ (funext fun a => Fin.ext ?_)
  match a with
  | ⟨0, _⟩ => show (((b.val * 4 + h.val) * 256 + r.val) * 256 + j.val) / 262144 = b.val; omega
  | ⟨1, _⟩ => show (((b.val * 4 + h.val) * 256 + r.val) * 256 + j.val) / 65536 % 4 = h.val; omega
  | ⟨2, _⟩ => rfl
  | ⟨3, _⟩ => show (((b.val * 4 + h.val) * 256 + r.val) * 256 + j.val) / 256 % 256 = r.val; omega
  | ⟨4, _⟩ => show (((b.val * 4 + h.val) * 256 + r.val) * 256 + j.val) % 256 = j.val; omega

theorem ref_part64 (b : Fin 8) (h : Fin 4) (r : Fin 256) (j : Fin 256) :
    val_main_v64 (F := Ideal) x1 (ix4 b h r j) = val_main_v60 (F := Ideal) x1 (ix5 b h 1 r j) := by
  rw [val_main_v64_apply, val_main_v63_apply]
  refine congrArg _ (funext fun a => Fin.ext ?_)
  match a with
  | ⟨0, _⟩ => show (((b.val * 4 + h.val) * 256 + r.val) * 256 + j.val) / 262144 = b.val; omega
  | ⟨1, _⟩ => show (((b.val * 4 + h.val) * 256 + r.val) * 256 + j.val) / 65536 % 4 = h.val; omega
  | ⟨2, _⟩ => rfl
  | ⟨3, _⟩ => show (((b.val * 4 + h.val) * 256 + r.val) * 256 + j.val) / 256 % 256 = r.val; omega
  | ⟨4, _⟩ => show (((b.val * 4 + h.val) * 256 + r.val) * 256 + j.val) % 256 = j.val; omega

/-- The two softmaxes' difference against the values. -/
theorem ref_mix (b : Fin 8) (r : Fin 2048) (h : Fin 4) (e : Fin 128) :
    val_main_v46 (F := Ideal) x0 x1 x2 x3 x4 x5 (ix4 b r h e)
      = mix (fun j => val_main_v37 (F := Ideal) x0 x1 (ix5 b h 0 r j)) (fun j => val_main_v37 (F := Ideal) x0 x1 (ix5 b h 1 r j))
          (val_main_v7 (F := Ideal) x2 x3 x4 x5 (Shape.Idx.first h_S_)) (fun j e => val_main_v23 (F := Ideal) x0 x1 (ix4 b j h e)) e := by
  rw [val_main_v46_apply, val_main_v45_apply]
  refine Finset.sum_congr rfl fun j _ => ?_
  rw [show lidx_main_v45 (idx_main_v46 (ix4 b r h e)) j = ix4 b j h e from funext fun a => Fin.ext (by match a with | ⟨0, _⟩ => rfl | ⟨1, _⟩ => rfl | ⟨2, _⟩ => rfl | ⟨3, _⟩ => rfl),
    show ridx_main_v45 (idx_main_v46 (ix4 b r h e)) j = ix4 b h r j from funext fun a => Fin.ext (by match a with | ⟨0, _⟩ => rfl | ⟨1, _⟩ => rfl | ⟨2, _⟩ => rfl | ⟨3, _⟩ => rfl),
    val_main_v44_apply, val_main_v43_apply, val_main_v42_apply, ref_part39, ref_part41,
    show idx_main_v42 (ix4 b h r j) = Shape.Idx.first h_S_ from funext fun a => a.elim0]
  exact mul_comm _ _

theorem ref_mixC (b : Fin 8) (r : Fin 256) (h : Fin 4) (e : Fin 128) :
    val_main_v69 (F := Ideal) x1 x2 x3 x4 x5 (ix4 b r h e)
      = mix (fun j => val_main_v60 (F := Ideal) x1 (ix5 b h 0 r j)) (fun j => val_main_v60 (F := Ideal) x1 (ix5 b h 1 r j))
          (val_main_v7 (F := Ideal) x2 x3 x4 x5 (Shape.Idx.first h_S_)) (fun j e => val_main_v21 (F := Ideal) x1 (ix4 b j h e)) e := by
  rw [val_main_v69_apply, val_main_v68_apply]
  refine Finset.sum_congr rfl fun j _ => ?_
  rw [show lidx_main_v68 (idx_main_v69 (ix4 b r h e)) j = ix4 b j h e from funext fun a => Fin.ext (by match a with | ⟨0, _⟩ => rfl | ⟨1, _⟩ => rfl | ⟨2, _⟩ => rfl | ⟨3, _⟩ => rfl),
    show ridx_main_v68 (idx_main_v69 (ix4 b r h e)) j = ix4 b h r j from funext fun a => Fin.ext (by match a with | ⟨0, _⟩ => rfl | ⟨1, _⟩ => rfl | ⟨2, _⟩ => rfl | ⟨3, _⟩ => rfl),
    val_main_v67_apply, val_main_v66_apply, val_main_v65_apply, ref_part62, ref_part64,
    show idx_main_v65 (ix4 b h r j) = Shape.Idx.first h_S_ from funext fun a => a.elim0]
  exact mul_comm _ _

/-- The normalisation of a head's row. -/
theorem ref_normed (b : Fin 8) (r : Fin 2048) (h : Fin 4) (e : Fin 128) :
    val_main_v84 (F := Ideal) x0 x1 x2 x3 x4 x5 x6 (ix4 b r h e)
      = normed (fun e => val_main_v46 (F := Ideal) x0 x1 x2 x3 x4 x5 (ix4 b r h e)) (fun e => x6 (ix1 e)) e := by
  unfold normed
  generalize hM : val_main_v46 (F := Ideal) x0 x1 x2 x3 x4 x5 = M
  pointwise [val_main_v84, val_main_v83, val_main_v82, val_main_v81, val_main_v80, val_main_v79, val_main_v78, val_main_v77, val_main_v76, val_main_v75, val_main_v74, val_main_v73, val_main_v72, val_main_v71, val_main_v70, val_main_cst_10, val_main_cst_11, val_main_cst_12, val_main_cst_13, hM]

theorem ref_normedC (b : Fin 8) (r : Fin 256) (h : Fin 4) (e : Fin 128) :
    val_main_v100 (F := Ideal) x1 x2 x3 x4 x5 x6 (ix4 b r h e)
      = normed (fun e => val_main_v69 (F := Ideal) x1 x2 x3 x4 x5 (ix4 b r h e)) (fun e => x6 (ix1 e)) e := by
  unfold normed
  generalize hM : val_main_v69 (F := Ideal) x1 x2 x3 x4 x5 = M
  pointwise [val_main_v100, val_main_v99, val_main_v98, val_main_v97, val_main_v96, val_main_v95, val_main_v94, val_main_v93, val_main_v92, val_main_v91, val_main_v90, val_main_v89, val_main_v88, val_main_v87, val_main_v86, val_main_cst_14, val_main_cst_15, val_main_cst_16, val_main_cst_17, hM]

end Cert.Diff

end
-- ==== Proof.RefAt.lean ====
module

public import proofs.«01_k».proof.Proof.RefValue

/-! The reference's result at a row and a column, as a head's row over the token's columns. -/

@[expose] public section

set_option maxRecDepth 16384

noncomputable section

namespace Cert.Diff

open Idealize.ShloMosaic Idealize.ShloMosaic.TcCoe Cert.ReferenceIdeal Cert.ReferenceIdeal.Gen Cert.ReferenceIdeal.Read

variable (x0 : Vec Ideal S8x2048x1536 .bf16) (x1 : Vec Ideal S8x256x1536 .bf16)
  (x2 x3 x4 x5 : Vec Ideal S64 .f32) (x6 : Vec Ideal S128 .f32)

/-- A latent's row of one head. -/
theorem ref_head (b : Fin 8) (r : Fin 2048) (h : Fin 4) (e : Fin 128) (k : Fin 512) (hk : k.val = h.val * 128 + e.val) :
    val_main_v84 (F := Ideal) x0 x1 x2 x3 x4 x5 x6 (ix4 b r h e)
      = headAt (lamOf (fun i => x2 (ix1 i)) (fun i => x3 (ix1 i)) (fun i => x4 (ix1 i)) (fun i => x5 (ix1 i)))
          (fun k => x0 (ix3 b r k)) (cat (fun r k => x0 (ix3 b r k)) (fun r k => x1 (ix3 b r k))) (fun e => x6 (ix1 e)) k := by
  have h1 : k.val / 128 * 128 = h.val * 128 := by omega
  have h2 : (⟨k.val % 128, by omega⟩ : Fin 128) = e := Fin.ext (by show k.val % 128 = e.val; omega)
  simp only [ref_normed, ref_mix, ref_prob, ref_score, ref_lam, ref_val, headAt, headRow, h1, h2, Fin.val_zero, Fin.val_one,
    Nat.zero_mul, Nat.one_mul, Nat.add_zero, Nat.add_assoc]

/-- A context token's row of one head. -/
theorem ref_headC (b : Fin 8) (r : Fin 256) (h : Fin 4) (e : Fin 128) (k : Fin 512) (hk : k.val = h.val * 128 + e.val) :
    val_main_v100 (F := Ideal) x1 x2 x3 x4 x5 x6 (ix4 b r h e)
      = headAt (lamOf (fun i => x2 (ix1 i)) (fun i => x3 (ix1 i)) (fun i => x4 (ix1 i)) (fun i => x5 (ix1 i)))
          (fun k => x1 (ix3 b r k)) (fun r k => x1 (ix3 b r k)) (fun e => x6 (ix1 e)) k := by
  have h1 : k.val / 128 * 128 = h.val * 128 := by omega
  have h2 : (⟨k.val % 128, by omega⟩ : Fin 128) = e := Fin.ext (by show k.val % 128 = e.val; omega)
  simp only [ref_normedC, ref_mixC, ref_probC, ref_scoreC, ref_lam, ref_valC, headAt, headRow, h1, h2, Fin.val_zero, Fin.val_one,
    Nat.zero_mul, Nat.one_mul, Nat.add_zero, Nat.add_assoc]

theorem ref_cat (R : Fin 18432) (k : Fin 512) :
    val_main_v105 (F := Ideal) x0 x1 x2 x3 x4 x5 x6 (ix2 R k)
      = if hR : R.val < 16384 then val_main_v102 (F := Ideal) x0 x1 x2 x3 x4 x5 x6 (ix2 ⟨R.val, hR⟩ k)
        else val_main_v103 (F := Ideal) x1 x2 x3 x4 x5 x6 (ix2 ⟨R.val - 16384, by omega⟩ k) := by
  generalize hA : val_main_v102 (F := Ideal) x0 x1 x2 x3 x4 x5 x6 = A
  generalize hB : val_main_v103 (F := Ideal) x1 x2 x3 x4 x5 x6 = B
  pointwise [val_main_v105, val_main_v104, hA, hB]

theorem ref_flat (b : Fin 8) (r : Fin 2048) (R : Fin 16384) (k : Fin 512) (hR : R.val = 2048 * b.val + r.val) :
    val_main_v102 (F := Ideal) x0 x1 x2 x3 x4 x5 x6 (ix2 R k)
      = val_main_v84 (F := Ideal) x0 x1 x2 x3 x4 x5 x6 (ix4 b r ⟨k.val / 128, by omega⟩ ⟨k.val % 128, by omega⟩) := by
  rw [val_main_v102_apply, val_main_v85_apply]
  have e : idx_main_v102 (ix2 R k) = ix3 b r k := funext fun a => Fin.ext (by
    match a with
    | ⟨0, _⟩ => show (R.val * 512 + k.val) / 1048576 = b.val; omega
    | ⟨1, _⟩ => show (R.val * 512 + k.val) / 512 % 2048 = r.val; omega
    | ⟨2, _⟩ => show (R.val * 512 + k.val) % 512 = k.val; omega)
  rw [e]
  refine congrArg _ (funext fun a => Fin.ext ?_)
  match a with
  | ⟨0, _⟩ => show ((b.val * 2048 + r.val) * 512 + k.val) / 1048576 = b.val; omega
  | ⟨1, _⟩ => show ((b.val * 2048 + r.val) * 512 + k.val) / 512 % 2048 = r.val; omega
  | ⟨2, _⟩ => show ((b.val * 2048 + r.val) * 512 + k.val) / 128 % 4 = k.val / 128; omega
  | ⟨3, _⟩ => show ((b.val * 2048 + r.val) * 512 + k.val) % 128 = k.val % 128; omega

theorem ref_flatC (b : Fin 8) (r : Fin 256) (R : Fin 2048) (k : Fin 512) (hR : R.val = 256 * b.val + r.val) :
    val_main_v103 (F := Ideal) x1 x2 x3 x4 x5 x6 (ix2 R k)
      = val_main_v100 (F := Ideal) x1 x2 x3 x4 x5 x6 (ix4 b r ⟨k.val / 128, by omega⟩ ⟨k.val % 128, by omega⟩) := by
  rw [val_main_v103_apply, val_main_v101_apply]
  have e : idx_main_v103 (ix2 R k) = ix3 b r k := funext fun a => Fin.ext (by
    match a with
    | ⟨0, _⟩ => show (R.val * 512 + k.val) / 131072 = b.val; omega
    | ⟨1, _⟩ => show (R.val * 512 + k.val) / 512 % 256 = r.val; omega
    | ⟨2, _⟩ => show (R.val * 512 + k.val) % 512 = k.val; omega)
  rw [e]
  refine congrArg _ (funext fun a => Fin.ext ?_)
  match a with
  | ⟨0, _⟩ => show ((b.val * 256 + r.val) * 512 + k.val) / 131072 = b.val; omega
  | ⟨1, _⟩ => show ((b.val * 256 + r.val) * 512 + k.val) / 512 % 256 = r.val; omega
  | ⟨2, _⟩ => show ((b.val * 256 + r.val) * 512 + k.val) / 128 % 4 = k.val / 128; omega
  | ⟨3, _⟩ => show ((b.val * 256 + r.val) * 512 + k.val) % 128 = k.val % 128; omega

/-- The reference's result at a latent's row. -/
theorem ref_latent (b : Fin 8) (r : Fin 2048) (R : Fin 18432) (hR : R.val = 2048 * b.val + r.val) (k : Fin 512) :
    val_main_v105 (F := Ideal) x0 x1 x2 x3 x4 x5 x6 (ix2 R k)
      = headAt (lamOf (fun i => x2 (ix1 i)) (fun i => x3 (ix1 i)) (fun i => x4 (ix1 i)) (fun i => x5 (ix1 i)))
          (fun k => x0 (ix3 b r k)) (cat (fun r k => x0 (ix3 b r k)) (fun r k => x1 (ix3 b r k))) (fun e => x6 (ix1 e)) k := by
  rw [ref_cat, dif_pos (by omega), ref_flat _ _ _ _ _ _ _ b r _ k hR,
    ref_head _ _ _ _ _ _ _ b r _ _ k (by show k.val = k.val / 128 * 128 + k.val % 128; omega)]

/-- The reference's result at a context token's row. -/
theorem ref_context (b : Fin 8) (r : Fin 256) (R : Fin 18432) (hR : R.val = 16384 + (256 * b.val + r.val)) (k : Fin 512) :
    val_main_v105 (F := Ideal) x0 x1 x2 x3 x4 x5 x6 (ix2 R k)
      = headAt (lamOf (fun i => x2 (ix1 i)) (fun i => x3 (ix1 i)) (fun i => x4 (ix1 i)) (fun i => x5 (ix1 i)))
          (fun k => x1 (ix3 b r k)) (fun r k => x1 (ix3 b r k)) (fun e => x6 (ix1 e)) k := by
  rw [ref_cat, dif_neg (by omega), ref_flatC _ _ _ _ _ _ b r _ k (by show R.val - 16384 = _; omega),
    ref_headC _ _ _ _ _ _ b r _ _ k (by show k.val = k.val / 128 * 128 + k.val % 128; omega)]

end Cert.Diff

end
-- ==== Proof.Equal.lean ====
module

public import proofs.«01_k».proof.Defs
public import proofs.«01_k».proof.Proof.Pre
public import proofs.«01_k».proof.Proof.Final
public import proofs.«01_k».proof.Proof.RefAt
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim

/-! The kernel and the reference end with the same array. -/

@[expose] public section

set_option maxRecDepth 16384

noncomputable section

namespace Cert.Diff

open Idealize.ShloMosaic Idealize.ShloMosaic.TcCoe Idealize.SL.Sem

/-- The reference's result, from arguments equal to the kernel's, is the kernel's. -/
theorem ref_eq (m : (ℓ : Loc Cert.KernelIdeal.nD Cert.KernelIdeal.τ Cert.KernelIdeal.sig) → Buf (Elt Ideal) ℓ) (c : Dev Cert.KernelIdeal.nD) :
    Cert.ReferenceIdeal.Read.val_main_v105 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = res m c := by
  funext i
  obtain ⟨R, k, rfl⟩ : ∃ (R : Fin 18432) (k : Fin 512), i = ix2 R k := ⟨i 0, i 1, eq_ix2 i⟩
  by_cases hR : R.val < 16384
  · exact (ref_latent _ _ _ _ _ _ _ ⟨R.val / 2048, by omega⟩ ⟨R.val % 2048, by omega⟩ R (by show R.val = 2048 * (R.val / 2048) + R.val % 2048; omega) k).trans
      (res_latent m c ⟨R.val / 2048, by omega⟩ ⟨R.val % 2048, by omega⟩ R (by show R.val = 2048 * (R.val / 2048) + R.val % 2048; omega) k).symm
  · exact (ref_context _ _ _ _ _ _ _ ⟨(R.val - 16384) / 256, by omega⟩ ⟨(R.val - 16384) % 256, by omega⟩ R
        (by show R.val = 16384 + (256 * ((R.val - 16384) / 256) + (R.val - 16384) % 256); omega) k).trans
      (res_context m c ⟨(R.val - 16384) / 256, by omega⟩ ⟨(R.val - 16384) % 256, by omega⟩ R
        (by show R.val = 16384 + (256 * ((R.val - 16384) / 256) + (R.val - 16384) % 256); omega) k).symm

/-- The reference runs, keeps its arguments, and has no counter that could be left standing. -/
theorem ref_frame : Cert.quiescent_ReferenceIdeal := fun m ρ _ =>
  (θ_run _ _ _).mono (fun r h => ⟨fun c => (h c).2, sem_eq_zero_of_no_sems (by decide) r.2⟩) (Cert.ReferenceIdeal.Value.run m ρ)

theorem algebraic : Cert.algebraic_KernelIdeal_ReferenceIdeal_pre_finite_scores := by
  intro m g m' g' hpre hargs
  refine ⟨fun c => res m c, ?_, ?_⟩
  · refine (θ_run _ _ _).mono (fun r h c => ?_) (Cert.KernelIdeal.Value.run_blocks m g)
    have hp := pre_isNum _ _ _ _ _ _ _ (hpre c)
    exact ⟨(h c).1.trans (final_eq m c hp.1 hp.2), (h c).2⟩
  · refine (θ_run _ _ _).mono (fun r h c => ?_) (Cert.ReferenceIdeal.Value.run m' g')
    refine ⟨(h c).1.trans ?_, (h c).2⟩
    obtain ⟨h0, h1, h2, h3, h4, h5, h6⟩ := hargs c
    rw [Cert.ReferenceIdeal.Read.val_main_v105_eq, h0, h1, h2, h3, h4, h5, h6]
    exact ref_eq m c

end Cert.Diff

end
-- ==== Proof.Gates.lean ====
module

public import proofs.«01_k».proof.Proof.Gen.Kernel2Ideal.Value
public import Idealize.ShloMosaic.Lib.Pipeline.ValueKit
public import Idealize.ShloMosaic.Lib.StableHlo.RunRead

/-! The gates: what the kernel's result is, as one function of its arguments. -/

@[expose] public section

set_option maxRecDepth 16384

noncomputable section

namespace Cert.Gates

open Idealize.ShloMosaic Idealize.ShloMosaic.TcCoe Cert.Kernel2Ideal Cert.Kernel2Ideal.Gen Idealize.ShloMosaic.Tactic

variable (m : (ℓ : Loc nD τ sig) → Buf (Elt Ideal) ℓ) (c : Dev nD)

/-- One block: the logistic function of a sum over the model's width and a bias. -/
theorem pay_apply (A : Vec Ideal S1024x1024 .bf16) (W : Vec Ideal S1024x512 .bf16) (B : Vec Ideal S1x512 .f32) (r : Fin 1024) (k : Fin 512) :
    k0_pay1 A W B (ix2 r k) = Ideal.logistic ((∑ j : Fin 1024, (A (ix2 r j) * W (ix2 j k) : EReal)) + B (ix2 0 k)) := by
  pointwise [k0_pay1]

theorem V_w {F : FTy → Type} [FloatOps F] (m : (ℓ : Loc nD τ sig) → Buf (Elt F) ℓ) :
    V m c main_v2 = truncf .bf16 (shapeCast S1024x4096 (transpose S1024x4x1024 [1, 0, 2] (m ((c : Thread nD τ).loc main_arg1))
      transposes_S4x1024x1024_S1024x4x1024_1_0_2) shapeCasts_S1024x4x1024_S1024x4096) bitsLt_bf16_f32 := by
  entry_read
  rfl

theorem V_b {F : FTy → Type} [FloatOps F] (m : (ℓ : Loc nD τ sig) → Buf (Elt F) ℓ) :
    V m c main_v3 = shapeCast S1x4096 (m ((c : Thread nD τ).loc main_arg2)) shapeCasts_S4x1024_S1x4096 := by
  entry_read
  rfl

/-- The four branches' weights side by side, at a column. -/
theorem w_at (A : Vec Ideal S4x1024x1024 .f32) (j : Fin 1024) (q : Fin 4096) :
    ((truncf .bf16 (shapeCast S1024x4096 (transpose S1024x4x1024 [1, 0, 2] A
      transposes_S4x1024x1024_S1024x4x1024_1_0_2) shapeCasts_S1024x4x1024_S1024x4096) bitsLt_bf16_f32 : FVec Ideal S1024x4096 .bf16) (ix2 j q) : EReal)
      = A (ix3 ⟨q.val / 1024, by omega⟩ j ⟨q.val % 1024, by omega⟩) := by
  refine (shapeCast_apply (transpose S1024x4x1024 [1, 0, 2] A transposes_S4x1024x1024_S1024x4x1024_1_0_2)
    shapeCasts_S1024x4x1024_S1024x4096 (ix2 j q) (ix3 j ⟨q.val / 1024, by omega⟩ ⟨q.val % 1024, by omega⟩) ?_).trans ?_
  · rewrite [Shape.rowMajor_val_three, Shape.rowMajor_val_two]
    show (j.val * 4 + q.val / 1024) * 1024 + q.val % 1024 = j.val * 4096 + q.val
    omega
  · pointwise

/-- The four branches' biases side by side, at a column. -/
theorem b_at (A : Vec Ideal S4x1024 .f32) (q : Fin 4096) :
    shapeCast S1x4096 A shapeCasts_S4x1024_S1x4096 (ix2 0 q) = A (ix2 ⟨q.val / 1024, by omega⟩ ⟨q.val % 1024, by omega⟩) := by
  refine shapeCast_apply A shapeCasts_S4x1024_S1x4096 (ix2 0 q) (ix2 ⟨q.val / 1024, by omega⟩ ⟨q.val % 1024, by omega⟩) ?_
  rewrite [Shape.rowMajor_val_two, Shape.rowMajor_val_two]
  show q.val / 1024 * 1024 + q.val % 1024 = 0 * 4096 + q.val
  omega

/-- A token's channel. -/
def tokM (R : Fin 18432) (j : Fin 1024) : EReal := m ((c : Thread nD τ).loc main_arg0) (ix2 R j)

/-- A weight of branch `n`. -/
def wM (n : Fin 4) (j k : Fin 1024) : EReal := m ((c : Thread nD τ).loc main_arg1) (ix3 n j k)

/-- A bias of branch `n`. -/
def bM (n : Fin 4) (k : Fin 1024) : EReal := m ((c : Thread nD τ).loc main_arg2) (ix2 n k)

/-- The gate of branch `n` at a token and a channel. -/
def gateAt (R : Fin 18432) (n : Fin 4) (k : Fin 1024) : EReal :=
  Ideal.logistic ((∑ j : Fin 1024, tokM m c R j * wM m c n j k) + bM m c n k)

/-- The gates of the four branches side by side. -/
def res (i : S18432x4096.Idx) : EReal :=
  gateAt m c (i 0) ⟨(i 1).val / 1024, by have : (i 1).val < 4096 := (i 1).isLt; omega⟩ ⟨(i 1).val % 1024, by omega⟩

theorem index0 : ∀ t : Fin cfg0.N, win0_0.index t 0 = t.val / 8 ∧ win0_0.index t 1 = 0 :=
  (by decide +kernel : ∀ t : Fin grid0.N, win0_0.index t 0 = t.val / 8 ∧ win0_0.index t 1 = 0)
theorem index1 : ∀ t : Fin cfg0.N, win0_1.index t 0 = 0 ∧ win0_1.index t 1 = t.val % 8 :=
  (by decide +kernel : ∀ t : Fin grid0.N, win0_1.index t 0 = 0 ∧ win0_1.index t 1 = t.val % 8)
theorem index2 : ∀ t : Fin cfg0.N, win0_2.index t 0 = 0 ∧ win0_2.index t 1 = t.val % 8 :=
  (by decide +kernel : ∀ t : Fin grid0.N, win0_2.index t 0 = 0 ∧ win0_2.index t 1 = t.val % 8)
theorem index3 : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

theorem tok (t : Fin cfg0.N) (r j : Fin 1024) :
    iblk m c 0 t (ix2 r j) = tokM m c ⟨t.val / 8 * 1024 + r.val, by have : t.val < 144 := t.isLt; omega⟩ j := by
  have ht : t.val < 144 := t.isLt
  have e : (win0_0.blk t).view.emb (ix2 r j) = ix2 ⟨t.val / 8 * 1024 + r.val, by omega⟩ j := by
    blk_ext [index0 t]
  unfold iblk
  rw [V_main_arg0]
  blk_simp [e]
  rfl

theorem wt (t : Fin cfg0.N) (j : Fin 1024) (k : Fin 512) :
    iblk m c 1 t (ix2 j k) = wM m c ⟨(t.val % 8 * 512 + k.val) / 1024, by omega⟩ j ⟨(t.val % 8 * 512 + k.val) % 1024, by omega⟩ := by
  have e : (win0_1.blk t).view.emb (ix2 j k) = ix2 j ⟨t.val % 8 * 512 + k.val, by omega⟩ := by
    blk_ext [index1 t]
  unfold iblk
  rw [V_w]
  blk_simp [e]
  exact w_at _ j _

theorem bias (t : Fin cfg0.N) (k : Fin 512) :
    iblk m c 2 t (ix2 0 k) = bM m c ⟨(t.val % 8 * 512 + k.val) / 1024, by omega⟩ ⟨(t.val % 8 * 512 + k.val) % 1024, by omega⟩ := by
  have e : (win0_2.blk t).view.emb (ix2 0 k) = ix2 0 ⟨t.val % 8 * 512 + k.val, by omega⟩ := by
    blk_ext [index2 t]
  unfold iblk
  rw [V_b]
  blk_simp [e]
  exact b_at _ _

theorem final_eq : (dats m 0 c).arrAt 3 cfg0.N = res m c := by
  refine (dats m 0 c).arrAt_eq_of_covers 3 _ (by decide +kernel) fun t hf y => ?_
  blk_simp
  rw [after0_3]
  have ht : t.val < 144 := t.isLt
  have hy : (y 0).val < 1024 := (y 0).isLt
  have hz : (y 1).val < 512 := (y 1).isLt
  have e : (win0_3.blk t).view.emb y = ix2 ⟨t.val / 8 * 1024 + (y 0).val, by omega⟩ ⟨t.val % 8 * 512 + (y 1).val, by omega⟩ := by
    blk_ext [index3 t]
  rw [e]
  frame_out
  obtain ⟨r, k, rfl⟩ : ∃ (r : Fin 1024) (k : Fin 512), y = ix2 r k := ⟨y 0, y 1, eq_ix2 y⟩
  refine (pay_apply _ _ _ r k).trans (congrArg Ideal.logistic (congrArg₂ (fun a b : EReal => a + b) (Finset.sum_congr rfl fun j _ => ?_) ?_))
  · pointwise
    rw [tok, wt]
  · pointwise
    rw [bias]

end Cert.Gates

end
-- ==== Proof.GatesEqual.lean ====
module

public import proofs.«01_k».proof.Defs
public import proofs.«01_k».proof.Proof.Gates
public import proofs.«01_k».proof.Proof.Gen.Reference2Ideal.Run
public import proofs.«01_k».proof.Proof.Gen.Reference2Ideal.Read
public import Idealize.ShloMosaic.Lib.Claim

/-! The gates: the reference's result is the kernel's. -/

@[expose] public section

set_option maxRecDepth 16384

noncomputable section

namespace Cert.Gates

open Idealize.ShloMosaic Idealize.ShloMosaic.TcCoe Idealize.SL.Sem Idealize.ShloMosaic.Tactic Cert.Reference2Ideal Cert.Reference2Ideal.Gen Cert.Reference2Ideal.Read

variable (x0 : (⟨S18432x1024, .bf16⟩ : BufTy).Contents (Elt Ideal)) (x1 : (⟨S4x1024x1024, .f32⟩ : BufTy).Contents (Elt Ideal))
  (x2 : (⟨S4x1024, .f32⟩ : BufTy).Contents (Elt Ideal))

/-- The reference's sum and bias of one branch. -/
def pre (n : Fin 4) (R : Fin 18432) (k : Fin 1024) : EReal :=
  (∑ j : Fin 1024, (x0 (ix2 R j) * x1 (ix3 n j k) : EReal)) + x2 (ix2 n k)

theorem sig_of {a : EReal} {b : EReal} (h : a = b) :
    (FloatOps.hostDivf (FloatOps.ofBits (F := Ideal) .f32 0x3F800000#32)
      (FloatOps.addf (FloatOps.ofBits (F := Ideal) .f32 0x3F800000#32)
        (FloatOps.hostUnary .exp (FloatOps.hostNegf (F := Ideal) (φ := .f32) a)))) = Ideal.logistic b := by
  subst h
  pointwise
  rfl

theorem pre0 (R : Fin 18432) (k : Fin 1024) : val_main_v8 (F := Ideal) x0 x1 x2 (ix2 R k) = pre x0 x1 x2 0 R k := by
  rw [val_main_v8_apply, val_main_v3_apply, val_main_v7_apply, val_main_v6_apply, val_main_v5_apply, val_main_v4_apply]
  refine congrArg₂ (fun a b : EReal => a + b) (Finset.sum_congr rfl fun j _ => ?_) ?_
  · rw [val_main_v2_apply, val_main_v1_apply]
    refine congrArg₂ (fun a b : EReal => a * b) ?_ ?_
    · exact congrArg x0 (funext fun a => Fin.ext (by match a with | ⟨0, _⟩ => rfl | ⟨1, _⟩ => rfl))
    · exact congrArg x1 (funext fun a => Fin.ext (by
        match a with
        | ⟨0, _⟩ => rfl
        | ⟨1, _⟩ => show (j.val * 1024 + k.val) / 1024 % 1024 = j.val; omega
        | ⟨2, _⟩ => show (j.val * 1024 + k.val) % 1024 = k.val; omega))
  · exact congrArg x2 (funext fun a => Fin.ext (by
      match a with
      | ⟨0, _⟩ => rfl
      | ⟨1, _⟩ => show k.val % 1024 = k.val; omega))

theorem head0 (R : Fin 18432) (k : Fin 1024) : val_main_v14 (F := Ideal) x0 x1 x2 (ix2 R k) = Ideal.logistic (pre x0 x1 x2 0 R k) := by
  rw [val_main_v14_apply, val_main_v13_apply, val_main_cst_0_apply, val_main_v12_apply, val_main_v11_apply, val_main_cst_apply, val_main_v10_apply, val_main_v9_apply]
  exact sig_of (pre0 x0 x1 x2 R k)

theorem pre1 (R : Fin 18432) (k : Fin 1024) : val_main_v22 (F := Ideal) x0 x1 x2 (ix2 R k) = pre x0 x1 x2 1 R k := by
  rw [val_main_v22_apply, val_main_v17_apply, val_main_v21_apply, val_main_v20_apply, val_main_v19_apply, val_main_v18_apply]
  refine congrArg₂ (fun a b : EReal => a + b) (Finset.sum_congr rfl fun j _ => ?_) ?_
  · rw [val_main_v16_apply, val_main_v15_apply]
    refine congrArg₂ (fun a b : EReal => a * b) ?_ ?_
    · exact congrArg x0 (funext fun a => Fin.ext (by match a with | ⟨0, _⟩ => rfl | ⟨1, _⟩ => rfl))
    · exact congrArg x1 (funext fun a => Fin.ext (by
        match a with
        | ⟨0, _⟩ => rfl
        | ⟨1, _⟩ => show (j.val * 1024 + k.val) / 1024 % 1024 = j.val; omega
        | ⟨2, _⟩ => show (j.val * 1024 + k.val) % 1024 = k.val; omega))
  · exact congrArg x2 (funext fun a => Fin.ext (by
      match a with
      | ⟨0, _⟩ => rfl
      | ⟨1, _⟩ => show k.val % 1024 = k.val; omega))

theorem head1 (R : Fin 18432) (k : Fin 1024) : val_main_v28 (F := Ideal) x0 x1 x2 (ix2 R k) = Ideal.logistic (pre x0 x1 x2 1 R k) := by
  rw [val_main_v28_apply, val_main_v27_apply, val_main_cst_2_apply, val_main_v26_apply, val_main_v25_apply, val_main_cst_1_apply, val_main_v24_apply, val_main_v23_apply]
  exact sig_of (pre1 x0 x1 x2 R k)

theorem pre2 (R : Fin 18432) (k : Fin 1024) : val_main_v36 (F := Ideal) x0 x1 x2 (ix2 R k) = pre x0 x1 x2 2 R k := by
  rw [val_main_v36_apply, val_main_v31_apply, val_main_v35_apply, val_main_v34_apply, val_main_v33_apply, val_main_v32_apply]
  refine congrArg₂ (fun a b : EReal => a + b) (Finset.sum_congr rfl fun j _ => ?_) ?_
  · rw [val_main_v30_apply, val_main_v29_apply]
    refine congrArg₂ (fun a b : EReal => a * b) ?_ ?_
    · exact congrArg x0 (funext fun a => Fin.ext (by match a with | ⟨0, _⟩ => rfl | ⟨1, _⟩ => rfl))
    · exact congrArg x1 (funext fun a => Fin.ext (by
        match a with
        | ⟨0, _⟩ => rfl
        | ⟨1, _⟩ => show (j.val * 1024 + k.val) / 1024 % 1024 = j.val; omega
        | ⟨2, _⟩ => show (j.val * 1024 + k.val) % 1024 = k.val; omega))
  · exact congrArg x2 (funext fun a => Fin.ext (by
      match a with
      | ⟨0, _⟩ => rfl
      | ⟨1, _⟩ => show k.val % 1024 = k.val; omega))

theorem head2 (R : Fin 18432) (k : Fin 1024) : val_main_v42 (F := Ideal) x0 x1 x2 (ix2 R k) = Ideal.logistic (pre x0 x1 x2 2 R k) := by
  rw [val_main_v42_apply, val_main_v41_apply, val_main_cst_4_apply, val_main_v40_apply, val_main_v39_apply, val_main_cst_3_apply, val_main_v38_apply, val_main_v37_apply]
  exact sig_of (pre2 x0 x1 x2 R k)

theorem pre3 (R : Fin 18432) (k : Fin 1024) : val_main_v50 (F := Ideal) x0 x1 x2 (ix2 R k) = pre x0 x1 x2 3 R k := by
  rw [val_main_v50_apply, val_main_v45_apply, val_main_v49_apply, val_main_v48_apply, val_main_v47_apply, val_main_v46_apply]
  refine congrArg₂ (fun a b : EReal => a + b) (Finset.sum_congr rfl fun j _ => ?_) ?_
  · rw [val_main_v44_apply, val_main_v43_apply]
    refine congrArg₂ (fun a b : EReal => a * b) ?_ ?_
    · exact congrArg x0 (funext fun a => Fin.ext (by match a with | ⟨0, _⟩ => rfl | ⟨1, _⟩ => rfl))
    · exact congrArg x1 (funext fun a => Fin.ext (by
        match a with
        | ⟨0, _⟩ => rfl
        | ⟨1, _⟩ => show (j.val * 1024 + k.val) / 1024 % 1024 = j.val; omega
        | ⟨2, _⟩ => show (j.val * 1024 + k.val) % 1024 = k.val; omega))
  · exact congrArg x2 (funext fun a => Fin.ext (by
      match a with
      | ⟨0, _⟩ => rfl
      | ⟨1, _⟩ => show k.val % 1024 = k.val; omega))

theorem head3 (R : Fin 18432) (k : Fin 1024) : val_main_v56 (F := Ideal) x0 x1 x2 (ix2 R k) = Ideal.logistic (pre x0 x1 x2 3 R k) := by
  rw [val_main_v56_apply, val_main_v55_apply, val_main_cst_6_apply, val_main_v54_apply, val_main_v53_apply, val_main_cst_5_apply, val_main_v52_apply, val_main_v51_apply]
  exact sig_of (pre3 x0 x1 x2 R k)

/-- Four arrays side by side, at a column. -/
theorem cat4 (a b x d : Vec Ideal S18432x1024 .f32) (R : Fin 18432) (q : Fin 4096) (f : Fin 4 → EReal)
    (h0 : ∀ k : Fin 1024, q.val = k.val → a (ix2 R k) = f 0) (h1 : ∀ k : Fin 1024, q.val = 1024 + k.val → b (ix2 R k) = f 1)
    (h2 : ∀ k : Fin 1024, q.val = 2048 + k.val → x (ix2 R k) = f 2) (h3 : ∀ k : Fin 1024, q.val = 3072 + k.val → d (ix2 R k) = f 3) :
    concatenate S18432x4096 1 [⟨S18432x1024, a⟩, ⟨S18432x1024, b⟩, ⟨S18432x1024, x⟩, ⟨S18432x1024, d⟩]
      concatenates_S18432x1024_S18432x1024_S18432x1024_S18432x1024_S18432x4096_d1 (ix2 R q) = f ⟨q.val / 1024, by omega⟩ := by
  have hq : q.val < 4096 := q.isLt
  pointwise
  by_cases e0 : q.val < 1024
  · rw [dif_pos e0]
    exact (h0 _ rfl).trans (congrArg f (Fin.ext (by show 0 = q.val / 1024; omega)))
  rw [dif_neg e0]
  by_cases e1 : q.val - 1024 < 1024
  · rw [dif_pos e1]
    exact (h1 _ (by show q.val = 1024 + (q.val - 1024); omega)).trans (congrArg f (Fin.ext (by show 1 = q.val / 1024; omega)))
  rw [dif_neg e1]
  by_cases e2 : q.val - 1024 - 1024 < 1024
  · rw [dif_pos e2]
    exact (h2 _ (by show q.val = 2048 + (q.val - 1024 - 1024); omega)).trans (congrArg f (Fin.ext (by show 2 = q.val / 1024; omega)))
  rw [dif_neg e2]
  exact (h3 _ (by show q.val = 3072 + (q.val - 1024 - 1024 - 1024); omega)).trans (congrArg f (Fin.ext (by show 3 = q.val / 1024; omega)))

/-- The reference's result, index by index. -/
theorem ref_at (R : Fin 18432) (q : Fin 4096) : val_main_v58 (F := Ideal) x0 x1 x2 (ix2 R q)
    = Ideal.logistic (pre x0 x1 x2 ⟨q.val / 1024, by omega⟩ R ⟨q.val % 1024, by omega⟩) := by
  have key : ∀ n (k : Fin 1024), n * 1024 + k.val = q.val → k = ⟨q.val % 1024, by omega⟩ := fun n k h => Fin.ext (by show k.val = q.val % 1024; omega)
  refine cat4 (val_main_v14 (F := Ideal) x0 x1 x2) (val_main_v28 (F := Ideal) x0 x1 x2) (val_main_v42 (F := Ideal) x0 x1 x2)
    (val_main_v56 (F := Ideal) x0 x1 x2) R q (fun n => Ideal.logistic (pre x0 x1 x2 n R ⟨q.val % 1024, by omega⟩)) ?_ ?_ ?_ ?_
  · intro k h
    rw [head0, key 0 k (by omega)]
  · intro k h
    rw [head1, key 1 k (by omega)]
  · intro k h
    rw [head2, key 2 k (by omega)]
  · intro k h
    rw [head3, key 3 k (by omega)]

theorem ref_eq (m : (ℓ : Loc Cert.Kernel2Ideal.nD Cert.Kernel2Ideal.τ Cert.Kernel2Ideal.sig) → Buf (Elt Ideal) ℓ) (c : Dev Cert.Kernel2Ideal.nD) :
    val_main_v58 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
      = res m c := by
  funext i
  obtain ⟨R, q, rfl⟩ : ∃ (R : Fin 18432) (q : Fin 4096), i = ix2 R q := ⟨i 0, i 1, eq_ix2 i⟩
  exact ref_at _ _ _ R q

/-- The reference runs, keeps its arguments, and has no counter that could be left standing. -/
theorem ref_frame : Cert.quiescent_Reference2Ideal := fun m ρ _ =>
  (θ_run _ _ _).mono (fun r h => ⟨fun c => (h c).2, sem_eq_zero_of_no_sems (by decide) r.2⟩) (Cert.Reference2Ideal.Value.run m ρ)

theorem algebraic : Cert.algebraic_Kernel2Ideal_Reference2Ideal := by
  intro m g m' g' _ hargs
  refine ⟨fun c => res m c, ?_, ?_⟩
  · refine (θ_run _ _ _).mono (fun r h c => ?_) (Cert.Kernel2Ideal.Value.run_blocks m g)
    exact ⟨(h c).1.trans (final_eq m c), (h c).2⟩
  · refine (θ_run _ _ _).mono (fun r h c => ?_) (Cert.Reference2Ideal.Value.run m' g')
    refine ⟨(h c).1.trans ?_, (h c).2⟩
    obtain ⟨h0, h1, h2⟩ := hargs c
    rw [val_main_v58_eq, h0, h1, h2]
    exact ref_eq m c

end Cert.Gates

end
-- ==== Proof.MergeMath.lean ====
module

public import Idealize.ShloMosaic.Lib.Pointwise

/-! One token of the gated merge over the extended reals, with no program in it: the branches' projections under their
    gates, the residual, the modulated normalisation. -/

@[expose] public section

noncomputable section

namespace Cert.Merge

open Idealize.ShloMosaic

/-- One branch at one channel: its gate times the projection of its output. -/
def term (g : EReal) (y w : Fin 512 → EReal) : EReal := g * ∑ j, y j * w j

/-- The four branches added up, at a channel. -/
def gated (g : Fin 4 → Fin 1024 → EReal) (y : Fin 4 → Fin 512 → EReal) (w : Fin 4 → Fin 512 → Fin 1024 → EReal) (k : Fin 1024) : EReal :=
  term (g 0 k) (y 0) (fun j => w 0 j k) + term (g 1 k) (y 1) (fun j => w 1 j k) + term (g 2 k) (y 2) (fun j => w 2 j k)
    + term (g 3 k) (y 3) (fun j => w 3 j k)

/-- The stream after the mixers: the token plus the output projection, scaled channel by channel. -/
def resid (acc : Fin 1024 → EReal) (wo : Fin 1024 → Fin 1024 → EReal) (x a : Fin 1024 → EReal) (k : Fin 1024) : EReal :=
  x k + a k * ∑ l, acc l * wo l k

/-- A token divided by its root mean square, times the gain, scaled and shifted. -/
def modNorm (v g sc sh : Fin 1024 → EReal) (k : Fin 1024) : EReal :=
  v k * Ideal.rsqrt (Ideal.div (∑ l, v l * v l) (Ideal.ofBits FTy.f32 0x44800000#32) + Ideal.ofBits FTy.f32 0x358637BD#32)
    * g k * (1 + sc k) + sh k

end Cert.Merge

end
-- ==== Proof.Merge.lean ====
module

public import proofs.«01_k».proof.Proof.Gen.Kernel3Ideal.Value
public import proofs.«01_k».proof.Proof.MergeMath
public import Idealize.ShloMosaic.Lib.Pipeline.ValueKit
public import Idealize.ShloMosaic.Lib.StableHlo.RunRead

/-! The gated merge: what the kernel's two results are, as functions of its arguments. -/

@[expose] public section

set_option maxRecDepth 16384

noncomputable section

namespace Cert.Merge

open Idealize.ShloMosaic Idealize.ShloMosaic.TcCoe Cert.Kernel3Ideal Cert.Kernel3Ideal.Gen Idealize.ShloMosaic.Tactic

/-! ## One block -/

theorem pay4_apply (g0 : Vec Ideal S512x1024 .bf16) (y0 : Vec Ideal S512x512 .bf16) (w0 : Vec Ideal S1x512x1024 .bf16)
    (g1 : Vec Ideal S512x1024 .bf16) (y1 : Vec Ideal S512x512 .bf16) (w1 : Vec Ideal S1x512x1024 .bf16)
    (g2 : Vec Ideal S512x1024 .bf16) (y2 : Vec Ideal S512x512 .bf16) (w2 : Vec Ideal S1x512x1024 .bf16) (r : Fin 512) (k : Fin 1024) :
    k0_pay4 g0 y0 w0 g1 y1 w1 g2 y2 w2 (ix2 r k)
      = term (g0 (ix2 r k)) (fun j => y0 (ix2 r j)) (fun j => w0 (ix3 0 j k))
        + term (g1 (ix2 r k)) (fun j => y1 (ix2 r j)) (fun j => w1 (ix3 0 j k))
        + term (g2 (ix2 r k)) (fun j => y2 (ix2 r j)) (fun j => w2 (ix3 0 j k)) := by
  pointwise [k0_pay4]
  rfl

theorem pay7_apply (a : FVec Ideal S512x1024 .f32) (g : FVec Ideal S512x1024 .f32) (y : Vec Ideal S512x512 .bf16)
    (w : FVec Ideal S512x1024 .bf16) (wo : Vec Ideal S1024x1024 .bf16) (x : Vec Ideal S512x1024 .f32) (s : Vec Ideal S1x1x1024 .f32)
    (r : Fin 512) (k : Fin 1024) :
    k0_pay7 a g y w wo x s (ix2 r k)
      = resid (fun l => (a (ix2 r l) + term (g (ix2 r l)) (fun j => y (ix2 r j)) (fun j => w (ix2 j l)) : EReal))
          (fun l k => wo (ix2 l k)) (fun k => x (ix2 r k)) (fun k => s (ix3 0 0 k)) k := by
  pointwise [k0_pay7]
  rfl

theorem pay8_apply (a : FVec Ideal S512x1024 .f32) (g : FVec Ideal S512x1024 .f32) (y : Vec Ideal S512x512 .bf16)
    (w : FVec Ideal S512x1024 .bf16) (wo : Vec Ideal S1024x1024 .bf16) (x : Vec Ideal S512x1024 .f32) (s : Vec Ideal S1x1x1024 .f32)
    (gain : Vec Ideal S1x1024 .f32) (sc : Vec Ideal S1x1x1024 .f32) (sh : FVec Ideal S1x1024 .f32) (r : Fin 512) (k : Fin 1024) :
    k0_pay2 (k0_pay8 a g y w wo x s gain sc) sh (ix2 r k)
      = modNorm (fun l => k0_pay7 a g y w wo x s (ix2 r l)) (fun k => gain (ix2 0 k)) (fun k => sc (ix3 0 0 k))
          (fun k => sh (ix2 0 k)) k := by
  unfold k0_pay2 k0_pay1 k0_pay8
  generalize k0_pay7 a g y w wo x s = P
  pointwise
  rfl

/-! ## The arguments, and the results over them -/

variable (m : (ℓ : Loc nD τ sig) → Buf (Elt Ideal) ℓ) (c : Dev nD)

/-- The gate of branch `n` at a token and a channel. -/
def gM (R : Fin 18432) (n : Fin 4) (k : Fin 1024) : EReal := m ((c : Thread nD τ).loc main_arg4) (ix2 R ⟨n.val * 1024 + k.val, by omega⟩)

/-- The output of branch `n` at a token. -/
def yM (R : Fin 18432) (n : Fin 4) (j : Fin 512) : EReal :=
  match n with
  | ⟨0, _⟩ => m ((c : Thread nD τ).loc main_arg0) (ix2 R j)
  | ⟨1, _⟩ => m ((c : Thread nD τ).loc main_arg1) (ix2 R j)
  | ⟨2, _⟩ => m ((c : Thread nD τ).loc main_arg2) (ix2 R j)
  | ⟨3, _⟩ => m ((c : Thread nD τ).loc main_arg3) (ix2 R j)

def wM (n : Fin 4) (j : Fin 512) (k : Fin 1024) : EReal := m ((c : Thread nD τ).loc main_arg8) (ix3 n j k)

def woM (l k : Fin 1024) : EReal := m ((c : Thread nD τ).loc main_arg9) (ix2 l k)

def xM (R : Fin 18432) (k : Fin 1024) : EReal := m ((c : Thread nD τ).loc main_arg5) (ix2 R k)

/-- The row of the modulation that a token takes: its sequence's, or the contexts' common one. -/
def grp (R : Fin 18432) : Fin 16 := ⟨if R.val < 16384 then R.val / 2048 else 8, by split <;> omega⟩

def modM (R : Fin 18432) (a : Fin 6) (k : Fin 1024) : EReal := m ((c : Thread nD τ).loc main_arg6) (ix3 (grp R) a k)

def gainM (k : Fin 1024) : EReal := m ((c : Thread nD τ).loc main_arg7) (ix1 k)

/-- The stream after the mixers, at a token. -/
def x1At (R : Fin 18432) : Fin 1024 → EReal :=
  resid (gated (gM m c R) (yM m c R) (wM m c)) (woM m c) (xM m c R) (modM m c R 2)

/-- The next norm's modulated token. -/
def h2At (R : Fin 18432) : Fin 1024 → EReal :=
  modNorm (x1At m c R) (gainM m c) (modM m c R 4) (modM m c R 3)

def resX (i : S18432x1024.Idx) : EReal := x1At m c (i 0) (i 1)

def resH (i : S18432x1024.Idx) : EReal := h2At m c (i 0) (i 1)

/-! ## The input blocks at a grid point -/

theorem V_gain {F : FTy → Type} [FloatOps F] (m : (ℓ : Loc nD τ sig) → Buf (Elt F) ℓ) :
    V m c main_v0 = broadcastInDim S1x1024 ![1] bcast_S1024_S1x1024_1 (m ((c : Thread nD τ).loc main_arg7)) := by
  entry_read
  rfl

theorem V_wb {F : FTy → Type} [FloatOps F] (m : (ℓ : Loc nD τ sig) → Buf (Elt F) ℓ) :
    V m c main_v1 = truncf .bf16 (m ((c : Thread nD τ).loc main_arg8)) bitsLt_bf16_f32 := by
  entry_read
  rfl

theorem V_wo {F : FTy → Type} [FloatOps F] (m : (ℓ : Loc nD τ sig) → Buf (Elt F) ℓ) :
    V m c main_v2 = truncf .bf16 (m ((c : Thread nD τ).loc main_arg9)) bitsLt_bf16_f32 := by
  entry_read
  rfl

/-- The token that row `r` of grid point `t` is. -/
def rowOf (t : Fin cfg0.N) (r : Fin 512) : Fin 18432 := ⟨t.val * 512 + r.val, by have : t.val < 36 := t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index10 : ∀ t : Fin cfg0.N, win0_10.index t 0 = t.val ∧ win0_10.index t 1 = 0 :=
  (by decide +kernel : ∀ t : Fin grid0.N, win0_10.index t 0 = t.val ∧ win0_10.index t 1 = 0)
theorem index11 : ∀ t : Fin cfg0.N, win0_11.index t 0 = t.val ∧ win0_11.index t 1 = 0 :=
  (by decide +kernel : ∀ t : Fin grid0.N, win0_11.index t 0 = t.val ∧ win0_11.index t 1 = 0)
theorem index6 : ∀ t : Fin cfg0.N, win0_6.index t 0 = (if t.val < 32 then t.val / 4 else 8) ∧ win0_6.index t 1 = 0 ∧ win0_6.index t 2 = 0 :=
  (by decide +kernel : ∀ t : Fin grid0.N, win0_6.index t 0 = (if t.val < 32 then t.val / 4 else 8) ∧ win0_6.index t 1 = 0 ∧ win0_6.index t 2 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
theorem index9 : ∀ t : Fin cfg0.N, win0_9.index t 0 = 0 ∧ win0_9.index t 1 = 0 :=
  (by decide +kernel : ∀ t : Fin grid0.N, win0_9.index t 0 = 0 ∧ win0_9.index t 1 = 0)

theorem y0 (t : Fin cfg0.N) (r j : Fin 512) : iblk m c 0 t (ix2 r j) = yM m c (rowOf t r) 0 j := by
  have e : (win0_0.blk t).view.emb (ix2 r j) = ix2 (rowOf t r) j := by
    blk_ext [index0 t, rowOf]
  unfold iblk
  rw [V_main_arg0]
  blk_simp [e]
  rfl

theorem y1 (t : Fin cfg0.N) (r j : Fin 512) : iblk m c 1 t (ix2 r j) = yM m c (rowOf t r) 1 j := by
  have e : (win0_1.blk t).view.emb (ix2 r j) = ix2 (rowOf t r) j := by
    blk_ext [index1 t, rowOf]
  unfold iblk
  rw [V_main_arg1]
  blk_simp [e]
  rfl

theorem y2 (t : Fin cfg0.N) (r j : Fin 512) : iblk m c 2 t (ix2 r j) = yM m c (rowOf t r) 2 j := by
  have e : (win0_2.blk t).view.emb (ix2 r j) = ix2 (rowOf t r) j := by
    blk_ext [index2 t, rowOf]
  unfold iblk
  rw [V_main_arg2]
  blk_simp [e]
  rfl

theorem y3 (t : Fin cfg0.N) (r j : Fin 512) : iblk m c 3 t (ix2 r j) = yM m c (rowOf t r) 3 j := by
  have e : (win0_3.blk t).view.emb (ix2 r j) = ix2 (rowOf t r) j := by
    blk_ext [index3 t, rowOf]
  unfold iblk
  rw [V_main_arg3]
  blk_simp [e]
  rfl

theorem gate (t : Fin cfg0.N) (r : Fin 512) (n : Fin 4) (k : Fin 1024) :
    iblk m c 4 t (ix2 r ⟨n.val * 1024 + k.val, by omega⟩) = gM m c (rowOf t r) n k := by
  have e : (win0_4.blk t).view.emb (ix2 r ⟨n.val * 1024 + k.val, by omega⟩) = ix2 (rowOf t r) ⟨n.val * 1024 + k.val, by omega⟩ := by
    blk_ext [index4 t, rowOf]
  unfold iblk
  rw [V_main_arg4]
  blk_simp [e]
  rfl

theorem xin (t : Fin cfg0.N) (r : Fin 512) (k : Fin 1024) : iblk m c 5 t (ix2 r k) = xM m c (rowOf t r) k := by
  have e : (win0_5.blk t).view.emb (ix2 r k) = ix2 (rowOf t r) k := by
    blk_ext [index5 t, rowOf]
  unfold iblk
  rw [V_main_arg5]
  blk_simp [e]
  rfl

theorem grp_rowOf (t : Fin cfg0.N) (r : Fin 512) : (grp (rowOf t r)).val = if t.val < 32 then t.val / 4 else 8 := by
  show (if t.val * 512 + r.val < 16384 then (t.val * 512 + r.val) / 2048 else 8) = _
  split <;> split <;> omega

theorem modv (t : Fin cfg0.N) (r : Fin 512) (a : Fin 6) (k : Fin 1024) : iblk m c 6 t (ix3 0 a k) = modM m c (rowOf t r) a k := by
  have e : (win0_6.blk t).view.emb (ix3 0 a k) = ix3 (grp (rowOf t r)) a k := by
    blk_ext [index6 t, grp_rowOf t r]
  unfold iblk
  rw [V_main_arg6]
  blk_simp [e]
  rfl

theorem gain (t : Fin cfg0.N) (k : Fin 1024) : iblk m c 7 t (ix2 0 k) = gainM m c k := by
  have e : (win0_7.blk t).view.emb (ix2 0 k) = ix2 0 k := by
    blk_ext [index7 t]
  unfold iblk
  rw [V_gain]
  blk_simp [e]
  pointwise
  rfl

theorem wb (t : Fin cfg0.N) (n : Fin 4) (j : Fin 512) (k : Fin 1024) : iblk m c 8 t (ix3 n j k) = wM m c n j k := by
  have e : (win0_8.blk t).view.emb (ix3 n j k) = ix3 n j k := by
    blk_ext [index8 t]
  unfold iblk
  rw [V_wb]
  blk_simp [e]
  rfl

theorem wo (t : Fin cfg0.N) (l k : Fin 1024) : iblk m c 9 t (ix2 l k) = woM m c l k := by
  have e : (win0_9.blk t).view.emb (ix2 l k) = ix2 l k := by
    blk_ext [index9 t]
  unfold iblk
  rw [V_wo]
  blk_simp [e]
  rfl

/-! ## The loads of a block's parts -/

theorem ldg0 (x : Vec Ideal S512x4096 .bf16) (r : Fin 512) (k : Fin 1024) :
    View.ld x r0_0 (ix2 r k) = x (ix2 r ⟨(0 : Fin 4).val * 1024 + k.val, by show 0 * 1024 + k.val < 4096; omega⟩) :=
  congrArg x (funext fun a => Fin.ext (by
    match a with
    | ⟨0, _⟩ => show 0 + 1 * r.val = r.val; omega
    | ⟨1, _⟩ => show 0 + 1 * k.val = 0 * 1024 + k.val; omega))

theorem ldg1 (x : Vec Ideal S512x4096 .bf16) (r : Fin 512) (k : Fin 1024) :
    View.ld x r0_3 (ix2 r k) = x (ix2 r ⟨(1 : Fin 4).val * 1024 + k.val, by show 1 * 1024 + k.val < 4096; omega⟩) :=
  congrArg x (funext fun a => Fin.ext (by
    match a with
    | ⟨0, _⟩ => show 0 + 1 * r.val = r.val; omega
    | ⟨1, _⟩ => show 1024 + 1 * k.val = 1 * 1024 + k.val; omega))

theorem ldg2 (x : Vec Ideal S512x4096 .bf16) (r : Fin 512) (k : Fin 1024) :
    View.ld x r0_5 (ix2 r k) = x (ix2 r ⟨(2 : Fin 4).val * 1024 + k.val, by show 2 * 1024 + k.val < 4096; omega⟩) :=
  congrArg x (funext fun a => Fin.ext (by
    match a with
    | ⟨0, _⟩ => show 0 + 1 * r.val = r.val; omega
    | ⟨1, _⟩ => show 2048 + 1 * k.val = 2 * 1024 + k.val; omega))

theorem ldg3 (x : Vec Ideal S512x4096 .bf16) (r : Fin 512) (k : Fin 1024) :
    View.ld x r0_7 (ix2 r k) = x (ix2 r ⟨(3 : Fin 4).val * 1024 + k.val, by show 3 * 1024 + k.val < 4096; omega⟩) :=
  congrArg x (funext fun a => Fin.ext (by
    match a with
    | ⟨0, _⟩ => show 0 + 1 * r.val = r.val; omega
    | ⟨1, _⟩ => show 3072 + 1 * k.val = 3 * 1024 + k.val; omega))

theorem ldw0 (x : Vec Ideal S4x512x1024 .bf16) (j : Fin 512) (k : Fin 1024) :
    View.ld x r0_2 (ix3 0 j k) = x (ix3 0 j k) :=
  congrArg x (funext fun a => Fin.ext (by
    match a with
    | ⟨0, _⟩ => rfl
    | ⟨1, _⟩ => show 0 + 1 * j.val = j.val; omega
    | ⟨2, _⟩ => show 0 + 1 * k.val = k.val; omega))

theorem ldw1 (x : Vec Ideal S4x512x1024 .bf16) (j : Fin 512) (k : Fin 1024) :
    View.ld x r0_4 (ix3 0 j k) = x (ix3 1 j k) :=
  congrArg x (funext fun a => Fin.ext (by
    match a with
    | ⟨0, _⟩ => rfl
    | ⟨1, _⟩ => show 0 + 1 * j.val = j.val; omega
    | ⟨2, _⟩ => show 0 + 1 * k.val = k.val; omega))

theorem ldw2 (x : Vec Ideal S4x512x1024 .bf16) (j : Fin 512) (k : Fin 1024) :
    View.ld x r0_6 (ix3 0 j k) = x (ix3 2 j k) :=
  congrArg x (funext fun a => Fin.ext (by
    match a with
    | ⟨0, _⟩ => rfl
    | ⟨1, _⟩ => show 0 + 1 * j.val = j.val; omega
    | ⟨2, _⟩ => show 0 + 1 * k.val = k.val; omega))

theorem ldw3 (x : Vec Ideal S4x512x1024 .bf16) (j : Fin 512) (k : Fin 1024) :
    View.ld x r0_8 (ix3 0 j k) = x (ix3 3 j k) :=
  congrArg x (funext fun a => Fin.ext (by
    match a with
    | ⟨0, _⟩ => rfl
    | ⟨1, _⟩ => show 0 + 1 * j.val = j.val; omega
    | ⟨2, _⟩ => show 0 + 1 * k.val = k.val; omega))

theorem ldm2 (x : Vec Ideal S1x6x1024 .f32) (k : Fin 1024) : View.ld x r0_11 (ix3 0 0 k) = x (ix3 0 2 k) :=
  congrArg x (funext fun a => Fin.ext (by
    match a with
    | ⟨0, _⟩ => rfl
    | ⟨1, _⟩ => rfl
    | ⟨2, _⟩ => show 0 + 1 * k.val = k.val; omega))

theorem ldm4 (x : Vec Ideal S1x6x1024 .f32) (k : Fin 1024) : View.ld x r0_13 (ix3 0 0 k) = x (ix3 0 4 k) :=
  congrArg x (funext fun a => Fin.ext (by
    match a with
    | ⟨0, _⟩ => rfl
    | ⟨1, _⟩ => rfl
    | ⟨2, _⟩ => show 0 + 1 * k.val = k.val; omega))

theorem ldm3 (x : Vec Ideal S1x6x1024 .f32) (k : Fin 1024) : View.ld x r0_14 (ix3 0 0 k) = x (ix3 0 3 k) :=
  congrArg x (funext fun a => Fin.ext (by
    match a with
    | ⟨0, _⟩ => rfl
    | ⟨1, _⟩ => rfl
    | ⟨2, _⟩ => show 0 + 1 * k.val = k.val; omega))

theorem ldy (x : Vec Ideal S512x512 .bf16) (r j : Fin 512) : View.ld x r0_1 (ix2 r j) = x (ix2 r j) := by
  pointwise

/-! ## What a grid point leaves -/

theorem x1_pt (t : Fin cfg0.N) (r : Fin 512) (k : Fin 1024) :
    k0_pay7 (k0_pay10 (iblk m c 0 t) (iblk m c 1 t) (iblk m c 2 t) (iblk m c 3 t) (iblk m c 4 t) (iblk m c 5 t) (iblk m c 6 t) (iblk m c 7 t) (iblk m c 8 t) (iblk m c 9 t))
      (k0_pay11 (iblk m c 0 t) (iblk m c 1 t) (iblk m c 2 t) (iblk m c 3 t) (iblk m c 4 t) (iblk m c 5 t) (iblk m c 6 t) (iblk m c 7 t) (iblk m c 8 t) (iblk m c 9 t))
      (View.ld (iblk m c 3 t) r0_1)
      (k0_pay12 (iblk m c 0 t) (iblk m c 1 t) (iblk m c 2 t) (iblk m c 3 t) (iblk m c 4 t) (iblk m c 5 t) (iblk m c 6 t) (iblk m c 7 t) (iblk m c 8 t) (iblk m c 9 t))
      (View.ld (iblk m c 9 t) r0_9) (View.ld (iblk m c 5 t) r0_10) (View.ld (iblk m c 6 t) r0_11) (ix2 r k) = x1At m c (rowOf t r) k := by
  refine (pay7_apply _ _ _ _ _ _ _ r k).trans ?_
  refine congrArg₂ (fun a b : EReal => a + b) ?_ (congrArg₂ (fun a b : EReal => a * b) ?_
    (Finset.sum_congr rfl fun l _ => congrArg₂ (fun a b : EReal => a * b) (congrArg₂ (fun a b : EReal => a + b) ?_ (congr (congrArg₂ term ?_ ?_) ?_)) ?_))
  · pointwise
    exact xin m c t r k
  · exact (ldm2 _ k).trans (modv m c t r 2 k)
  · refine (pay4_apply _ _ _ _ _ _ _ _ _ r l).trans ?_
    refine congrArg₂ (fun a b : EReal => a + b) (congrArg₂ (fun a b : EReal => a + b) (congr (congrArg₂ term ?_ ?_) ?_) (congr (congrArg₂ term ?_ ?_) ?_)) (congr (congrArg₂ term ?_ ?_) ?_)
    · exact (ldg0 _ r l).trans (gate m c t r 0 l)
    · exact funext fun j => (ldy _ r j).trans (y0 m c t r j)
    · exact funext fun j => (ldw0 _ j l).trans (wb m c t 0 j l)
    · exact (ldg1 _ r l).trans (gate m c t r 1 l)
    · exact funext fun j => (ldy _ r j).trans (y1 m c t r j)
    · exact funext fun j => (ldw1 _ j l).trans (wb m c t 1 j l)
    · exact (ldg2 _ r l).trans (gate m c t r 2 l)
    · exact funext fun j => (ldy _ r j).trans (y2 m c t r j)
    · exact funext fun j => (ldw2 _ j l).trans (wb m c t 2 j l)
  · exact (ldg3 _ r l).trans (gate m c t r 3 l)
  · exact funext fun j => (ldy _ r j).trans (y3 m c t r j)
  · refine funext fun j => ?_
    unfold k0_pay12 k0_pay6
    refine Eq.trans ?_ ((ldw3 _ j l).trans (wb m c t 3 j l))
    generalize View.ld (iblk m c 8 t) r0_8 = P
    pointwise
  · pointwise
    exact wo m c t l k

theorem h2_pt (t : Fin cfg0.N) (r : Fin 512) (k : Fin 1024) :
    k0_pay2 (k0_pay13 (iblk m c 0 t) (iblk m c 1 t) (iblk m c 2 t) (iblk m c 3 t) (iblk m c 4 t) (iblk m c 5 t) (iblk m c 6 t) (iblk m c 7 t) (iblk m c 8 t) (iblk m c 9 t))
      (k0_pay14 (iblk m c 0 t) (iblk m c 1 t) (iblk m c 2 t) (iblk m c 3 t) (iblk m c 4 t) (iblk m c 5 t) (iblk m c 6 t) (iblk m c 7 t) (iblk m c 8 t) (iblk m c 9 t)) (ix2 r k)
      = h2At m c (rowOf t r) k := by
  unfold k0_pay13
  refine (pay8_apply _ _ _ _ _ _ _ _ _ _ r k).trans ?_
  refine congr (congr (congr (congrArg₂ modNorm ?_ ?_) ?_) ?_) rfl
  · exact funext fun l => x1_pt m c t r l
  · refine funext fun k => ?_
    pointwise
    exact gain m c t k
  · exact funext fun k => (ldm4 _ k).trans (modv m c t r 4 k)
  · refine funext fun k => ?_
    unfold k0_pay14 k0_pay9
    refine Eq.trans ?_ ((ldm3 _ k).trans (modv m c t r 3 k))
    generalize View.ld (iblk m c 6 t) r0_14 = P
    pointwise

theorem final_x1 : (dats m 0 c).arrAt 10 cfg0.N = resX m c := by
  refine (dats m 0 c).arrAt_eq_of_covers 10 _ (by decide +kernel) fun t hf y => ?_
  blk_simp
  rw [after0_10]
  obtain ⟨r, k, rfl⟩ : ∃ (r : Fin 512) (k : Fin 1024), y = ix2 r k := ⟨y 0, y 1, eq_ix2 y⟩
  have e : (win0_10.blk t).view.emb (ix2 r k) = ix2 (rowOf t r) k := by
    blk_ext [index10 t, rowOf]
  rw [e]
  unfold out0_10
  rw [View.canon_cons_unit_lit (S := S512x1024) _ _ _ (by decide)]
  exact x1_pt m c t r k

theorem final_h2 : (dats m 0 c).arrAt 11 cfg0.N = resH m c := by
  refine (dats m 0 c).arrAt_eq_of_covers 11 _ (by decide +kernel) fun t hf y => ?_
  blk_simp
  rw [after0_11]
  obtain ⟨r, k, rfl⟩ : ∃ (r : Fin 512) (k : Fin 1024), y = ix2 r k := ⟨y 0, y 1, eq_ix2 y⟩
  have e : (win0_11.blk t).view.emb (ix2 r k) = ix2 (rowOf t r) k := by
    blk_ext [index11 t, rowOf]
  rw [e]
  unfold out0_11
  rw [View.canon_cons_unit_lit (S := S512x1024) _ _ _ (by decide)]
  exact h2_pt m c t r k

end Cert.Merge

end
-- ==== Proof.MergeEqual.lean ====
module

public import proofs.«01_k».proof.Defs
public import proofs.«01_k».proof.Proof.Merge
public import proofs.«01_k».proof.Proof.Gen.Reference3Ideal.Run
public import proofs.«01_k».proof.Proof.Gen.Reference3Ideal.Read
public import Idealize.ShloMosaic.Lib.Claim
public import Idealize.ShloMosaic.Lib.Bf16Pair
public import Idealize.ShloMosaic.Lib.Bf16PairInverse

/-! The gated merge: the reference's results are the kernel's. -/

@[expose] public section

set_option maxRecDepth 16384

noncomputable section

namespace Cert.Merge

open Idealize.ShloMosaic Idealize.ShloMosaic.TcCoe Idealize.SL.Sem Idealize.ShloMosaic.Tactic Cert.Reference3Ideal Cert.Reference3Ideal.Gen Cert.Reference3Ideal.Read

variable (x0 x1 x2 x3 : (⟨S18432x512, .bf16⟩ : BufTy).Contents (Elt Ideal)) (x4 : (⟨S18432x4096, .bf16⟩ : BufTy).Contents (Elt Ideal))
  (x5 : (⟨S18432x1024, .f32⟩ : BufTy).Contents (Elt Ideal)) (x6 : (⟨S16x6x1024, .f32⟩ : BufTy).Contents (Elt Ideal))
  (x7 : (⟨S1024, .f32⟩ : BufTy).Contents (Elt Ideal)) (x8 : (⟨S4x512x1024, .f32⟩ : BufTy).Contents (Elt Ideal))
  (x9 : (⟨S1024x1024, .f32⟩ : BufTy).Contents (Elt Ideal))

/-! ## The arguments at a token -/

def gX (R : Fin 18432) (n : Fin 4) (k : Fin 1024) : EReal := x4 (ix2 R ⟨n.val * 1024 + k.val, by omega⟩)

def yX (R : Fin 18432) (n : Fin 4) (j : Fin 512) : EReal :=
  match n with
  | ⟨0, _⟩ => x0 (ix2 R j)
  | ⟨1, _⟩ => x1 (ix2 R j)
  | ⟨2, _⟩ => x2 (ix2 R j)
  | ⟨3, _⟩ => x3 (ix2 R j)

def wX (n : Fin 4) (j : Fin 512) (k : Fin 1024) : EReal := x8 (ix3 n j k)

def modX (R : Fin 18432) (a : Fin 6) (k : Fin 1024) : EReal := x6 (ix3 (grp R) a k)

def accX (R : Fin 18432) : Fin 1024 → EReal := gated (gX x4 R) (yX x0 x1 x2 x3 R) (wX x8)

def x1X (R : Fin 18432) : Fin 1024 → EReal :=
  resid (accX x0 x1 x2 x3 x4 x8 R) (fun l k => x9 (ix2 l k)) (fun k => x5 (ix2 R k)) (modX x6 R 2)

/-! ## The branches -/

theorem ref_term0 (R : Fin 18432) (k : Fin 1024) : val_main_v12 (F := Ideal) x0 x4 x8 (ix2 R k)
    = term (gX x4 R 0 k) (fun j => x0 (ix2 R j)) (fun j => wX x8 0 j k) := by
  rw [val_main_v12_apply, val_main_v5_apply, val_main_v4_apply, val_main_v11_apply]
  refine congrArg₂ (fun a b : EReal => a * b) ?_ (Finset.sum_congr rfl fun j _ => congrArg₂ (fun a b : EReal => a * b) ?_ ?_)
  · exact congrArg x4 (funext fun a => Fin.ext (by
      match a with
      | ⟨0, _⟩ => rfl
      | ⟨1, _⟩ => first | rfl | (show k.val = 0 * 1024 + k.val; omega)))
  · rw [val_main_v0_apply]
    exact congrArg x0 (funext fun a => Fin.ext (by match a with | ⟨0, _⟩ => rfl | ⟨1, _⟩ => rfl))
  · rw [val_main_v10_apply, val_main_v9_apply]
    exact congrArg x8 (funext fun a => Fin.ext (by
      match a with
      | ⟨0, _⟩ => rfl
      | ⟨1, _⟩ => show (j.val * 1024 + k.val) / 1024 % 512 = j.val; omega
      | ⟨2, _⟩ => show (j.val * 1024 + k.val) % 1024 = k.val; omega))

theorem ref_term1 (R : Fin 18432) (k : Fin 1024) : val_main_v16 (F := Ideal) x1 x4 x8 (ix2 R k)
    = term (gX x4 R 1 k) (fun j => x1 (ix2 R j)) (fun j => wX x8 1 j k) := by
  rw [val_main_v16_apply, val_main_v6_apply, val_main_v4_apply, val_main_v15_apply]
  refine congrArg₂ (fun a b : EReal => a * b) ?_ (Finset.sum_congr rfl fun j _ => congrArg₂ (fun a b : EReal => a * b) ?_ ?_)
  · exact congrArg x4 (funext fun a => Fin.ext (by
      match a with
      | ⟨0, _⟩ => rfl
      | ⟨1, _⟩ => first | rfl | (show 1024 + k.val = 1 * 1024 + k.val; omega)))
  · rw [val_main_v1_apply]
    exact congrArg x1 (funext fun a => Fin.ext (by match a with | ⟨0, _⟩ => rfl | ⟨1, _⟩ => rfl))
  · rw [val_main_v14_apply, val_main_v13_apply]
    exact congrArg x8 (funext fun a => Fin.ext (by
      match a with
      | ⟨0, _⟩ => rfl
      | ⟨1, _⟩ => show (j.val * 1024 + k.val) / 1024 % 512 = j.val; omega
      | ⟨2, _⟩ => show (j.val * 1024 + k.val) % 1024 = k.val; omega))

theorem ref_term2 (R : Fin 18432) (k : Fin 1024) : val_main_v21 (F := Ideal) x2 x4 x8 (ix2 R k)
    = term (gX x4 R 2 k) (fun j => x2 (ix2 R j)) (fun j => wX x8 2 j k) := by
  rw [val_main_v21_apply, val_main_v7_apply, val_main_v4_apply, val_main_v20_apply]
  refine congrArg₂ (fun a b : EReal => a * b) ?_ (Finset.sum_congr rfl fun j _ => congrArg₂ (fun a b : EReal => a * b) ?_ ?_)
  · exact congrArg x4 (funext fun a => Fin.ext (by
      match a with
      | ⟨0, _⟩ => rfl
      | ⟨1, _⟩ => first | rfl | (show 2048 + k.val = 2 * 1024 + k.val; omega)))
  · rw [val_main_v2_apply]
    exact congrArg x2 (funext fun a => Fin.ext (by match a with | ⟨0, _⟩ => rfl | ⟨1, _⟩ => rfl))
  · rw [val_main_v19_apply, val_main_v18_apply]
    exact congrArg x8 (funext fun a => Fin.ext (by
      match a with
      | ⟨0, _⟩ => rfl
      | ⟨1, _⟩ => show (j.val * 1024 + k.val) / 1024 % 512 = j.val; omega
      | ⟨2, _⟩ => show (j.val * 1024 + k.val) % 1024 = k.val; omega))

theorem ref_term3 (R : Fin 18432) (k : Fin 1024) : val_main_v26 (F := Ideal) x3 x4 x8 (ix2 R k)
    = term (gX x4 R 3 k) (fun j => x3 (ix2 R j)) (fun j => wX x8 3 j k) := by
  rw [val_main_v26_apply, val_main_v8_apply, val_main_v4_apply, val_main_v25_apply]
  refine congrArg₂ (fun a b : EReal => a * b) ?_ (Finset.sum_congr rfl fun j _ => congrArg₂ (fun a b : EReal => a * b) ?_ ?_)
  · exact congrArg x4 (funext fun a => Fin.ext (by
      match a with
      | ⟨0, _⟩ => rfl
      | ⟨1, _⟩ => first | rfl | (show 3072 + k.val = 3 * 1024 + k.val; omega)))
  · rw [val_main_v3_apply]
    exact congrArg x3 (funext fun a => Fin.ext (by match a with | ⟨0, _⟩ => rfl | ⟨1, _⟩ => rfl))
  · rw [val_main_v24_apply, val_main_v23_apply]
    exact congrArg x8 (funext fun a => Fin.ext (by
      match a with
      | ⟨0, _⟩ => rfl
      | ⟨1, _⟩ => show (j.val * 1024 + k.val) / 1024 % 512 = j.val; omega
      | ⟨2, _⟩ => show (j.val * 1024 + k.val) % 1024 = k.val; omega))

theorem ref_acc (R : Fin 18432) (k : Fin 1024) :
    val_main_v27 (F := Ideal) x0 x1 x2 x3 x4 x8 (ix2 R k) = accX x0 x1 x2 x3 x4 x8 R k := by
  rw [val_main_v27_apply, val_main_v22_apply, val_main_v17_apply, ref_term0, ref_term1, ref_term2, ref_term3]
  rfl

/-! ## The modulation, token by token -/

theorem cat2 (A : FVec Ideal S16384x6x1024 .f32) (B : FVec Ideal S2048x6x1024 .f32) (R : Fin 18432) (a : Fin 6) (k : Fin 1024) :
    concatenate S18432x6x1024 0 [⟨S16384x6x1024, A⟩, ⟨S2048x6x1024, B⟩] concatenates_S16384x6x1024_S2048x6x1024_S18432x6x1024_d0 (ix3 R a k)
      = if h : R.val < 16384 then A (ix3 ⟨R.val, h⟩ a k) else B (ix3 ⟨R.val - 16384, by omega⟩ a k) := by
  pointwise

theorem ref_mod (R : Fin 18432) (a : Fin 6) (k : Fin 1024) : val_main_v35 (F := Ideal) x6 (ix3 R a k) = modX x6 R a k := by
  refine (cat2 _ _ R a k).trans ?_
  by_cases h : R.val < 16384
  · rw [dif_pos h, val_main_v31_apply, val_main_v30_apply, val_main_v29_apply]
    exact congrArg x6 (funext fun b => Fin.ext (by
      match b with
      | ⟨0, _⟩ => show ((R.val * 6 + a.val) * 1024 + k.val) / 12582912 = if R.val < 16384 then R.val / 2048 else 8; rw [if_pos h]; omega
      | ⟨1, _⟩ => show ((R.val * 6 + a.val) * 1024 + k.val) / 1024 % 6 = a.val; omega
      | ⟨2, _⟩ => show ((R.val * 6 + a.val) * 1024 + k.val) % 1024 = k.val; omega))
  · rw [dif_neg h, val_main_v34_apply, val_main_v33_apply, val_main_v32_apply]
    exact congrArg x6 (funext fun b => Fin.ext (by
      match b with
      | ⟨0, _⟩ => show 8 + 0 = if R.val < 16384 then R.val / 2048 else 8; rw [if_neg h]
      | ⟨1, _⟩ => show (((R.val - 16384) * 6 + a.val) * 1024 + k.val) / 1024 % 6 = a.val; omega
      | ⟨2, _⟩ => show (((R.val - 16384) * 6 + a.val) * 1024 + k.val) % 1024 = k.val; omega))

theorem ref_mod3 (R : Fin 18432) (k : Fin 1024) : val_main_v37 (F := Ideal) x6 (ix2 R k) = modX x6 R 3 k := by
  rw [val_main_v37_apply, val_main_v36_apply]
  refine Eq.trans (congrArg (val_main_v35 (F := Ideal) x6) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod x6 R 3 k)

theorem ref_mod4 (R : Fin 18432) (k : Fin 1024) : val_main_v39 (F := Ideal) x6 (ix2 R k) = modX x6 R 4 k := by
  rw [val_main_v39_apply, val_main_v38_apply]
  refine Eq.trans (congrArg (val_main_v35 (F := Ideal) x6) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod x6 R 4 k)

theorem ref_mod2 (R : Fin 18432) (k : Fin 1024) : val_main_v41 (F := Ideal) x6 (ix2 R k) = modX x6 R 2 k := by
  rw [val_main_v41_apply, val_main_v40_apply]
  refine Eq.trans (congrArg (val_main_v35 (F := Ideal) x6) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod x6 R 2 k)

/-! ## The two results -/

theorem ref_x1 (R : Fin 18432) (k : Fin 1024) :
    val_main_v43 (F := Ideal) x0 x1 x2 x3 x4 x5 x6 x8 x9 (ix2 R k) = x1X x0 x1 x2 x3 x4 x5 x6 x8 x9 R k := by
  rw [val_main_v43_apply, val_main_v42_apply, ref_mod2, val_main_v28_apply]
  refine congrArg₂ (fun a b : EReal => a + b) rfl (congrArg₂ (fun a b : EReal => a * b) rfl
    (Finset.sum_congr rfl fun l _ => congrArg₂ (fun a b : EReal => a * b) ?_ ?_))
  · refine Eq.trans (congrArg (val_main_v27 (F := Ideal) x0 x1 x2 x3 x4 x8) (funext fun b => Fin.ext (by
      match b with | ⟨0, _⟩ => rfl | ⟨1, _⟩ => rfl))) (ref_acc x0 x1 x2 x3 x4 x8 R l)
  · exact congrArg x9 (funext fun b => Fin.ext (by match b with | ⟨0, _⟩ => rfl | ⟨1, _⟩ => rfl))

theorem one_word : (FloatOps.ofBits (F := Ideal) .f32 0x3F800000#32 : EReal) = 1 := by
  pointwise

theorem zero_word : (FloatOps.ofBits (F := Ideal) .f32 0x00000000#32 : EReal) = 0 := by
  pointwise

theorem ref_norm (R : Fin 18432) (k : Fin 1024) :
    val_main_v52 (F := Ideal) x0 x1 x2 x3 x4 x5 x6 x8 x9 (ix2 R k)
      = Ideal.rsqrt (Ideal.div (∑ l, x1X x0 x1 x2 x3 x4 x5 x6 x8 x9 R l * x1X x0 x1 x2 x3 x4 x5 x6 x8 x9 R l)
          (Ideal.ofBits FTy.f32 0x44800000#32) + Ideal.ofBits FTy.f32 0x358637BD#32) := by
  rw [val_main_v52_apply, val_main_v51_apply, val_main_v50_apply, val_main_v48_apply, val_main_v46_apply, val_main_v45_apply,
    val_main_v47_apply, val_main_cst_0_apply, val_main_v49_apply, val_main_cst_1_apply, val_main_cst_apply]
  have e : (∑ l : Fin 1024, val_main_v44 (F := Ideal) x0 x1 x2 x3 x4 x5 x6 x8 x9 (idx_main_v45 (idx_main_v46 (idx_main_v52 (ix2 R k))) l) : EReal)
      = ∑ l, x1X x0 x1 x2 x3 x4 x5 x6 x8 x9 R l * x1X x0 x1 x2 x3 x4 x5 x6 x8 x9 R l := by
    refine Finset.sum_congr rfl fun l _ => ?_
    rw [val_main_v44_apply]
    have i : val_main_v43 (F := Ideal) x0 x1 x2 x3 x4 x5 x6 x8 x9 (idx_main_v45 (idx_main_v46 (idx_main_v52 (ix2 R k))) l)
        = x1X x0 x1 x2 x3 x4 x5 x6 x8 x9 R l :=
      (congrArg (val_main_v43 (F := Ideal) x0 x1 x2 x3 x4 x5 x6 x8 x9) (funext fun b => Fin.ext (by
        match b with | ⟨0, _⟩ => rfl | ⟨1, _⟩ => rfl))).trans (ref_x1 x0 x1 x2 x3 x4 x5 x6 x8 x9 R l)
    rw [i]
    rfl
  rw [e, zero_word, zero_add]
  rfl

theorem ref_h2 (R : Fin 18432) (k : Fin 1024) :
    val_main_v61 (F := Ideal) x0 x1 x2 x3 x4 x5 x6 x7 x8 x9 (ix2 R k)
      = modNorm (x1X x0 x1 x2 x3 x4 x5 x6 x8 x9 R) (fun k => x7 (ix1 k)) (modX x6 R 4) (modX x6 R 3) k := by
  rw [val_main_v61_apply, val_main_v60_apply, val_main_v59_apply, val_main_v56_apply, val_main_v53_apply, ref_x1, ref_norm,
    val_main_v55_apply, val_main_v54_apply, val_main_v58_apply, val_main_v57_apply, val_main_cst_2_apply, ref_mod4, ref_mod3, one_word]
  refine congrArg₂ (fun a b : EReal => a + b) (congrArg₂ (fun a b : EReal => a * b) (congrArg₂ (fun a b : EReal => a * b) rfl ?_) rfl) rfl
  exact congrArg x7 (funext fun b => Fin.ext (by match b with | ⟨0, _⟩ => rfl))

/-- The reference runs, keeps its arguments, and has no counter that could be left standing. -/
theorem ref_frame : Cert.quiescent_Reference3Ideal := fun m ρ _ =>
  (θ_run _ _ _).mono (fun r h => ⟨fun c => (h c).2.2, sem_eq_zero_of_no_sems (by decide) r.2⟩) (Cert.Reference3Ideal.Value.run m ρ)

/-- The packed pairs of the kernel's third array are the two halves: each of the four rewrites is a fact of the library. -/
theorem preserves : Cert.preserves_Kernel3_Kernel3Ideal :=
  ⟨IdealRules.bf16_pair.bufferStatement _ _, IdealRules.bf16_pair.bufferStatement _ _, IdealRules.bf16_pair.packStatement _,
    IdealRules.bf16_pair.statement _ _⟩

theorem algebraic : Cert.algebraic_Kernel3Ideal_Reference3Ideal := by
  intro m g m' g' _ hargs
  refine ⟨fun c => resX m c, fun c => resH m c, ?_, ?_⟩
  · refine (θ_run _ _ _).mono (fun r h c => ?_) (Cert.Kernel3Ideal.Value.run_blocks m g)
    exact ⟨(h c).1.trans (final_x1 m c), (h c).2.1.trans (final_h2 m c), (h c).2.2.2⟩
  · refine (θ_run _ _ _).mono (fun r h c => ?_) (Cert.Reference3Ideal.Value.run m' g')
    obtain ⟨h0, h1, h2, h3, h4, h5, h6, h7, h8, h9⟩ := hargs c
    refine ⟨(h c).1.trans ?_, (h c).2.1.trans ?_, (h c).2.2⟩
    · refine (val_main_v43_eq _ _ _ _ _ _ _ _ _).trans ?_
      rw [h0, h1, h2, h3, h4, h5, h6, h8, h9]
      funext i
      obtain ⟨R, k, rfl⟩ : ∃ (R : Fin 18432) (k : Fin 1024), i = ix2 R k := ⟨i 0, i 1, eq_ix2 i⟩
      exact ref_x1 _ _ _ _ _ _ _ _ _ R k
    · rw [val_main_v61_eq, h0, h1, h2, h3, h4, h5, h6, h7, h8, h9]
      funext i
      obtain ⟨R, k, rfl⟩ : ∃ (R : Fin 18432) (k : Fin 1024), i = ix2 R k := ⟨i 0, i 1, eq_ix2 i⟩
      exact ref_h2 _ _ _ _ _ _ _ _ _ _ R k

end Cert.Merge

end
-- ==== Proof.Plain.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.RunRead
public import Idealize.ShloMosaic.Lib.Claim

/-! The projection onto the convolution's and the pooling's columns. -/

@[expose] public section

set_option maxRecDepth 16384

noncomputable section

namespace Cert.Plain

open Idealize.ShloMosaic Idealize.ShloMosaic.TcCoe Cert.Kernel4Ideal Cert.Kernel4Ideal.Gen Idealize.ShloMosaic.Tactic
open Idealize.SL.Sem

variable (m : (ℓ : Loc nD τ sig) → Buf (Elt Ideal) ℓ) (c : Dev nD)

/-- One block of the product: a sum over the model's width. -/
theorem pay_apply (A : Vec Ideal S1024x1024 .bf16) (W : Vec Ideal S1024x768 .bf16) (r : Fin 1024) (k : Fin 768) :
    k0_pay1 A W (ix2 r k) = ∑ j : Fin 1024, A (ix2 r j) * W (ix2 j k) := by
  pointwise [k0_pay1]

theorem V_w {F : FTy → Type} [FloatOps F] (m : (ℓ : Loc nD τ sig) → Buf (Elt F) ℓ) :
    V m c main_v1 = extractStridedSlice S1024x1536 ![0, 2304] (truncf .bf16 (m ((c : Thread nD τ).loc main_arg1)) bitsLt_bf16_f32)
    slices_S1024x3840_S1024x1536_0_2304 := by
  entry_read
  rfl

/-- A token's channel. -/
def tokM (R : Fin 18432) (j : Fin 1024) : EReal := m ((c : Thread nD τ).loc main_arg0) (ix2 R j)

/-- A weight. -/
def wM (j : Fin 1024) (k : Fin 3840) : EReal := m ((c : Thread nD τ).loc main_arg1) (ix2 j k)

/-- The product at a token and a column, of the weights' columns from 2304 on. -/
def res (i : S18432x1536.Idx) : EReal :=
  ∑ j : Fin 1024, tokM m c (i 0) j * wM m c j ⟨2304 + (i 1).val, by have : (i 1).val < 1536 := (i 1).isLt; omega⟩

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem tok (t : Fin cfg0.N) (r j : Fin 1024) :
    iblk m c 0 t (ix2 r j) = tokM m c ⟨t.val / 2 * 1024 + r.val, by have : t.val < 36 := t.isLt; omega⟩ j := by
  have ht : t.val < 36 := t.isLt
  have e : (win0_0.blk t).view.emb (ix2 r j) = ix2 ⟨t.val / 2 * 1024 + r.val, by omega⟩ j := by
    blk_ext [index0 t]
  unfold iblk
  rw [V_main_arg0]
  blk_simp [e]
  rfl

theorem wt (t : Fin cfg0.N) (j : Fin 1024) (k : Fin 768) :
    iblk m c 1 t (ix2 j k) = wM m c j ⟨2304 + (t.val % 2 * 768 + k.val), by omega⟩ := by
  have e : (win0_1.blk t).view.emb (ix2 j k) = ix2 j ⟨t.val % 2 * 768 + k.val, by omega⟩ := by
    blk_ext [index1 t]
  unfold iblk
  rw [V_w]
  blk_simp [e]
  pointwise
  rfl

theorem final_eq : (dats m 0 c).arrAt 2 cfg0.N = res m c := by
  refine (dats m 0 c).arrAt_eq_of_covers 2 _ (by decide +kernel) fun t hf y => ?_
  blk_simp
  rw [after0_2]
  have ht : t.val < 36 := t.isLt
  have hy : (y 0).val < 1024 := (y 0).isLt
  have hz : (y 1).val < 768 := (y 1).isLt
  have e : (win0_2.blk t).view.emb y = ix2 ⟨t.val / 2 * 1024 + (y 0).val, by omega⟩ ⟨t.val % 2 * 768 + (y 1).val, by omega⟩ := by
    blk_ext [index2 t]
  rw [e]
  frame_out
  obtain ⟨r, k, rfl⟩ : ∃ (r : Fin 1024) (k : Fin 768), y = ix2 r k := ⟨y 0, y 1, eq_ix2 y⟩
  refine (pay_apply _ _ r k).trans (Finset.sum_congr rfl fun j _ => ?_)
  pointwise
  rw [tok, wt]

/-- The reference's result is the same sum. -/
theorem ref_eq : Cert.Reference4Ideal.Read.val_main_v3 (F := Ideal) (m ((c.tc : Thread nD τ).loc main_arg0)) (m ((c.tc : Thread nD τ).loc main_arg1))
    = res m c := by
  funext i
  obtain ⟨R, k, rfl⟩ : ∃ (R : Fin 18432) (k : Fin 1536), i = ix2 R k := ⟨i 0, i 1, eq_ix2 i⟩
  refine (Cert.Reference4Ideal.Read.val_main_v2_apply _ _ _).trans ((Cert.Reference4Ideal.Read.val_main_v1_apply _ _ _).trans ?_)
  refine Finset.sum_congr rfl fun j _ => congrArg₂ (fun a b : EReal => a * b) ?_ ?_
  · exact congrArg (m ((c : Thread nD τ).loc main_arg0)) (funext fun a => Fin.ext (by match a with | ⟨0, _⟩ => rfl | ⟨1, _⟩ => rfl))
  · exact congrArg (m ((c : Thread nD τ).loc main_arg1)) (funext fun a => Fin.ext (by match a with | ⟨0, _⟩ => rfl | ⟨1, _⟩ => rfl))

/-- The reference runs, keeps its arguments, and has no counter that could be left standing. -/
theorem ref_frame : Cert.quiescent_Reference4Ideal := fun m ρ _ =>
  (θ_run _ _ _).mono (fun r h => ⟨fun c => (h c).2, sem_eq_zero_of_no_sems (by decide) r.2⟩) (Cert.Reference4Ideal.Value.run m ρ)

theorem algebraic : Cert.algebraic_Kernel4Ideal_Reference4Ideal := by
  intro m g m' g' _ hargs
  refine ⟨fun c => res m c, ?_, ?_⟩
  · refine (θ_run _ _ _).mono (fun r h c => ?_) (Cert.Kernel4Ideal.Value.run_blocks m g)
    exact ⟨(h c).1.trans (final_eq m c), (h c).2⟩
  · refine (θ_run _ _ _).mono (fun r h c => ?_) (Cert.Reference4Ideal.Value.run m' g')
    refine ⟨(h c).1.trans ?_, (h c).2⟩
    obtain ⟨h0, h1⟩ := hargs c
    rw [Cert.Reference4Ideal.Read.val_main_v3_eq, h0, h1]
    exact ref_eq m c

end Cert.Plain

end
-- ==== Proof.RopeMath.lean ====
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.StableHlo.RunRead
public import Idealize.ShloMosaic.Lib.KernelVsHost

/-! The rotation of a projection's columns by their positions: what the six lane groups of a block store. -/

@[expose] public section

set_option maxRecDepth 16384

noncomputable section

namespace Cert.Rope

open Idealize.ShloMosaic Idealize.ShloMosaic.TcCoe Cert.Kernel5Ideal Cert.Kernel5Ideal.Gen Idealize.ShloMosaic.Tactic

/-- One block of the product: a sum over the model's width. -/
theorem prod_apply (A : Vec Ideal S1024x1024 .bf16) (W : Vec Ideal S1024x768 .bf16) (r : Fin 1024) (k : Fin 768) :
    k0_pay1 A W (ix2 r k) = ∑ j : Fin 1024, A (ix2 r j) * W (ix2 j k) := by
  pointwise [k0_pay1]

/-- Whether a lane is in the first half of its head, as the kernel computes it from the lane's number. -/
def mask (w : BitVec 32) : BitVec 1 :=
  let h : BitVec 32 := Scalar.select (Scalar.cmpi CmpIPredicate.eq 64#32 0#32) 1#32 64#32
  let q : BitVec 32 := IntOp.remsi ArithUnit.vector w h
  IntOp.cmpi CmpIPredicate.slt
    (Scalar.select (IntOp.andi (IntOp.xori (IntOp.cmpi CmpIPredicate.slt q 0#32) (Scalar.cmpi CmpIPredicate.slt h 0#32))
      (IntOp.cmpi CmpIPredicate.ne q 0#32)) (IntOp.addi q h) q) 32#32

theorem mask_eq : ∀ l : Fin 128, mask (BitVec.ofNat 32 l.val) = if l.val % 64 < 32 then 1#1 else 0#1 := by decide +kernel

theorem pay4_apply (a c s : FVec Ideal S1024x128 .f32) (r : Fin 1024) (l : Fin 128) :
    k0_pay4 a c s (ix2 r l) = a (ix2 r l) * c (ix2 r l)
      + (if l.val % 64 < 32 then a (ix2 r ⟨(l.val + 32) % 128, by omega⟩) else a (ix2 r ⟨(l.val + 96) % 128, by omega⟩)) * s (ix2 r l) := by
  pointwise [k0_pay4]
  refine congrArg₂ (fun a b : EReal => a + b) rfl (congrArg₂ (fun a b : EReal => a * b) ?_ rfl)
  refine (congrArg (fun b : BitVec 1 => Scalar.select b _ _) (mask_eq l)).trans ?_
  by_cases h : l.val % 64 < 32
  · simp only [if_pos h]
    refine Eq.trans (b := a (ix2 r ⟨(l.val + 128 - 96) % 128, by omega⟩)) rfl (congrArg a (congrArg (ix2 r) (Fin.ext ?_)))
    show (l.val + 128 - 96) % 128 = (l.val + 32) % 128
    omega
  · simp only [if_neg h]
    refine Eq.trans (b := a (ix2 r ⟨(l.val + 128 - 32) % 128, by omega⟩)) rfl (congrArg a (congrArg (ix2 r) (Fin.ext ?_)))
    show (l.val + 128 - 32) % 128 = (l.val + 96) % 128
    omega

section
variable {F : FTy → Type} [FloatOps F] (v0 : Vec F S1024x1024 .bf16) (v1 : Vec F S1024x768 .bf16) (v3 : FVec F S1024x768 .f32) (c s : Vec F S1024x128 .f32)
theorem piece0 : k0_pay2 v0 v1 c s = k0_pay4 (extractStridedSlice S1024x128 ![0, 0] (k0_pay1 v0 v1) slices_S1024x768_o0_0_S1024x128) c s := rfl
theorem piece1 : k0_pay4 (k0_pay3 v0 v1) c s = k0_pay4 (extractStridedSlice S1024x128 ![0, 128] (k0_pay1 v0 v1) slices_S1024x768_o0_128_S1024x128) c s := rfl
theorem piece2 : k0_pay8 (k0_pay5 v3) (Scalar.select (Scalar.cmpi .eq 64#32 0#32) 1#32 64#32) k0_pay6 k0_pay7 0#32 c s
    = k0_pay4 (extractStridedSlice S1024x128 ![0, 256] v3 slices_S1024x768_o0_256_S1024x128) c s := rfl
theorem piece3 : k0_pay11 (k0_pay9 v3) k0_pay10 32#32 c s = k0_pay4 (extractStridedSlice S1024x128 ![0, 384] v3 slices_S1024x768_o0_384_S1024x128) c s := rfl
theorem piece4 : k0_pay15 (k0_pay13 v3) (k0_pay14 v3 c) s = k0_pay4 (extractStridedSlice S1024x128 ![0, 512] v3 slices_S1024x768_o0_512_S1024x128) c s := rfl
theorem piece5 : k0_pay16 v3 c s = k0_pay4 (extractStridedSlice S1024x128 ![0, 640] v3 slices_S1024x768_o0_640_S1024x128) c s := rfl
end

/-- Column `k` of a row, turned: a head's columns come in two halves of 32, each with its partner in the other. -/
def turn (A C S : ℕ → EReal) (k : ℕ) : EReal := A k * C k + (if k % 64 < 32 then A (k + 32) else A (k - 32)) * S k

/-- One lane group of a block whose columns begin at `p`. -/
theorem piece_apply (A C S : ℕ → EReal) (p : ℕ) (hp : p % 128 = 0) (a : FVec Ideal S1024x768 .f32) (X Y : Vec Ideal S1024x768 .f32)
    (o : ℕ) (ho : o % 128 = 0) (ho' : o + 128 ≤ 768)
    (hs : S1024x768.Slices ![0, o] S1024x128) (inb) (inb') (x : S1024x128.Idx) (k : Fin 768) (hk : k.val = o + (x 1).val)
    (hA : ∀ k : Fin 768, a (ix2 (x 0) k) = A (p + k.val)) (hC : ∀ k : Fin 768, X (ix2 (x 0) k) = C (p + k.val))
    (hS : ∀ k : Fin 768, Y (ix2 (x 0) k) = S (p + k.val)) :
    k0_pay4 (extractStridedSlice S1024x128 ![0, o] a hs) (View.ld X (Rect.unit (s := S1024x768) ![0, o] ![1024, 128] inb))
      (View.ld Y (Rect.unit (s := S1024x768) ![0, o] ![1024, 128] inb')) x
      = turn A C S (p + k.val) := by
  obtain ⟨r, l, rfl⟩ : ∃ (r : Fin 1024) (l : Fin 128), x = ix2 r l := ⟨x 0, x 1, eq_ix2 x⟩
  have hk : k.val = o + l.val := hk
  have hA : ∀ k : Fin 768, a (ix2 r k) = A (p + k.val) := hA
  have hC : ∀ k : Fin 768, X (ix2 r k) = C (p + k.val) := hC
  have hS : ∀ k : Fin 768, Y (ix2 r k) = S (p + k.val) := hS
  have eA : ∀ (d : Fin 128) (q : ℕ), q = p + (o + d.val) → extractStridedSlice S1024x128 ![0, o] a hs (ix2 r d) = A q := fun d q h =>
    (congrArg a (funext fun b => by
      fin_cases b
      · exact Fin.ext (by show 0 + r.val = r.val; omega)
      · rfl : _ = ix2 r ⟨o + d.val, by omega⟩)).trans ((hA _).trans (congrArg A h.symm))
  have eL : ∀ (Z : Vec Ideal S1024x768 .f32) (inb), View.ld Z (Rect.unit (s := S1024x768) ![0, o] ![1024, 128] inb) (ix2 r l) = Z (ix2 r k) :=
    fun Z inb => View.ld_unit_apply_of Z ![0, o] ![1024, 128] inb (ix2 r l) (ix2 r k) (fun b => by
      fin_cases b
      · show r.val = 0 + r.val; omega
      · exact hk)
  rw [pay4_apply, eL, eL, hC, hS, eA l (p + k.val) (by omega)]
  unfold turn
  refine congrArg₂ (fun a b : EReal => a + b) rfl (congrArg₂ (fun a b : EReal => a * b) ?_ rfl)
  by_cases h : l.val % 64 < 32
  · rw [if_pos h, if_pos (by omega : (p + k.val) % 64 < 32)]
    exact eA _ _ (by show p + k.val + 32 = p + (o + (l.val + 32) % 128); omega)
  · rw [if_neg h, if_neg (by omega : ¬(p + k.val) % 64 < 32)]
    exact eA _ _ (by show p + k.val - 32 = p + (o + (l.val + 96) % 128); omega)

/-- A block's stores: every column turned. -/
theorem out_apply (A C S : ℕ → EReal) (p : ℕ) (hp : p % 128 = 0) (x0 : Vec Ideal S1024x1024 .bf16) (x1 : Vec Ideal S1024x768 .bf16)
    (x2 x3 : Vec Ideal S1024x768 .f32) (y : S1024x768.Idx)
    (hA : ∀ k : Fin 768, (∑ j : Fin 1024, x0 (ix2 (y 0) j) * x1 (ix2 j k) : EReal) = A (p + k.val))
    (hC : ∀ k : Fin 768, x2 (ix2 (y 0) k) = C (p + k.val)) (hS : ∀ k : Fin 768, x3 (ix2 (y 0) k) = S (p + k.val)) :
    out0_4 x0 x1 x2 x3 y = turn A C S (p + (y 1).val) := by
  have e0 : View.ld x0 r0_0 = x0 := View.ld_unit_lit _ _ (by decide)
  have e1 : View.ld x1 r0_1 = x1 := View.ld_unit_lit _ _ (by decide)
  have hA : ∀ k : Fin 768, k0_pay1 x0 x1 (ix2 (y 0) k) = A (p + k.val) := fun k => (prod_apply x0 x1 (y 0) k).trans (hA k)
  unfold_out out0_4
  rw [e0, e1, piece0, piece1, piece2, piece3, piece4, piece5]
  canon_tiles x h
  all_goals have hx : y 0 = x 0 := Fin.ext h0
  all_goals rw [hx] at hA hC hS
  · exact piece_apply A C S p hp _ _ _ 640 (by decide) (by decide) _ _ _ x (y 1) h1 hA hC hS
  · exact piece_apply A C S p hp _ _ _ 512 (by decide) (by decide) _ _ _ x (y 1) h1 hA hC hS
  · exact piece_apply A C S p hp _ _ _ 384 (by decide) (by decide) _ _ _ x (y 1) h1 hA hC hS
  · exact piece_apply A C S p hp _ _ _ 256 (by decide) (by decide) _ _ _ x (y 1) h1 hA hC hS
  · exact piece_apply A C S p hp _ _ _ 128 (by decide) (by decide) _ _ _ x (y 1) h1 hA hC hS
  · exact piece_apply A C S p hp _ _ _ 0 (by decide) (by decide) _ _ _ x (y 1) (h1.trans (Nat.zero_add _).symm) hA hC hS

/-! ## The positions' angles -/

/-- A position's angle at a frequency is the reference's own table; its cosine and sine. -/
def cosN (P f : ℕ) : EReal := if h : P < 2048 ∧ f < 32 then Cert.Reference5Ideal.Read.val_main_v24 (F := Ideal) (ix2 ⟨P, h.1⟩ ⟨f, h.2⟩) else 0
def sinN (P f : ℕ) : EReal := if h : P < 2048 ∧ f < 32 then Cert.Reference5Ideal.Read.val_main_v25 (F := Ideal) (ix2 ⟨P, h.1⟩ ⟨f, h.2⟩) else 0

/-- The tables' rows: the first `Q` columns of the first 2048 rows turn, the others stay. -/
def cosAt (Q P k : ℕ) : EReal := if P < 2048 ∧ k < Q then cosN P (k % 32) else 1
def sinAt (Q P k : ℕ) : EReal := if P < 2048 ∧ k < Q then (if k % 64 < 32 then -sinN P (k % 32) else sinN P (k % 32)) else 0

/-- A row rotated by its position: heads of 64 columns, two halves of 32. -/
def rope (Q : ℕ) (A : ℕ → EReal) (P k : ℕ) : EReal :=
  if P < 2048 ∧ k < Q then
    if k % 64 < 32 then A k * cosN P (k % 32) - A (k + 32) * sinN P (k % 32) else A k * cosN P (k % 32) + A (k - 32) * sinN P (k % 32)
  else A k

theorem turn_eq (Q : ℕ) (A : ℕ → EReal) (P k : ℕ) : turn A (cosAt Q P) (sinAt Q P) k = rope Q A P k := by
  unfold turn cosAt sinAt rope
  by_cases h : P < 2048 ∧ k < Q
  · simp only [if_pos h]
    by_cases h' : k % 64 < 32
    · simp only [if_pos h']
      rw [mul_neg, ← sub_eq_add_neg]
    · simp only [if_neg h']
  · simp only [if_neg h, mul_one, mul_zero, add_zero]

/-- A token's position: its place in its sequence; the context has none (any row past the sequence's). -/
def pos (R : ℕ) : ℕ := if R < 16384 then R % 2048 else 2048 + R % 1024

/-! ## The two halves of a head's table -/

/-- Two tables of 32 columns side by side. -/
theorem pair_apply (X Y : FVec Ideal S2048x32 .f32) (P : Fin 2048) (d : Fin 64) :
    concatenate S2048x64 1 [⟨S2048x32, X⟩, ⟨S2048x32, Y⟩] concatenates_S2048x32_S2048x32_S2048x64_d1 (ix2 P d)
      = if h : d.val < 32 then X (ix2 P ⟨d.val, h⟩) else Y (ix2 P ⟨d.val - 32, by omega⟩) := by
  pointwise

def headCos {F : FTy → Type} [FloatOps F] : FVec F S2048x64 .f32 :=
  concatenate S2048x64 1 [⟨S2048x32, Cert.Reference5Ideal.Read.val_main_v24⟩, ⟨S2048x32, Cert.Reference5Ideal.Read.val_main_v24⟩]
    concatenates_S2048x32_S2048x32_S2048x64_d1

def headSin {F : FTy → Type} [FloatOps F] : FVec F S2048x64 .f32 :=
  concatenate S2048x64 1 [⟨S2048x32, Host.negf (Cert.Reference5Ideal.Read.val_main_v25 : FVec F S2048x32 .f32)⟩,
    ⟨S2048x32, Cert.Reference5Ideal.Read.val_main_v25⟩] concatenates_S2048x32_S2048x32_S2048x64_d1

theorem cosN_of (P : Fin 2048) (f : Fin 32) (n : ℕ) (hn : n = f.val) : cosN P.val n = Cert.Reference5Ideal.Read.val_main_v24 (F := Ideal) (ix2 P f) := by
  subst hn
  exact dif_pos ⟨P.isLt, f.isLt⟩

theorem sinN_of (P : Fin 2048) (f : Fin 32) (n : ℕ) (hn : n = f.val) : sinN P.val n = Cert.Reference5Ideal.Read.val_main_v25 (F := Ideal) (ix2 P f) := by
  subst hn
  exact dif_pos ⟨P.isLt, f.isLt⟩

theorem headCos_apply (P : Fin 2048) (d : Fin 64) : headCos (F := Ideal) (ix2 P d) = cosN P.val (d.val % 32) := by
  refine (pair_apply _ _ P d).trans ?_
  by_cases h : d.val < 32
  · rw [dif_pos h]
    exact (cosN_of P ⟨d.val, h⟩ _ (by show d.val % 32 = d.val; omega)).symm
  · rw [dif_neg h]
    exact (cosN_of P ⟨d.val - 32, by omega⟩ _ (by show d.val % 32 = d.val - 32; omega)).symm

theorem headSin_apply (P : Fin 2048) (d : Fin 64) :
    headSin (F := Ideal) (ix2 P d) = if d.val < 32 then -sinN P.val (d.val % 32) else sinN P.val (d.val % 32) := by
  refine (pair_apply _ _ P d).trans ?_
  by_cases h : d.val < 32
  · rw [dif_pos h, if_pos h, sinN_of P ⟨d.val, h⟩ _ (by show d.val % 32 = d.val; omega)]
    rfl
  · rw [dif_neg h, if_neg h]
    exact (sinN_of P ⟨d.val - 32, by omega⟩ _ (by show d.val % 32 = d.val - 32; omega)).symm

/-! ## A host line read one value at a time -/

section
open Idealize.ShloMosaic.StableHlo
variable {τ : Topo} {sig : RefSig} {Val : EltTy → Type} {ops rest : List (HloOp τ sig Val)} {i : ℕ}

/-- Contents that the rest of the line does not write are those the whole line leaves. -/
theorem upto_kept (W : List (Ref sig .tc)) {r : Ref sig .tc} (hW : (ops.drop i).map HloOp.writes = W.map fun w => {Proc.devRef (τ := τ) .tc w})
    (hr : r ∉ W) (V : Valuation τ sig Val) : upto ops V i (Proc.devRef .tc r) = after ops V (Proc.devRef .tc r) := by
  have h : ∀ (l₁ l₂ : List (HloOp τ sig Val)) (V : Valuation τ sig Val), after (l₁ ++ l₂) V = after l₂ (after l₁ V) := fun l₁ => by
    induction l₁ with
    | nil => exact fun _ _ => rfl
    | cons op l ih => exact fun l₂ V => ih l₂ _
  have e := h (ops.take i) (ops.drop i) V
  rw [List.take_append_drop] at e
  rw [e, after_unwritten W hW hr]
  rfl

/-- A value of two operands, each left as it was by what follows. -/
theorem read_binary {a b y : Ref sig .tc} (f : a.ty.Contents Val → b.ty.Contents Val → y.ty.Contents Val) {ha hb hy} (W : List (Ref sig .tc))
    (hseg : ops.drop i = binary (τ := τ) a b y f ha hb hy :: rest) (hW : rest.map HloOp.writes = W.map fun w => {Proc.devRef (τ := τ) .tc w})
    (hy' : y ∉ W) (ha' : a ∉ y :: W) (hb' : b ∉ y :: W) (V : Valuation τ sig Val) :
    after ops V (Proc.devRef .tc y) = f (after ops V (Proc.devRef .tc a)) (after ops V (Proc.devRef .tc b)) := by
  have hW' : (ops.drop i).map HloOp.writes = (y :: W).map fun w => {Proc.devRef (τ := τ) .tc w} := by
    rw [hseg, List.map_cons, hW]; rfl
  rw [after_last_write W hseg hW hy' V, binary_result', upto_kept _ hW' ha', upto_kept _ hW' hb']

/-- A value of several operands, each left as it was by what follows. -/
theorem read_nary {n : ℕ} (xs : Fin n → Ref sig .tc) {y : Ref sig .tc} (f : ((k : Fin n) → (xs k).ty.Contents Val) → y.ty.Contents Val) {hxs hy}
    (W : List (Ref sig .tc)) (hseg : ops.drop i = nary (τ := τ) xs y f hxs hy :: rest)
    (hW : rest.map HloOp.writes = W.map fun w => {Proc.devRef (τ := τ) .tc w}) (hy' : y ∉ W) (hx' : ∀ k, xs k ∉ y :: W) (V : Valuation τ sig Val) :
    after ops V (Proc.devRef .tc y) = f fun k => after ops V (Proc.devRef .tc (xs k)) := by
  have hW' : (ops.drop i).map HloOp.writes = (y :: W).map fun w => {Proc.devRef (τ := τ) .tc w} := by
    rw [hseg, List.map_cons, hW]; rfl
  rw [after_last_write W hseg hW hy' V, nary_result']
  exact congrArg f (funext fun k => upto_kept _ hW' (hx' k) V)
end

/-! ## The tokens and the weights, by their numbers -/

/-- The product at a token and a column of the weights, the columns counted from `o`. -/
def col (x : (⟨S18432x1024, .bf16⟩ : BufTy).Contents (Elt Ideal)) (w : (⟨S1024x3840, .f32⟩ : BufTy).Contents (Elt Ideal)) (o : ℕ)
    (R : Fin 18432) (k : ℕ) : EReal :=
  ∑ j : Fin 1024, (x (ix2 R j) : EReal) * (if h : o + k < 3840 then (w (ix2 j ⟨o + k, h⟩) : EReal) else 0)

end Cert.Rope

end
-- ==== Proof.Rope5.lean ====
module

public import proofs.«01_k».proof.Defs
public import proofs.«01_k».proof.Proof.Gen.Kernel5Ideal.Value
public import proofs.«01_k».proof.Proof.RopeMath
public import Idealize.ShloMosaic.Lib.Pipeline.ValueKit
public import Idealize.ShloMosaic.Lib.StableHlo.RunRead

/-! The kernel of the projection onto 1536 columns, the first 1024 rotated by position: its result. -/

@[expose] public section

set_option maxRecDepth 16384

noncomputable section

namespace Cert.Rope5

open Idealize.ShloMosaic Idealize.ShloMosaic.TcCoe Cert.Kernel5Ideal Cert.Kernel5Ideal.Gen Idealize.ShloMosaic.Tactic Cert.Rope

variable (m : (ℓ : Loc nD τ sig) → Buf (Elt Ideal) ℓ) (c : Dev nD)

/-! ## The tables -/

theorem cat16 (H : FVec Ideal S2048x64 .f32) (P : Fin 2048) (k : Fin 1024) :
    concatenate S2048x1024 1 [⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩]
      concatenates_S2048x64_S2048x64_S2048x64_S2048x64_S2048x64_S2048x64_S2048x64_S2048x64_S2048x64_S2048x64_S2048x64_S2048x64_S2048x64_S2048x64_S2048x64_S2048x64_S2048x1024_d1 (ix2 P k)
      = H (ix2 P ⟨k.val % 64, by omega⟩) := by
  exact concatenate_replicate_apply (t := S2048x1024) (s₁ := S2048x64) 1 16 H _ rfl (ix2 P k) (ix2 P ⟨k.val % 64, by omega⟩) rfl
    fun b hb => by
      fin_cases b
      · rfl
      · exact absurd rfl hb

theorem cat8 (H : FVec Ideal S2048x64 .f32) (P : Fin 2048) (k : Fin 512) :
    concatenate S2048x512 1 [⟨S2048x64, H⟩, ⟨S2048x64, H⟩, ⟨S2048x64, H⟩, ⟨S2048x64, H⟩, ⟨S2048x64, H⟩, ⟨S2048x64, H⟩, ⟨S2048x64, H⟩, ⟨S2048x64, H⟩]
      concatenates_S2048x64_S2048x64_S2048x64_S2048x64_S2048x64_S2048x64_S2048x64_S2048x64_S2048x512_d1 (ix2 P k)
      = H (ix2 P ⟨k.val % 64, by omega⟩) := by
  exact concatenate_replicate_apply (t := S2048x512) (s₁ := S2048x64) 1 8 H _ rfl (ix2 P k) (ix2 P ⟨k.val % 64, by omega⟩) rfl
    fun b hb => by
      fin_cases b
      · rfl
      · exact absurd rfl hb

theorem cat2 (X : FVec Ideal S2048x1024 .f32) (Y : FVec Ideal S2048x512 .f32) (P : Fin 2048) (k : Fin 1536) :
    concatenate S2048x1536 1 [⟨S2048x1024, X⟩, ⟨S2048x512, Y⟩] concatenates_S2048x1024_S2048x512_S2048x1536_d1 (ix2 P k)
      = if h : k.val < 1024 then X (ix2 P ⟨k.val, h⟩) else Y (ix2 P ⟨k.val - 1024, by omega⟩) := by
  pointwise

/-- A head's table 16 times. -/
def rep16 {F : FTy → Type} [FloatOps F] (H : FVec F S2048x64 .f32) : FVec F S2048x1024 .f32 :=
  concatenate S2048x1024 1 [⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩]
    concatenates_S2048x64_S2048x64_S2048x64_S2048x64_S2048x64_S2048x64_S2048x64_S2048x64_S2048x64_S2048x64_S2048x64_S2048x64_S2048x64_S2048x64_S2048x64_S2048x64_S2048x1024_d1

/-- A head's table 8 times. -/
def rep8 {F : FTy → Type} [FloatOps F] (H : FVec F S2048x64 .f32) : FVec F S2048x512 .f32 :=
  concatenate S2048x512 1 [⟨S2048x64, H⟩, ⟨S2048x64, H⟩, ⟨S2048x64, H⟩, ⟨S2048x64, H⟩, ⟨S2048x64, H⟩, ⟨S2048x64, H⟩, ⟨S2048x64, H⟩, ⟨S2048x64, H⟩]
    concatenates_S2048x64_S2048x64_S2048x64_S2048x64_S2048x64_S2048x64_S2048x64_S2048x64_S2048x512_d1

/-- A row of heads that turn, then of heads that stay. -/
def heads {F : FTy → Type} [FloatOps F] (H O : FVec F S2048x64 .f32) : FVec F S2048x1536 .f32 :=
  concatenate S2048x1536 1 [⟨S2048x1024, rep16 H⟩, ⟨S2048x512, rep8 O⟩] concatenates_S2048x1024_S2048x512_S2048x1536_d1

theorem row_apply (H O : FVec Ideal S2048x64 .f32) (P : Fin 2048) (k : Fin 1536) :
    heads H O (ix2 P k) = if h : k.val < 1024 then H (ix2 P ⟨k.val % 64, by omega⟩) else O (ix2 P ⟨k.val % 64, by omega⟩) := by
  refine (cat2 _ _ P k).trans ?_
  by_cases h : k.val < 1024
  · rw [dif_pos h, dif_pos h]
    exact cat16 H P _
  · rw [dif_neg h, dif_neg h]
    refine (cat8 O P _).trans ?_
    exact congrArg O (congrArg (ix2 P) (Fin.ext (by show (k.val - 1024) % 64 = k.val % 64; omega)))

theorem pad_apply (X : FVec Ideal S2048x1536 .f32) (Y : FVec Ideal S1024x1536 .f32) (P : Fin 3072) (k : Fin 1536) :
    concatenate S3072x1536 0 [⟨S2048x1536, X⟩, ⟨S1024x1536, Y⟩] concatenates_S2048x1536_S1024x1536_S3072x1536_d0 (ix2 P k)
      = if h : P.val < 2048 then X (ix2 ⟨P.val, h⟩ k) else Y (ix2 ⟨P.val - 2048, by omega⟩ k) := by
  pointwise

theorem one_apply (P : Fin 2048) (d : Fin 64) :
    broadcastInDim S2048x64 ![] bcast_S_S2048x64 (constant S_ .f32 0x3F800000#32 : FVec Ideal S_ .f32) (ix2 P d) = (1 : EReal) := by
  pointwise

theorem one_apply' (P : Fin 1024) (k : Fin 1536) :
    broadcastInDim S1024x1536 ![] bcast_S_S1024x1536 (constant S_ .f32 0x3F800000#32 : FVec Ideal S_ .f32) (ix2 P k) = (1 : EReal) := by
  pointwise

theorem zero_apply (P : Fin 2048) (d : Fin 64) :
    broadcastInDim S2048x64 ![] bcast_S_S2048x64 (constant S_ .f32 0x00000000#32 : FVec Ideal S_ .f32) (ix2 P d) = (0 : EReal) := by
  pointwise

theorem zero_apply' (P : Fin 1024) (k : Fin 1536) :
    broadcastInDim S1024x1536 ![] bcast_S_S1024x1536 (constant S_ .f32 0x00000000#32 : FVec Ideal S_ .f32) (ix2 P k) = (0 : EReal) := by
  pointwise

/-- A table: the heads' columns by position, then the columns that stay, then the rows that stay. -/
def tab {F : FTy → Type} [FloatOps F] (H : FVec F S2048x64 .f32) (w : BitVec 32) : FVec F S3072x1536 .f32 :=
  concatenate S3072x1536 0 [⟨S2048x1536, heads H (broadcastInDim S2048x64 ![] bcast_S_S2048x64 (constant S_ .f32 w))⟩,
    ⟨S1024x1536, broadcastInDim S1024x1536 ![] bcast_S_S1024x1536 (constant S_ .f32 w)⟩] concatenates_S2048x1536_S1024x1536_S3072x1536_d0

theorem V_cos_head {F : FTy → Type} [FloatOps F] (m : (ℓ : Loc nD τ sig) → Buf (Elt F) ℓ) : V m c main_v26 = headCos := by
  entry_read
  rfl

theorem V_cos_one {F : FTy → Type} [FloatOps F] (m : (ℓ : Loc nD τ sig) → Buf (Elt F) ℓ) : V m c main_v31 = broadcastInDim S2048x64 ![] bcast_S_S2048x64 (constant S_ .f32 0x3F800000#32) := by
  entry_read
  rfl

theorem V_cos_pad {F : FTy → Type} [FloatOps F] (m : (ℓ : Loc nD τ sig) → Buf (Elt F) ℓ) : V m c main_v39 = broadcastInDim S1024x1536 ![] bcast_S_S1024x1536 (constant S_ .f32 0x3F800000#32) := by
  entry_read
  rfl

theorem V_cos_turn {F : FTy → Type} [FloatOps F] (m : (ℓ : Loc nD τ sig) → Buf (Elt F) ℓ) : V m c main_v33 = rep16 headCos := by
  refine (read_nary (i := 37) _ _ [main_v34, main_v35, main_v36, main_v37, main_v38, main_cst_3, main_v39, main_v40, main_cst_4, main_v41, main_v42, main_v43, main_v44] rfl rfl (by decide) (by decide) _).trans ?_
  unfold rep16
  rw [← V_cos_head c m]
  rfl

theorem V_cos_stay {F : FTy → Type} [FloatOps F] (m : (ℓ : Loc nD τ sig) → Buf (Elt F) ℓ) : V m c main_v34 = rep8 (broadcastInDim S2048x64 ![] bcast_S_S2048x64 (constant S_ .f32 0x3F800000#32)) := by
  refine (read_nary (i := 38) _ _ [main_v35, main_v36, main_v37, main_v38, main_cst_3, main_v39, main_v40, main_cst_4, main_v41, main_v42, main_v43, main_v44] rfl rfl (by decide) (by decide) _).trans ?_
  unfold rep8
  rw [← V_cos_one c m]
  rfl

theorem V_cos_row {F : FTy → Type} [FloatOps F] (m : (ℓ : Loc nD τ sig) → Buf (Elt F) ℓ) : V m c main_v35 = heads headCos (broadcastInDim S2048x64 ![] bcast_S_S2048x64 (constant S_ .f32 0x3F800000#32)) := by
  refine (read_binary (i := 39) _ [main_v36, main_v37, main_v38, main_cst_3, main_v39, main_v40, main_cst_4, main_v41, main_v42, main_v43, main_v44] rfl rfl (by decide) (by decide) (by decide) _).trans ?_
  unfold heads
  rw [← V_cos_turn c m, ← V_cos_stay c m]

theorem V_cos {F : FTy → Type} [FloatOps F] (m : (ℓ : Loc nD τ sig) → Buf (Elt F) ℓ) : V m c main_v40 = tab headCos 0x3F800000#32 := by
  refine (read_binary (i := 45) _ [main_cst_4, main_v41, main_v42, main_v43, main_v44] rfl rfl (by decide) (by decide) (by decide) _).trans ?_
  unfold tab
  rw [← V_cos_row c m, ← V_cos_pad c m]

theorem V_sin_head {F : FTy → Type} [FloatOps F] (m : (ℓ : Loc nD τ sig) → Buf (Elt F) ℓ) : V m c main_v30 = headSin := by
  entry_read
  rfl

theorem V_sin_one {F : FTy → Type} [FloatOps F] (m : (ℓ : Loc nD τ sig) → Buf (Elt F) ℓ) : V m c main_v32 = broadcastInDim S2048x64 ![] bcast_S_S2048x64 (constant S_ .f32 0x00000000#32) := by
  entry_read
  rfl

theorem V_sin_pad {F : FTy → Type} [FloatOps F] (m : (ℓ : Loc nD τ sig) → Buf (Elt F) ℓ) : V m c main_v41 = broadcastInDim S1024x1536 ![] bcast_S_S1024x1536 (constant S_ .f32 0x00000000#32) := by
  entry_read
  rfl

theorem V_sin_turn {F : FTy → Type} [FloatOps F] (m : (ℓ : Loc nD τ sig) → Buf (Elt F) ℓ) : V m c main_v36 = rep16 headSin := by
  refine (read_nary (i := 40) _ _ [main_v37, main_v38, main_cst_3, main_v39, main_v40, main_cst_4, main_v41, main_v42, main_v43, main_v44] rfl rfl (by decide) (by decide) _).trans ?_
  unfold rep16
  rw [← V_sin_head c m]
  rfl

theorem V_sin_stay {F : FTy → Type} [FloatOps F] (m : (ℓ : Loc nD τ sig) → Buf (Elt F) ℓ) : V m c main_v37 = rep8 (broadcastInDim S2048x64 ![] bcast_S_S2048x64 (constant S_ .f32 0x00000000#32)) := by
  refine (read_nary (i := 41) _ _ [main_v38, main_cst_3, main_v39, main_v40, main_cst_4, main_v41, main_v42, main_v43, main_v44] rfl rfl (by decide) (by decide) _).trans ?_
  unfold rep8
  rw [← V_sin_one c m]
  rfl

theorem V_sin_row {F : FTy → Type} [FloatOps F] (m : (ℓ : Loc nD τ sig) → Buf (Elt F) ℓ) : V m c main_v38 = heads headSin (broadcastInDim S2048x64 ![] bcast_S_S2048x64 (constant S_ .f32 0x00000000#32)) := by
  refine (read_binary (i := 42) _ [main_cst_3, main_v39, main_v40, main_cst_4, main_v41, main_v42, main_v43, main_v44] rfl rfl (by decide) (by decide) (by decide) _).trans ?_
  unfold heads
  rw [← V_sin_turn c m, ← V_sin_stay c m]

theorem V_sin {F : FTy → Type} [FloatOps F] (m : (ℓ : Loc nD τ sig) → Buf (Elt F) ℓ) : V m c main_v42 = tab headSin 0x00000000#32 := by
  refine (read_binary (i := 48) _ [main_v43, main_v44] rfl rfl (by decide) (by decide) (by decide) _).trans ?_
  unfold tab
  rw [← V_sin_row c m, ← V_sin_pad c m]

theorem V_w {F : FTy → Type} [FloatOps F] (m : (ℓ : Loc nD τ sig) → Buf (Elt F) ℓ) :
    V m c main_v44 = extractStridedSlice S1024x1536 ![0, 768] (truncf .bf16 (m ((c : Thread nD τ).loc main_arg1)) bitsLt_bf16_f32)
      slices_S1024x3840_S1024x1536_0_768 := by
  entry_read
  rfl

theorem cos_apply (P : Fin 3072) (k : Fin 1536) : tab (F := Ideal) headCos 0x3F800000#32 (ix2 P k) = cosAt 1024 P.val k.val := by
  refine (pad_apply _ _ P k).trans ?_
  unfold cosAt
  by_cases h : P.val < 2048
  · rw [dif_pos h]
    refine (row_apply _ _ _ k).trans ?_
    by_cases h' : k.val < 1024
    · rw [dif_pos h', if_pos ⟨h, h'⟩, headCos_apply]
      exact congrArg (cosN P.val) (by show k.val % 64 % 32 = k.val % 32; omega)
    · rw [dif_neg h', if_neg (fun q => h' q.2), one_apply]
  · rw [dif_neg h, if_neg (fun q => h q.1), one_apply']

theorem sin_apply (P : Fin 3072) (k : Fin 1536) : tab (F := Ideal) headSin 0x00000000#32 (ix2 P k) = sinAt 1024 P.val k.val := by
  refine (pad_apply _ _ P k).trans ?_
  unfold sinAt
  by_cases h : P.val < 2048
  · rw [dif_pos h]
    refine (row_apply _ _ _ k).trans ?_
    by_cases h' : k.val < 1024
    · rw [dif_pos h', if_pos ⟨h, h'⟩, headSin_apply]
      have e : k.val % 64 % 32 = k.val % 32 := by omega
      show (if k.val % 64 < 32 then -sinN P.val (k.val % 64 % 32) else sinN P.val (k.val % 64 % 32)) = _
      rw [e]
    · rw [dif_neg h', if_neg (fun q => h' q.2), zero_apply]
  · rw [dif_neg h, if_neg (fun q => h q.1), zero_apply']

/-! ## The blocks -/

/-- The result at a token and a column. -/
def res (i : S18432x1536.Idx) : EReal :=
  rope 1024 (col (m ((c : Thread nD τ).loc main_arg0)) (m ((c : Thread nD τ).loc main_arg1)) 768 (i 0)) (pos (i 0).val) (i 1).val

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = (if t.val / 2 < 16 then t.val / 2 % 2 else 2) ∧ win0_2.index t 1 = t.val % 2 :=
  (by decide +kernel : ∀ t : Fin grid0.N, win0_2.index t 0 = (if t.val / 2 < 16 then t.val / 2 % 2 else 2) ∧ win0_2.index t 1 = t.val % 2)
theorem index3 : ∀ t : Fin cfg0.N, win0_3.index t 0 = (if t.val / 2 < 16 then t.val / 2 % 2 else 2) ∧ win0_3.index t 1 = t.val % 2 :=
  (by decide +kernel : ∀ t : Fin grid0.N, win0_3.index t 0 = (if t.val / 2 < 16 then t.val / 2 % 2 else 2) ∧ win0_3.index t 1 = t.val % 2)
theorem index4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)

theorem tok (t : Fin cfg0.N) (r j : Fin 1024) :
    iblk m c 0 t (ix2 r j) = m ((c : Thread nD τ).loc main_arg0) (ix2 ⟨t.val / 2 * 1024 + r.val, by have : t.val < 36 := t.isLt; omega⟩ j) := by
  have ht : t.val < 36 := t.isLt
  have e : (win0_0.blk t).view.emb (ix2 r j) = ix2 ⟨t.val / 2 * 1024 + r.val, by omega⟩ j := by
    blk_ext [index0 t]
  unfold iblk
  rw [V_main_arg0]
  blk_simp [e]

theorem wt (t : Fin cfg0.N) (j : Fin 1024) (k : Fin 768) :
    iblk m c 1 t (ix2 j k) = (m ((c : Thread nD τ).loc main_arg1) (ix2 j ⟨768 + (t.val % 2 * 768 + k.val), by omega⟩) : EReal) := by
  have e : (win0_1.blk t).view.emb (ix2 j k) = ix2 j ⟨t.val % 2 * 768 + k.val, by omega⟩ := by
    blk_ext [index1 t]
  unfold iblk
  rw [V_w]
  blk_simp [e]
  pointwise

/-- The row of the tables that a block's row reads. -/
def row (t : Fin cfg0.N) (r : Fin 1024) : Fin 3072 :=
  ⟨(if t.val / 2 < 16 then t.val / 2 % 2 else 2) * 1024 + r.val, by split <;> omega⟩

theorem cosB (t : Fin cfg0.N) (r : Fin 1024) (k : Fin 768) :
    iblk m c 2 t (ix2 r k) = cosAt 1024 (row t r).val (t.val % 2 * 768 + k.val) := by
  have e : (win0_2.blk t).view.emb (ix2 r k) = ix2 (row t r) ⟨t.val % 2 * 768 + k.val, by omega⟩ := by
    blk_ext [index2 t, row]
  unfold iblk
  rw [V_cos]
  blk_simp [e]
  exact cos_apply _ _

theorem sinB (t : Fin cfg0.N) (r : Fin 1024) (k : Fin 768) :
    iblk m c 3 t (ix2 r k) = sinAt 1024 (row t r).val (t.val % 2 * 768 + k.val) := by
  have e : (win0_3.blk t).view.emb (ix2 r k) = ix2 (row t r) ⟨t.val % 2 * 768 + k.val, by omega⟩ := by
    blk_ext [index3 t, row]
  unfold iblk
  rw [V_sin]
  blk_simp [e]
  exact sin_apply _ _

theorem row_pos (t : Fin cfg0.N) (r : Fin 1024) : (row t r).val = pos (t.val / 2 * 1024 + r.val) := by
  have ht : t.val < 36 := t.isLt
  unfold row pos
  by_cases h : t.val / 2 < 16
  · simp only [if_pos h, if_pos (by omega : t.val / 2 * 1024 + r.val < 16384)]
    omega
  · simp only [if_neg h, if_neg (by omega : ¬t.val / 2 * 1024 + r.val < 16384)]
    omega

theorem final_eq : (dats m 0 c).arrAt 4 cfg0.N = res m c := by
  refine (dats m 0 c).arrAt_eq_of_covers 4 _ (by decide +kernel) fun t hf y => ?_
  blk_simp
  rw [after0_4]
  have ht : t.val < 36 := t.isLt
  obtain ⟨r, k, rfl⟩ : ∃ (r : Fin 1024) (k : Fin 768), y = ix2 r k := ⟨y 0, y 1, eq_ix2 y⟩
  have e : (win0_4.blk t).view.emb (ix2 r k) = ix2 ⟨t.val / 2 * 1024 + r.val, by omega⟩ ⟨t.val % 2 * 768 + k.val, by omega⟩ := by
    blk_ext [index4 t]
  rw [e]
  refine (out_apply (col (m ((c : Thread nD τ).loc main_arg0)) (m ((c : Thread nD τ).loc main_arg1)) 768 ⟨t.val / 2 * 1024 + r.val, by omega⟩)
    (cosAt 1024 (row t r).val) (sinAt 1024 (row t r).val) (t.val % 2 * 768) (by omega) (iblk m c 0 t) (iblk m c 1 t)
    (iblk m c 2 t) (iblk m c 3 t) (ix2 r k) (fun k => ?_) (fun k => cosB m c t r k) (fun k => sinB m c t r k)).trans ?_
  · unfold col
    refine Finset.sum_congr rfl fun j _ => congrArg₂ (fun a b : EReal => a * b) (tok m c t r j) ((wt m c t j k).trans ?_)
    rw [dif_pos (show 768 + (t.val % 2 * 768 + k.val) < 3840 by omega)]
  · rw [turn_eq, row_pos]
    rfl

end Cert.Rope5

end
-- ==== Proof.RopeEqual5.lean ====
module

public import proofs.«01_k».proof.Defs
public import proofs.«01_k».proof.Proof.Rope5
public import proofs.«01_k».proof.Proof.Gen.Reference5Ideal.Read
public import Idealize.ShloMosaic.Lib.KernelVsHost

/-! The reference of the projection onto 1536 columns, the first 1024 rotated by position: the kernel's result. -/

@[expose] public section

set_option maxRecDepth 16384

noncomputable section

namespace Cert.Rope5

open Idealize.ShloMosaic Idealize.ShloMosaic.TcCoe Cert.Reference5Ideal Cert.Reference5Ideal.Gen Cert.Reference5Ideal.Read Idealize.ShloMosaic.Tactic Cert.Rope

/-! ## The product -/

variable (x : (⟨S18432x1024, .bf16⟩ : BufTy).Contents (Elt Ideal)) (w : (⟨S1024x3840, .f32⟩ : BufTy).Contents (Elt Ideal))

theorem prod_col (R : Fin 18432) (k : Fin 1536) : (val_main_v28 (F := Ideal) x w (ix2 R k) : EReal) = col x w 768 R k.val := by
  refine (val_main_v28_apply _ _ _).trans ((val_main_v27_apply _ _ _).trans ?_)
  unfold col
  refine Finset.sum_congr rfl fun j _ => congrArg₂ (fun a b : EReal => a * b) ?_ ?_
  · exact congrArg x (funext fun a => Fin.ext (by match a with | ⟨0, _⟩ => rfl | ⟨1, _⟩ => rfl))
  · rw [dif_pos (show 768 + k.val < 3840 by omega)]
    exact congrArg w (funext fun a => Fin.ext (by
      match a with
      | ⟨0, _⟩ => rfl
      | ⟨1, _⟩ => rfl))

/-- The rows with positions, by batch, position, head and lane. -/
theorem split_col (b : Fin 8) (p : Fin 2048) (h : Fin 16) (d : Fin 64) :
    (val_main_v30 (F := Ideal) x w (ix4 b p h d) : EReal) = col x w 768 ⟨b.val * 2048 + p.val, by omega⟩ (h.val * 64 + d.val) := by
  refine (val_main_v30_apply _ _ _).trans ((val_main_v29_apply _ _ _).trans ?_)
  refine Eq.trans (congrArg (val_main_v28 (F := Ideal) x w) (funext fun a => Fin.ext ?_))
    (prod_col x w ⟨b.val * 2048 + p.val, by omega⟩ ⟨h.val * 64 + d.val, by omega⟩)
  match a with
  | ⟨0, _⟩ => show ((((b.val * 2048 + p.val) * 16 + h.val) * 64 + d.val) / 1024 = b.val * 2048 + p.val); omega
  | ⟨1, _⟩ => show ((((b.val * 2048 + p.val) * 16 + h.val) * 64 + d.val) % 1024 = h.val * 64 + d.val); omega

theorem low_col (b : Fin 8) (p : Fin 2048) (h : Fin 16) (f : Fin 32) :
    (val_main_v33 (F := Ideal) x w (ix4 b p h f) : EReal) = col x w 768 ⟨b.val * 2048 + p.val, by omega⟩ (h.val * 64 + f.val) :=
  (val_main_v33_apply _ _ _).trans (Eq.trans (congrArg (val_main_v30 (F := Ideal) x w) (funext fun a => Fin.ext (by
    match a with
    | ⟨0, _⟩ => rfl
    | ⟨1, _⟩ => rfl
    | ⟨2, _⟩ => rfl
    | ⟨3, _⟩ => rfl))) (split_col x w b p h ⟨f.val, by omega⟩))

theorem high_col (b : Fin 8) (p : Fin 2048) (h : Fin 16) (f : Fin 32) :
    (val_main_v34 (F := Ideal) x w (ix4 b p h f) : EReal) = col x w 768 ⟨b.val * 2048 + p.val, by omega⟩ (h.val * 64 + (32 + f.val)) :=
  (val_main_v34_apply _ _ _).trans (Eq.trans (congrArg (val_main_v30 (F := Ideal) x w) (funext fun a => Fin.ext (by
    match a with
    | ⟨0, _⟩ => rfl
    | ⟨1, _⟩ => rfl
    | ⟨2, _⟩ => rfl
    | ⟨3, _⟩ => rfl))) (split_col x w b p h ⟨32 + f.val, by omega⟩))

/-! ## The tables, spread over batches and heads -/

theorem cos_col (p : Fin 2048) (z : Fin 1) (f : Fin 32) : (val_main_v31 (F := Ideal) (ix3 p z f) : EReal) = cosN p.val f.val := by
  refine (val_main_v31_apply _).trans (Eq.trans ?_ (cosN_of p f _ rfl).symm)
  refine congrArg (Cert.Reference5Ideal.Read.val_main_v24 (F := Ideal)) (funext fun a => Fin.ext ?_)
  have hz : z.val < 1 := z.isLt
  match a with
  | ⟨0, _⟩ => show ((p.val * 1 + z.val) * 32 + f.val) / 32 = p.val; omega
  | ⟨1, _⟩ => show ((p.val * 1 + z.val) * 32 + f.val) % 32 = f.val; omega

theorem sin_col (p : Fin 2048) (z : Fin 1) (f : Fin 32) : (val_main_v32 (F := Ideal) (ix3 p z f) : EReal) = sinN p.val f.val := by
  refine (val_main_v32_apply _).trans (Eq.trans ?_ (sinN_of p f _ rfl).symm)
  refine congrArg (Cert.Reference5Ideal.Read.val_main_v25 (F := Ideal)) (funext fun a => Fin.ext ?_)
  have hz : z.val < 1 := z.isLt
  match a with
  | ⟨0, _⟩ => show ((p.val * 1 + z.val) * 32 + f.val) / 32 = p.val; omega
  | ⟨1, _⟩ => show ((p.val * 1 + z.val) * 32 + f.val) % 32 = f.val; omega

theorem spread36 (b : Fin 8) (p : Fin 2048) (h : Fin 16) (f : Fin 32) : (val_main_v36 (F := Ideal) (ix4 b p h f) : EReal) = cosN p.val f.val :=
  (val_main_v36_apply _).trans ((val_main_v35_apply _).trans (Eq.trans (congrArg (val_main_v31 (F := Ideal)) (funext fun a => Fin.ext (by
    match a with
    | ⟨0, _⟩ => rfl
    | ⟨1, _⟩ => rfl
    | ⟨2, _⟩ => rfl))) (cos_col p 0 f)))

theorem spread39 (b : Fin 8) (p : Fin 2048) (h : Fin 16) (f : Fin 32) : (val_main_v39 (F := Ideal) (ix4 b p h f) : EReal) = sinN p.val f.val :=
  (val_main_v39_apply _).trans ((val_main_v38_apply _).trans (Eq.trans (congrArg (val_main_v32 (F := Ideal)) (funext fun a => Fin.ext (by
    match a with
    | ⟨0, _⟩ => rfl
    | ⟨1, _⟩ => rfl
    | ⟨2, _⟩ => rfl))) (sin_col p 0 f)))

theorem spread43 (b : Fin 8) (p : Fin 2048) (h : Fin 16) (f : Fin 32) : (val_main_v43 (F := Ideal) (ix4 b p h f) : EReal) = cosN p.val f.val :=
  (val_main_v43_apply _).trans ((val_main_v42_apply _).trans (Eq.trans (congrArg (val_main_v31 (F := Ideal)) (funext fun a => Fin.ext (by
    match a with
    | ⟨0, _⟩ => rfl
    | ⟨1, _⟩ => rfl
    | ⟨2, _⟩ => rfl))) (cos_col p 0 f)))

theorem spread46 (b : Fin 8) (p : Fin 2048) (h : Fin 16) (f : Fin 32) : (val_main_v46 (F := Ideal) (ix4 b p h f) : EReal) = sinN p.val f.val :=
  (val_main_v46_apply _).trans ((val_main_v45_apply _).trans (Eq.trans (congrArg (val_main_v32 (F := Ideal)) (funext fun a => Fin.ext (by
    match a with
    | ⟨0, _⟩ => rfl
    | ⟨1, _⟩ => rfl
    | ⟨2, _⟩ => rfl))) (sin_col p 0 f)))

/-! ## The rotated halves -/

theorem first_half (b : Fin 8) (p : Fin 2048) (h : Fin 16) (f : Fin 32) :
    (val_main_v41 (F := Ideal) x w (ix4 b p h f) : EReal)
      = col x w 768 ⟨b.val * 2048 + p.val, by omega⟩ (h.val * 64 + f.val) * cosN p.val f.val
        - col x w 768 ⟨b.val * 2048 + p.val, by omega⟩ (h.val * 64 + (32 + f.val)) * sinN p.val f.val :=
  congrArg₂ (fun a b : EReal => a - b) (congrArg₂ (fun a b : EReal => a * b) (low_col x w b p h f) (spread36 b p h f))
    (congrArg₂ (fun a b : EReal => a * b) (high_col x w b p h f) (spread39 b p h f))

theorem second_half (b : Fin 8) (p : Fin 2048) (h : Fin 16) (f : Fin 32) :
    (val_main_v48 (F := Ideal) x w (ix4 b p h f) : EReal)
      = col x w 768 ⟨b.val * 2048 + p.val, by omega⟩ (h.val * 64 + (32 + f.val)) * cosN p.val f.val
        + col x w 768 ⟨b.val * 2048 + p.val, by omega⟩ (h.val * 64 + f.val) * sinN p.val f.val :=
  congrArg₂ (fun a b : EReal => a + b) (congrArg₂ (fun a b : EReal => a * b) (high_col x w b p h f) (spread43 b p h f))
    (congrArg₂ (fun a b : EReal => a * b) (low_col x w b p h f) (spread46 b p h f))

theorem halves_apply (X Y : FVec Ideal S8x2048x16x32 .f32) (b : Fin 8) (p : Fin 2048) (h : Fin 16) (d : Fin 64) :
    concatenate S8x2048x16x64 3 [⟨S8x2048x16x32, X⟩, ⟨S8x2048x16x32, Y⟩] concatenates_S8x2048x16x32_S8x2048x16x32_S8x2048x16x64_d3 (ix4 b p h d)
      = if e : d.val < 32 then X (ix4 b p h ⟨d.val, e⟩) else Y (ix4 b p h ⟨d.val - 32, by omega⟩) := by
  pointwise

theorem rows_apply (X : FVec Ideal S16384x1024 .f32) (Y : FVec Ideal S2048x1024 .f32) (R : Fin 18432) (k : Fin 1024) :
    concatenate S18432x1024 0 [⟨S16384x1024, X⟩, ⟨S2048x1024, Y⟩] concatenates_S16384x1024_S2048x1024_S18432x1024_d0 (ix2 R k)
      = if e : R.val < 16384 then X (ix2 ⟨R.val, e⟩ k) else Y (ix2 ⟨R.val - 16384, by omega⟩ k) := by
  pointwise

theorem cols_apply (X : FVec Ideal S18432x1024 .f32) (Y : FVec Ideal S18432x512 .f32) (R : Fin 18432) (k : Fin 1536) :
    concatenate S18432x1536 1 [⟨S18432x1024, X⟩, ⟨S18432x512, Y⟩] concatenates_S18432x1024_S18432x512_S18432x1536_d1 (ix2 R k)
      = if e : k.val < 1024 then X (ix2 R ⟨k.val, e⟩) else Y (ix2 R ⟨k.val - 1024, by omega⟩) := by
  pointwise

/-- The rows with positions, rotated. -/
theorem seq_col (R : Fin 16384) (k : Fin 1024) :
    (val_main_v50 (F := Ideal) x w (ix2 R k) : EReal) = rope 1024 (col x w 768 ⟨R.val, by omega⟩) (R.val % 2048) k.val := by
  have hR : R.val < 16384 := R.isLt
  refine (val_main_v50_apply _ _ _).trans ?_
  refine Eq.trans (congrArg (val_main_v49 (F := Ideal) x w) (funext fun a => Fin.ext ?_ :
    _ = ix4 (⟨R.val / 2048, by omega⟩ : Fin 8) (⟨R.val % 2048, by omega⟩ : Fin 2048) (⟨k.val / 64, by omega⟩ : Fin 16) (⟨k.val % 64, by omega⟩ : Fin 64))) ?_
  · match a with
    | ⟨0, _⟩ => show (R.val * 1024 + k.val) / 2097152 = R.val / 2048; omega
    | ⟨1, _⟩ => show (R.val * 1024 + k.val) / 1024 % 2048 = R.val % 2048; omega
    | ⟨2, _⟩ => show (R.val * 1024 + k.val) / 64 % 16 = k.val / 64; omega
    | ⟨3, _⟩ => show (R.val * 1024 + k.val) % 64 = k.val % 64; omega
  have eR : (⟨R.val / 2048 * 2048 + R.val % 2048, by omega⟩ : Fin 18432) = ⟨R.val, by omega⟩ := Fin.ext (by show R.val / 2048 * 2048 + R.val % 2048 = R.val; omega)
  refine (halves_apply _ _ _ _ _ _).trans ?_
  unfold rope
  rw [if_pos ⟨(by omega : R.val % 2048 < 2048), k.isLt⟩]
  by_cases h : k.val % 64 < 32
  · rw [dif_pos h, if_pos h]
    refine (first_half x w _ _ _ _).trans ?_
    show col x w 768 ⟨R.val / 2048 * 2048 + R.val % 2048, _⟩ (k.val / 64 * 64 + k.val % 64) * cosN (R.val % 2048) (k.val % 64)
      - col x w 768 ⟨R.val / 2048 * 2048 + R.val % 2048, _⟩ (k.val / 64 * 64 + (32 + k.val % 64)) * sinN (R.val % 2048) (k.val % 64) = _
    rw [eR, (by omega : k.val / 64 * 64 + k.val % 64 = k.val), (by omega : k.val / 64 * 64 + (32 + k.val % 64) = k.val + 32),
      (by omega : k.val % 64 = k.val % 32)]
  · rw [dif_neg h, if_neg h]
    refine (second_half x w _ _ _ _).trans ?_
    show col x w 768 ⟨R.val / 2048 * 2048 + R.val % 2048, _⟩ (k.val / 64 * 64 + (32 + (k.val % 64 - 32))) * cosN (R.val % 2048) (k.val % 64 - 32)
      + col x w 768 ⟨R.val / 2048 * 2048 + R.val % 2048, _⟩ (k.val / 64 * 64 + (k.val % 64 - 32)) * sinN (R.val % 2048) (k.val % 64 - 32) = _
    rw [eR, (by omega : k.val / 64 * 64 + (32 + (k.val % 64 - 32)) = k.val), (by omega : k.val / 64 * 64 + (k.val % 64 - 32) = k.val - 32),
      (by omega : k.val % 64 - 32 = k.val % 32)]

/-- The reference's result at a token and a column. -/
theorem ref_col (R : Fin 18432) (k : Fin 1536) :
    (val_main_v55 (F := Ideal) x w (ix2 R k) : EReal) = rope 1024 (col x w 768 R) (pos R.val) k.val := by
  refine (cols_apply _ _ R k).trans ?_
  by_cases hk : k.val < 1024
  · rw [dif_pos hk]
    refine (rows_apply _ _ R ⟨k.val, hk⟩).trans ?_
    by_cases hR : R.val < 16384
    · rw [dif_pos hR]
      refine (seq_col x w ⟨R.val, hR⟩ ⟨k.val, hk⟩).trans ?_
      unfold pos
      rw [if_pos hR]
    · rw [dif_neg hR]
      unfold pos rope
      rw [if_neg hR, if_neg (fun q => absurd q.1 (by omega))]
      refine (val_main_v51_apply _ _ _).trans (Eq.trans (congrArg (val_main_v28 (F := Ideal) x w) (funext fun a => Fin.ext ?_)) (prod_col x w R k))
      match a with
      | ⟨0, _⟩ => show 16384 + (R.val - 16384) = R.val; omega
      | ⟨1, _⟩ => rfl
  · rw [dif_neg hk]
    unfold rope
    rw [if_neg (fun q => hk q.2)]
    refine (val_main_v53_apply _ _ _).trans (Eq.trans (congrArg (val_main_v28 (F := Ideal) x w) (funext fun a => Fin.ext ?_)) (prod_col x w R k))
    match a with
    | ⟨0, _⟩ => rfl
    | ⟨1, _⟩ => show 1024 + (k.val - 1024) = k.val; omega

/-- The reference runs, keeps its arguments, and has no counter that could be left standing. -/
theorem ref_frame : Cert.quiescent_Reference5Ideal := fun m ρ _ =>
  (θ_run _ _ _).mono (fun r h => ⟨fun c => (h c).2, sem_eq_zero_of_no_sems (by decide) r.2⟩) (Cert.Reference5Ideal.Value.run m ρ)

theorem algebraic : Cert.algebraic_Kernel5Ideal_Reference5Ideal := by
  intro m g m' g' _ hargs
  refine ⟨fun c => res m c, ?_, ?_⟩
  · refine (θ_run _ _ _).mono (fun r h c => ?_) (Cert.Kernel5Ideal.Value.run_blocks m g)
    exact ⟨(h c).1.trans (final_eq m c), (h c).2⟩
  · refine (θ_run _ _ _).mono (fun r h c => ?_) (Cert.Reference5Ideal.Value.run m' g')
    refine ⟨(h c).1.trans ?_, (h c).2⟩
    obtain ⟨h0, h1⟩ := hargs c
    refine (val_main_v55_eq _ _).trans ?_
    rw [h0, h1]
    funext i
    obtain ⟨R, k, rfl⟩ : ∃ (R : Fin 18432) (k : Fin 1536), i = ix2 R k := ⟨i 0, i 1, eq_ix2 i⟩
    exact ref_col _ _ R k

end Cert.Rope5

end
-- ==== Proof.Rope6.lean ====
module

public import proofs.«01_k».proof.Defs
public import proofs.«01_k».proof.Proof.Gen.Kernel6Ideal.Value
public import proofs.«01_k».proof.Proof.RopeMath
public import Idealize.ShloMosaic.Lib.Pipeline.ValueKit
public import Idealize.ShloMosaic.Lib.StableHlo.RunRead

/-! The kernel of the projection onto 768 columns, the first 640 rotated by position: its result. -/

@[expose] public section

set_option maxRecDepth 16384

noncomputable section

namespace Cert.Rope6

open Idealize.ShloMosaic Idealize.ShloMosaic.TcCoe Cert.Kernel6Ideal Cert.Kernel6Ideal.Gen Idealize.ShloMosaic.Tactic Cert.Rope

variable (m : (ℓ : Loc nD τ sig) → Buf (Elt Ideal) ℓ) (c : Dev nD)

/-! ## The tables -/

/-- A row of heads that turn, then of heads that stay. -/
def heads {F : FTy → Type} [FloatOps F] (H O : FVec F S2048x64 .f32) : FVec F S2048x768 .f32 :=
  concatenate S2048x768 1 [⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, H⟩, ⟨S2048x64, O⟩, ⟨S2048x64, O⟩]
    concatenates_S2048x64_S2048x64_S2048x64_S2048x64_S2048x64_S2048x64_S2048x64_S2048x64_S2048x64_S2048x64_S2048x64_S2048x64_S2048x768_d1

theorem row_apply (H O : FVec Ideal S2048x64 .f32) (P : Fin 2048) (k : Fin 768) :
    heads H O (ix2 P k) = if h : k.val < 640 then H (ix2 P ⟨k.val % 64, by omega⟩) else O (ix2 P ⟨k.val % 64, by omega⟩) := by
  refine (concatenate_ofFn_apply (t := S2048x768) (s₁ := S2048x64) 1 (N := 12) ![H, H, H, H, H, H, H, H, H, H, O, O] _ rfl 64 rfl (ix2 P k)
    ⟨k.val / 64, by omega⟩ rfl (ix2 P ⟨k.val % 64, by omega⟩) rfl fun b hb => by
      fin_cases b
      · rfl
      · exact absurd rfl hb).trans ?_
  have e : ∀ n : Fin 12, (![H, H, H, H, H, H, H, H, H, H, O, O] : Fin 12 → FVec Ideal S2048x64 .f32) n = if n.val < 10 then H else O := fun n => by
    fin_cases n <;> rfl
  rw [e]
  by_cases h : k.val < 640
  · rw [dif_pos h, if_pos (show k.val / 64 < 10 by omega)]
  · rw [dif_neg h, if_neg (show ¬k.val / 64 < 10 by omega)]

theorem pad_apply (X : FVec Ideal S2048x768 .f32) (Y : FVec Ideal S1024x768 .f32) (P : Fin 3072) (k : Fin 768) :
    concatenate S3072x768 0 [⟨S2048x768, X⟩, ⟨S1024x768, Y⟩] concatenates_S2048x768_S1024x768_S3072x768_d0 (ix2 P k)
      = if h : P.val < 2048 then X (ix2 ⟨P.val, h⟩ k) else Y (ix2 ⟨P.val - 2048, by omega⟩ k) := by
  pointwise

theorem one_apply (P : Fin 2048) (d : Fin 64) :
    broadcastInDim S2048x64 ![] bcast_S_S2048x64 (constant S_ .f32 0x3F800000#32 : FVec Ideal S_ .f32) (ix2 P d) = (1 : EReal) := by
  pointwise

theorem one_apply' (P : Fin 1024) (k : Fin 768) :
    broadcastInDim S1024x768 ![] bcast_S_S1024x768 (constant S_ .f32 0x3F800000#32 : FVec Ideal S_ .f32) (ix2 P k) = (1 : EReal) := by
  pointwise

theorem zero_apply (P : Fin 2048) (d : Fin 64) :
    broadcastInDim S2048x64 ![] bcast_S_S2048x64 (constant S_ .f32 0x00000000#32 : FVec Ideal S_ .f32) (ix2 P d) = (0 : EReal) := by
  pointwise

theorem zero_apply' (P : Fin 1024) (k : Fin 768) :
    broadcastInDim S1024x768 ![] bcast_S_S1024x768 (constant S_ .f32 0x00000000#32 : FVec Ideal S_ .f32) (ix2 P k) = (0 : EReal) := by
  pointwise

/-- A table: the heads' columns by position, then the columns that stay, then the rows that stay. -/
def tab {F : FTy → Type} [FloatOps F] (H : FVec F S2048x64 .f32) (w : BitVec 32) : FVec F S3072x768 .f32 :=
  concatenate S3072x768 0 [⟨S2048x768, heads H (broadcastInDim S2048x64 ![] bcast_S_S2048x64 (constant S_ .f32 w))⟩,
    ⟨S1024x768, broadcastInDim S1024x768 ![] bcast_S_S1024x768 (constant S_ .f32 w)⟩] concatenates_S2048x768_S1024x768_S3072x768_d0

theorem V_cos_head {F : FTy → Type} [FloatOps F] (m : (ℓ : Loc nD τ sig) → Buf (Elt F) ℓ) : V m c main_v26 = headCos := by
  entry_read
  rfl

theorem V_cos_one {F : FTy → Type} [FloatOps F] (m : (ℓ : Loc nD τ sig) → Buf (Elt F) ℓ) : V m c main_v31 = broadcastInDim S2048x64 ![] bcast_S_S2048x64 (constant S_ .f32 0x3F800000#32) := by
  entry_read
  rfl

theorem V_cos_pad {F : FTy → Type} [FloatOps F] (m : (ℓ : Loc nD τ sig) → Buf (Elt F) ℓ) : V m c main_v35 = broadcastInDim S1024x768 ![] bcast_S_S1024x768 (constant S_ .f32 0x3F800000#32) := by
  entry_read
  rfl

theorem V_cos_row {F : FTy → Type} [FloatOps F] (m : (ℓ : Loc nD τ sig) → Buf (Elt F) ℓ) : V m c main_v33 = heads headCos (broadcastInDim S2048x64 ![] bcast_S_S2048x64 (constant S_ .f32 0x3F800000#32)) := by
  refine (read_nary (i := 37) _ _ [main_v34, main_cst_3, main_v35, main_v36, main_cst_4, main_v37, main_v38, main_v39, main_v40] rfl rfl (by decide) (by decide) _).trans ?_
  unfold heads
  rw [← V_cos_head c m, ← V_cos_one c m]
  rfl

theorem V_cos {F : FTy → Type} [FloatOps F] (m : (ℓ : Loc nD τ sig) → Buf (Elt F) ℓ) : V m c main_v36 = tab headCos 0x3F800000#32 := by
  refine (read_binary (i := 41) _ [main_cst_4, main_v37, main_v38, main_v39, main_v40] rfl rfl (by decide) (by decide) (by decide) _).trans ?_
  unfold tab
  rw [← V_cos_row c m, ← V_cos_pad c m]

theorem V_sin_head {F : FTy → Type} [FloatOps F] (m : (ℓ : Loc nD τ sig) → Buf (Elt F) ℓ) : V m c main_v30 = headSin := by
  entry_read
  rfl

theorem V_sin_one {F : FTy → Type} [FloatOps F] (m : (ℓ : Loc nD τ sig) → Buf (Elt F) ℓ) : V m c main_v32 = broadcastInDim S2048x64 ![] bcast_S_S2048x64 (constant S_ .f32 0x00000000#32) := by
  entry_read
  rfl

theorem V_sin_pad {F : FTy → Type} [FloatOps F] (m : (ℓ : Loc nD τ sig) → Buf (Elt F) ℓ) : V m c main_v37 = broadcastInDim S1024x768 ![] bcast_S_S1024x768 (constant S_ .f32 0x00000000#32) := by
  entry_read
  rfl

theorem V_sin_row {F : FTy → Type} [FloatOps F] (m : (ℓ : Loc nD τ sig) → Buf (Elt F) ℓ) : V m c main_v34 = heads headSin (broadcastInDim S2048x64 ![] bcast_S_S2048x64 (constant S_ .f32 0x00000000#32)) := by
  refine (read_nary (i := 38) _ _ [main_cst_3, main_v35, main_v36, main_cst_4, main_v37, main_v38, main_v39, main_v40] rfl rfl (by decide) (by decide) _).trans ?_
  unfold heads
  rw [← V_sin_head c m, ← V_sin_one c m]
  rfl

theorem V_sin {F : FTy → Type} [FloatOps F] (m : (ℓ : Loc nD τ sig) → Buf (Elt F) ℓ) : V m c main_v38 = tab headSin 0x00000000#32 := by
  refine (read_binary (i := 44) _ [main_v39, main_v40] rfl rfl (by decide) (by decide) (by decide) _).trans ?_
  unfold tab
  rw [← V_sin_row c m, ← V_sin_pad c m]

theorem V_w {F : FTy → Type} [FloatOps F] (m : (ℓ : Loc nD τ sig) → Buf (Elt F) ℓ) :
    V m c main_v40 = extractStridedSlice S1024x768 ![0, 0] (truncf .bf16 (m ((c : Thread nD τ).loc main_arg1)) bitsLt_bf16_f32)
      slices_S1024x3840_S1024x768_0_0 := by
  entry_read
  rfl

theorem cos_apply (P : Fin 3072) (k : Fin 768) : tab (F := Ideal) headCos 0x3F800000#32 (ix2 P k) = cosAt 640 P.val k.val := by
  refine (pad_apply _ _ P k).trans ?_
  unfold cosAt
  by_cases h : P.val < 2048
  · rw [dif_pos h]
    refine (row_apply _ _ _ k).trans ?_
    by_cases h' : k.val < 640
    · rw [dif_pos h', if_pos ⟨h, h'⟩, headCos_apply]
      exact congrArg (cosN P.val) (by show k.val % 64 % 32 = k.val % 32; omega)
    · rw [dif_neg h', if_neg (fun q => h' q.2), one_apply]
  · rw [dif_neg h, if_neg (fun q => h q.1), one_apply']

theorem sin_apply (P : Fin 3072) (k : Fin 768) : tab (F := Ideal) headSin 0x00000000#32 (ix2 P k) = sinAt 640 P.val k.val := by
  refine (pad_apply _ _ P k).trans ?_
  unfold sinAt
  by_cases h : P.val < 2048
  · rw [dif_pos h]
    refine (row_apply _ _ _ k).trans ?_
    by_cases h' : k.val < 640
    · rw [dif_pos h', if_pos ⟨h, h'⟩, headSin_apply]
      have e : k.val % 64 % 32 = k.val % 32 := by omega
      show (if k.val % 64 < 32 then -sinN P.val (k.val % 64 % 32) else sinN P.val (k.val % 64 % 32)) = _
      rw [e]
    · rw [dif_neg h', if_neg (fun q => h' q.2), zero_apply]
  · rw [dif_neg h, if_neg (fun q => h q.1), zero_apply']

/-! ## The blocks -/

/-- The result at a token and a column. -/
def res (i : S18432x768.Idx) : EReal :=
  rope 640 (col (m ((c : Thread nD τ).loc main_arg0)) (m ((c : Thread nD τ).loc main_arg1)) 0 (i 0)) (pos (i 0).val) (i 1).val

theorem index0 : ∀ t : Fin cfg0.N, win0_0.index t 0 = t.val / 1 ∧ win0_0.index t 1 = 0 :=
  (by decide +kernel : ∀ t : Fin grid0.N, win0_0.index t 0 = t.val / 1 ∧ win0_0.index t 1 = 0)
theorem index1 : ∀ t : Fin cfg0.N, win0_1.index t 0 = 0 ∧ win0_1.index t 1 = t.val % 1 :=
  (by decide +kernel : ∀ t : Fin grid0.N, win0_1.index t 0 = 0 ∧ win0_1.index t 1 = t.val % 1)
theorem index2 : ∀ t : Fin cfg0.N, win0_2.index t 0 = (if t.val / 1 < 16 then t.val / 1 % 2 else 2) ∧ win0_2.index t 1 = t.val % 1 :=
  (by decide +kernel : ∀ t : Fin grid0.N, win0_2.index t 0 = (if t.val / 1 < 16 then t.val / 1 % 2 else 2) ∧ win0_2.index t 1 = t.val % 1)
theorem index3 : ∀ t : Fin cfg0.N, win0_3.index t 0 = (if t.val / 1 < 16 then t.val / 1 % 2 else 2) ∧ win0_3.index t 1 = t.val % 1 :=
  (by decide +kernel : ∀ t : Fin grid0.N, win0_3.index t 0 = (if t.val / 1 < 16 then t.val / 1 % 2 else 2) ∧ win0_3.index t 1 = t.val % 1)
theorem index4 : ∀ t : Fin cfg0.N, win0_4.index t 0 = t.val / 1 ∧ win0_4.index t 1 = t.val % 1 :=
  (by decide +kernel : ∀ t : Fin grid0.N, win0_4.index t 0 = t.val / 1 ∧ win0_4.index t 1 = t.val % 1)

theorem tok (t : Fin cfg0.N) (r j : Fin 1024) :
    iblk m c 0 t (ix2 r j) = m ((c : Thread nD τ).loc main_arg0) (ix2 ⟨t.val / 1 * 1024 + r.val, by have : t.val < 18 := t.isLt; omega⟩ j) := by
  have ht : t.val < 18 := t.isLt
  have e : (win0_0.blk t).view.emb (ix2 r j) = ix2 ⟨t.val / 1 * 1024 + r.val, by omega⟩ j := by
    blk_ext [index0 t]
  unfold iblk
  rw [V_main_arg0]
  blk_simp [e]

theorem wt (t : Fin cfg0.N) (j : Fin 1024) (k : Fin 768) :
    iblk m c 1 t (ix2 j k) = (m ((c : Thread nD τ).loc main_arg1) (ix2 j ⟨0 + (t.val % 1 * 768 + k.val), by omega⟩) : EReal) := by
  have e : (win0_1.blk t).view.emb (ix2 j k) = ix2 j ⟨t.val % 1 * 768 + k.val, by omega⟩ := by
    blk_ext [index1 t]
  unfold iblk
  rw [V_w]
  blk_simp [e]
  pointwise

/-- The row of the tables that a block's row reads. -/
def row (t : Fin cfg0.N) (r : Fin 1024) : Fin 3072 :=
  ⟨(if t.val / 1 < 16 then t.val / 1 % 2 else 2) * 1024 + r.val, by split <;> omega⟩

theorem cosB (t : Fin cfg0.N) (r : Fin 1024) (k : Fin 768) :
    iblk m c 2 t (ix2 r k) = cosAt 640 (row t r).val (t.val % 1 * 768 + k.val) := by
  have e : (win0_2.blk t).view.emb (ix2 r k) = ix2 (row t r) ⟨t.val % 1 * 768 + k.val, by omega⟩ := by
    blk_ext [index2 t, row]
  unfold iblk
  rw [V_cos]
  blk_simp [e]
  exact cos_apply _ _

theorem sinB (t : Fin cfg0.N) (r : Fin 1024) (k : Fin 768) :
    iblk m c 3 t (ix2 r k) = sinAt 640 (row t r).val (t.val % 1 * 768 + k.val) := by
  have e : (win0_3.blk t).view.emb (ix2 r k) = ix2 (row t r) ⟨t.val % 1 * 768 + k.val, by omega⟩ := by
    blk_ext [index3 t, row]
  unfold iblk
  rw [V_sin]
  blk_simp [e]
  exact sin_apply _ _

theorem row_pos (t : Fin cfg0.N) (r : Fin 1024) : (row t r).val = pos (t.val / 1 * 1024 + r.val) := by
  have ht : t.val < 18 := t.isLt
  unfold row pos
  by_cases h : t.val / 1 < 16
  · simp only [if_pos h, if_pos (by omega : t.val / 1 * 1024 + r.val < 16384)]
    omega
  · simp only [if_neg h, if_neg (by omega : ¬t.val / 1 * 1024 + r.val < 16384)]
    omega

theorem final_eq : (dats m 0 c).arrAt 4 cfg0.N = res m c := by
  refine (dats m 0 c).arrAt_eq_of_covers 4 _ (by decide +kernel) fun t hf y => ?_
  blk_simp
  rw [after0_4]
  have ht : t.val < 18 := t.isLt
  obtain ⟨r, k, rfl⟩ : ∃ (r : Fin 1024) (k : Fin 768), y = ix2 r k := ⟨y 0, y 1, eq_ix2 y⟩
  have e : (win0_4.blk t).view.emb (ix2 r k) = ix2 ⟨t.val / 1 * 1024 + r.val, by omega⟩ ⟨t.val % 1 * 768 + k.val, by omega⟩ := by
    blk_ext [index4 t]
  rw [e]
  refine (out_apply (col (m ((c : Thread nD τ).loc main_arg0)) (m ((c : Thread nD τ).loc main_arg1)) 0 ⟨t.val / 1 * 1024 + r.val, by omega⟩)
    (cosAt 640 (row t r).val) (sinAt 640 (row t r).val) (t.val % 1 * 768) (by omega) (iblk m c 0 t) (iblk m c 1 t)
    (iblk m c 2 t) (iblk m c 3 t) (ix2 r k) (fun k => ?_) (fun k => cosB m c t r k) (fun k => sinB m c t r k)).trans ?_
  · unfold col
    refine Finset.sum_congr rfl fun j _ => congrArg₂ (fun a b : EReal => a * b) (tok m c t r j) ((wt m c t j k).trans ?_)
    rw [dif_pos (show 0 + (t.val % 1 * 768 + k.val) < 3840 by omega)]
  · rw [turn_eq, row_pos]
    rfl

end Cert.Rope6

end
-- ==== Proof.RopeEqual6.lean ====
module

public import proofs.«01_k».proof.Defs
public import proofs.«01_k».proof.Proof.Rope6
public import proofs.«01_k».proof.Proof.Gen.Reference6Ideal.Read
public import Idealize.ShloMosaic.Lib.KernelVsHost

/-! The reference of the projection onto 768 columns, the first 640 rotated by position: the kernel's result. -/

@[expose] public section

set_option maxRecDepth 16384

noncomputable section

namespace Cert.Rope6

open Idealize.ShloMosaic Idealize.ShloMosaic.TcCoe Cert.Reference6Ideal Cert.Reference6Ideal.Gen Cert.Reference6Ideal.Read Idealize.ShloMosaic.Tactic Cert.Rope

/-! ## The product -/

variable (x : (⟨S18432x1024, .bf16⟩ : BufTy).Contents (Elt Ideal)) (w : (⟨S1024x3840, .f32⟩ : BufTy).Contents (Elt Ideal))

theorem prod_col (R : Fin 18432) (k : Fin 768) : (val_main_v28 (F := Ideal) x w (ix2 R k) : EReal) = col x w 0 R k.val := by
  refine (val_main_v28_apply _ _ _).trans ((val_main_v27_apply _ _ _).trans ?_)
  unfold col
  refine Finset.sum_congr rfl fun j _ => congrArg₂ (fun a b : EReal => a * b) ?_ ?_
  · exact congrArg x (funext fun a => Fin.ext (by match a with | ⟨0, _⟩ => rfl | ⟨1, _⟩ => rfl))
  · rw [dif_pos (show 0 + k.val < 3840 by omega)]
    exact congrArg w (funext fun a => Fin.ext (by
      match a with
      | ⟨0, _⟩ => rfl
      | ⟨1, _⟩ => exact (Nat.zero_add _).symm))

/-- The rows with positions, by batch, position, head and lane. -/
theorem split_col (b : Fin 8) (p : Fin 2048) (h : Fin 10) (d : Fin 64) :
    (val_main_v30 (F := Ideal) x w (ix4 b p h d) : EReal) = col x w 0 ⟨b.val * 2048 + p.val, by omega⟩ (h.val * 64 + d.val) := by
  refine (val_main_v30_apply _ _ _).trans ((val_main_v29_apply _ _ _).trans ?_)
  refine Eq.trans (congrArg (val_main_v28 (F := Ideal) x w) (funext fun a => Fin.ext ?_))
    (prod_col x w ⟨b.val * 2048 + p.val, by omega⟩ ⟨h.val * 64 + d.val, by omega⟩)
  match a with
  | ⟨0, _⟩ => show ((((b.val * 2048 + p.val) * 10 + h.val) * 64 + d.val) / 640 = b.val * 2048 + p.val); omega
  | ⟨1, _⟩ => show ((((b.val * 2048 + p.val) * 10 + h.val) * 64 + d.val) % 640 = h.val * 64 + d.val); omega

theorem low_col (b : Fin 8) (p : Fin 2048) (h : Fin 10) (f : Fin 32) :
    (val_main_v33 (F := Ideal) x w (ix4 b p h f) : EReal) = col x w 0 ⟨b.val * 2048 + p.val, by omega⟩ (h.val * 64 + f.val) :=
  (val_main_v33_apply _ _ _).trans (Eq.trans (congrArg (val_main_v30 (F := Ideal) x w) (funext fun a => Fin.ext (by
    match a with
    | ⟨0, _⟩ => rfl
    | ⟨1, _⟩ => rfl
    | ⟨2, _⟩ => rfl
    | ⟨3, _⟩ => rfl))) (split_col x w b p h ⟨f.val, by omega⟩))

theorem high_col (b : Fin 8) (p : Fin 2048) (h : Fin 10) (f : Fin 32) :
    (val_main_v34 (F := Ideal) x w (ix4 b p h f) : EReal) = col x w 0 ⟨b.val * 2048 + p.val, by omega⟩ (h.val * 64 + (32 + f.val)) :=
  (val_main_v34_apply _ _ _).trans (Eq.trans (congrArg (val_main_v30 (F := Ideal) x w) (funext fun a => Fin.ext (by
    match a with
    | ⟨0, _⟩ => rfl
    | ⟨1, _⟩ => rfl
    | ⟨2, _⟩ => rfl
    | ⟨3, _⟩ => rfl))) (split_col x w b p h ⟨32 + f.val, by omega⟩))

/-! ## The tables, spread over batches and heads -/

theorem cos_col (p : Fin 2048) (z : Fin 1) (f : Fin 32) : (val_main_v31 (F := Ideal) (ix3 p z f) : EReal) = cosN p.val f.val := by
  refine (val_main_v31_apply _).trans (Eq.trans ?_ (cosN_of p f _ rfl).symm)
  refine congrArg (Cert.Reference5Ideal.Read.val_main_v24 (F := Ideal)) (funext fun a => Fin.ext ?_)
  have hz : z.val < 1 := z.isLt
  match a with
  | ⟨0, _⟩ => show ((p.val * 1 + z.val) * 32 + f.val) / 32 = p.val; omega
  | ⟨1, _⟩ => show ((p.val * 1 + z.val) * 32 + f.val) % 32 = f.val; omega

theorem sin_col (p : Fin 2048) (z : Fin 1) (f : Fin 32) : (val_main_v32 (F := Ideal) (ix3 p z f) : EReal) = sinN p.val f.val := by
  refine (val_main_v32_apply _).trans (Eq.trans ?_ (sinN_of p f _ rfl).symm)
  refine congrArg (Cert.Reference5Ideal.Read.val_main_v25 (F := Ideal)) (funext fun a => Fin.ext ?_)
  have hz : z.val < 1 := z.isLt
  match a with
  | ⟨0, _⟩ => show ((p.val * 1 + z.val) * 32 + f.val) / 32 = p.val; omega
  | ⟨1, _⟩ => show ((p.val * 1 + z.val) * 32 + f.val) % 32 = f.val; omega

theorem spread36 (b : Fin 8) (p : Fin 2048) (h : Fin 10) (f : Fin 32) : (val_main_v36 (F := Ideal) (ix4 b p h f) : EReal) = cosN p.val f.val :=
  (val_main_v36_apply _).trans ((val_main_v35_apply _).trans (Eq.trans (congrArg (val_main_v31 (F := Ideal)) (funext fun a => Fin.ext (by
    match a with
    | ⟨0, _⟩ => rfl
    | ⟨1, _⟩ => rfl
    | ⟨2, _⟩ => rfl))) (cos_col p 0 f)))

theorem spread39 (b : Fin 8) (p : Fin 2048) (h : Fin 10) (f : Fin 32) : (val_main_v39 (F := Ideal) (ix4 b p h f) : EReal) = sinN p.val f.val :=
  (val_main_v39_apply _).trans ((val_main_v38_apply _).trans (Eq.trans (congrArg (val_main_v32 (F := Ideal)) (funext fun a => Fin.ext (by
    match a with
    | ⟨0, _⟩ => rfl
    | ⟨1, _⟩ => rfl
    | ⟨2, _⟩ => rfl))) (sin_col p 0 f)))

theorem spread43 (b : Fin 8) (p : Fin 2048) (h : Fin 10) (f : Fin 32) : (val_main_v43 (F := Ideal) (ix4 b p h f) : EReal) = cosN p.val f.val :=
  (val_main_v43_apply _).trans ((val_main_v42_apply _).trans (Eq.trans (congrArg (val_main_v31 (F := Ideal)) (funext fun a => Fin.ext (by
    match a with
    | ⟨0, _⟩ => rfl
    | ⟨1, _⟩ => rfl
    | ⟨2, _⟩ => rfl))) (cos_col p 0 f)))

theorem spread46 (b : Fin 8) (p : Fin 2048) (h : Fin 10) (f : Fin 32) : (val_main_v46 (F := Ideal) (ix4 b p h f) : EReal) = sinN p.val f.val :=
  (val_main_v46_apply _).trans ((val_main_v45_apply _).trans (Eq.trans (congrArg (val_main_v32 (F := Ideal)) (funext fun a => Fin.ext (by
    match a with
    | ⟨0, _⟩ => rfl
    | ⟨1, _⟩ => rfl
    | ⟨2, _⟩ => rfl))) (sin_col p 0 f)))

/-! ## The rotated halves -/

theorem first_half (b : Fin 8) (p : Fin 2048) (h : Fin 10) (f : Fin 32) :
    (val_main_v41 (F := Ideal) x w (ix4 b p h f) : EReal)
      = col x w 0 ⟨b.val * 2048 + p.val, by omega⟩ (h.val * 64 + f.val) * cosN p.val f.val
        - col x w 0 ⟨b.val * 2048 + p.val, by omega⟩ (h.val * 64 + (32 + f.val)) * sinN p.val f.val :=
  congrArg₂ (fun a b : EReal => a - b) (congrArg₂ (fun a b : EReal => a * b) (low_col x w b p h f) (spread36 b p h f))
    (congrArg₂ (fun a b : EReal => a * b) (high_col x w b p h f) (spread39 b p h f))

theorem second_half (b : Fin 8) (p : Fin 2048) (h : Fin 10) (f : Fin 32) :
    (val_main_v48 (F := Ideal) x w (ix4 b p h f) : EReal)
      = col x w 0 ⟨b.val * 2048 + p.val, by omega⟩ (h.val * 64 + (32 + f.val)) * cosN p.val f.val
        + col x w 0 ⟨b.val * 2048 + p.val, by omega⟩ (h.val * 64 + f.val) * sinN p.val f.val :=
  congrArg₂ (fun a b : EReal => a + b) (congrArg₂ (fun a b : EReal => a * b) (high_col x w b p h f) (spread43 b p h f))
    (congrArg₂ (fun a b : EReal => a * b) (low_col x w b p h f) (spread46 b p h f))

theorem halves_apply (X Y : FVec Ideal S8x2048x10x32 .f32) (b : Fin 8) (p : Fin 2048) (h : Fin 10) (d : Fin 64) :
    concatenate S8x2048x10x64 3 [⟨S8x2048x10x32, X⟩, ⟨S8x2048x10x32, Y⟩] concatenates_S8x2048x10x32_S8x2048x10x32_S8x2048x10x64_d3 (ix4 b p h d)
      = if e : d.val < 32 then X (ix4 b p h ⟨d.val, e⟩) else Y (ix4 b p h ⟨d.val - 32, by omega⟩) := by
  pointwise

theorem rows_apply (X : FVec Ideal S16384x640 .f32) (Y : FVec Ideal S2048x640 .f32) (R : Fin 18432) (k : Fin 640) :
    concatenate S18432x640 0 [⟨S16384x640, X⟩, ⟨S2048x640, Y⟩] concatenates_S16384x640_S2048x640_S18432x640_d0 (ix2 R k)
      = if e : R.val < 16384 then X (ix2 ⟨R.val, e⟩ k) else Y (ix2 ⟨R.val - 16384, by omega⟩ k) := by
  pointwise

theorem cols_apply (X : FVec Ideal S18432x640 .f32) (Y : FVec Ideal S18432x128 .f32) (R : Fin 18432) (k : Fin 768) :
    concatenate S18432x768 1 [⟨S18432x640, X⟩, ⟨S18432x128, Y⟩] concatenates_S18432x640_S18432x128_S18432x768_d1 (ix2 R k)
      = if e : k.val < 640 then X (ix2 R ⟨k.val, e⟩) else Y (ix2 R ⟨k.val - 640, by omega⟩) := by
  pointwise

/-- The rows with positions, rotated. -/
theorem seq_col (R : Fin 16384) (k : Fin 640) :
    (val_main_v50 (F := Ideal) x w (ix2 R k) : EReal) = rope 640 (col x w 0 ⟨R.val, by omega⟩) (R.val % 2048) k.val := by
  have hR : R.val < 16384 := R.isLt
  refine (val_main_v50_apply _ _ _).trans ?_
  refine Eq.trans (congrArg (val_main_v49 (F := Ideal) x w) (funext fun a => Fin.ext ?_ :
    _ = ix4 (⟨R.val / 2048, by omega⟩ : Fin 8) (⟨R.val % 2048, by omega⟩ : Fin 2048) (⟨k.val / 64, by omega⟩ : Fin 10) (⟨k.val % 64, by omega⟩ : Fin 64))) ?_
  · match a with
    | ⟨0, _⟩ => show (R.val * 640 + k.val) / 1310720 = R.val / 2048; omega
    | ⟨1, _⟩ => show (R.val * 640 + k.val) / 640 % 2048 = R.val % 2048; omega
    | ⟨2, _⟩ => show (R.val * 640 + k.val) / 64 % 10 = k.val / 64; omega
    | ⟨3, _⟩ => show (R.val * 640 + k.val) % 64 = k.val % 64; omega
  have eR : (⟨R.val / 2048 * 2048 + R.val % 2048, by omega⟩ : Fin 18432) = ⟨R.val, by omega⟩ := Fin.ext (by show R.val / 2048 * 2048 + R.val % 2048 = R.val; omega)
  refine (halves_apply _ _ _ _ _ _).trans ?_
  unfold rope
  rw [if_pos ⟨(by omega : R.val % 2048 < 2048), k.isLt⟩]
  by_cases h : k.val % 64 < 32
  · rw [dif_pos h, if_pos h]
    refine (first_half x w _ _ _ _).trans ?_
    show col x w 0 ⟨R.val / 2048 * 2048 + R.val % 2048, _⟩ (k.val / 64 * 64 + k.val % 64) * cosN (R.val % 2048) (k.val % 64)
      - col x w 0 ⟨R.val / 2048 * 2048 + R.val % 2048, _⟩ (k.val / 64 * 64 + (32 + k.val % 64)) * sinN (R.val % 2048) (k.val % 64) = _
    rw [eR, (by omega : k.val / 64 * 64 + k.val % 64 = k.val), (by omega : k.val / 64 * 64 + (32 + k.val % 64) = k.val + 32),
      (by omega : k.val % 64 = k.val % 32)]
  · rw [dif_neg h, if_neg h]
    refine (second_half x w _ _ _ _).trans ?_
    show col x w 0 ⟨R.val / 2048 * 2048 + R.val % 2048, _⟩ (k.val / 64 * 64 + (32 + (k.val % 64 - 32))) * cosN (R.val % 2048) (k.val % 64 - 32)
      + col x w 0 ⟨R.val / 2048 * 2048 + R.val % 2048, _⟩ (k.val / 64 * 64 + (k.val % 64 - 32)) * sinN (R.val % 2048) (k.val % 64 - 32) = _
    rw [eR, (by omega : k.val / 64 * 64 + (32 + (k.val % 64 - 32)) = k.val), (by omega : k.val / 64 * 64 + (k.val % 64 - 32) = k.val - 32),
      (by omega : k.val % 64 - 32 = k.val % 32)]

/-- The reference's result at a token and a column. -/
theorem ref_col (R : Fin 18432) (k : Fin 768) :
    (val_main_v55 (F := Ideal) x w (ix2 R k) : EReal) = rope 640 (col x w 0 R) (pos R.val) k.val := by
  refine (cols_apply _ _ R k).trans ?_
  by_cases hk : k.val < 640
  · rw [dif_pos hk]
    refine (rows_apply _ _ R ⟨k.val, hk⟩).trans ?_
    by_cases hR : R.val < 16384
    · rw [dif_pos hR]
      refine (seq_col x w ⟨R.val, hR⟩ ⟨k.val, hk⟩).trans ?_
      unfold pos
      rw [if_pos hR]
    · rw [dif_neg hR]
      unfold pos rope
      rw [if_neg hR, if_neg (fun q => absurd q.1 (by omega))]
      refine (val_main_v51_apply _ _ _).trans (Eq.trans (congrArg (val_main_v28 (F := Ideal) x w) (funext fun a => Fin.ext ?_)) (prod_col x w R k))
      match a with
      | ⟨0, _⟩ => show 16384 + (R.val - 16384) = R.val; omega
      | ⟨1, _⟩ => rfl
  · rw [dif_neg hk]
    unfold rope
    rw [if_neg (fun q => hk q.2)]
    refine (val_main_v53_apply _ _ _).trans (Eq.trans (congrArg (val_main_v28 (F := Ideal) x w) (funext fun a => Fin.ext ?_)) (prod_col x w R k))
    match a with
    | ⟨0, _⟩ => rfl
    | ⟨1, _⟩ => show 640 + (k.val - 640) = k.val; omega

/-- The reference runs, keeps its arguments, and has no counter that could be left standing. -/
theorem ref_frame : Cert.quiescent_Reference6Ideal := fun m ρ _ =>
  (θ_run _ _ _).mono (fun r h => ⟨fun c => (h c).2, sem_eq_zero_of_no_sems (by decide) r.2⟩) (Cert.Reference6Ideal.Value.run m ρ)

theorem algebraic : Cert.algebraic_Kernel6Ideal_Reference6Ideal := by
  intro m g m' g' _ hargs
  refine ⟨fun c => res m c, ?_, ?_⟩
  · refine (θ_run _ _ _).mono (fun r h c => ?_) (Cert.Kernel6Ideal.Value.run_blocks m g)
    exact ⟨(h c).1.trans (final_eq m c), (h c).2⟩
  · refine (θ_run _ _ _).mono (fun r h c => ?_) (Cert.Reference6Ideal.Value.run m' g')
    refine ⟨(h c).1.trans ?_, (h c).2⟩
    obtain ⟨h0, h1⟩ := hargs c
    refine (val_main_v55_eq _ _).trans ?_
    rw [h0, h1]
    funext i
    obtain ⟨R, k, rfl⟩ : ∃ (R : Fin 18432) (k : Fin 768), i = ix2 R k := ⟨i 0, i 1, eq_ix2 i⟩
    exact ref_col _ _ R k

end Cert.Rope6

end
-- ==== Proof.PreMath.lean ====
module

public import Idealize.ShloMosaic.Lib.Pointwise

/-! One token of the norm between two layers over the extended reals, with no program in it: the experts' residual, the
    division by the root mean square, the modulation. -/

@[expose] public section

noncomputable section

namespace Cert.Pre

open Idealize.ShloMosaic

/-- The stream after the experts: the token plus their sum, scaled channel by channel. -/
def resid (x a f : Fin 1024 → EReal) (k : Fin 1024) : EReal := x k + a k * f k

/-- One over the root mean square of a token. -/
def scale (v : Fin 1024 → EReal) : EReal :=
  Ideal.rsqrt (Ideal.div (∑ l, v l * v l) (Ideal.ofBits FTy.f32 0x44800000#32) + Ideal.ofBits FTy.f32 0x358637BD#32)

/-- A token divided by its root mean square, times the gain. -/
def normed (v g : Fin 1024 → EReal) (k : Fin 1024) : EReal := v k * scale v * g k

/-- The same, scaled and shifted. -/
def modNormed (v g sc sh : Fin 1024 → EReal) (k : Fin 1024) : EReal := normed v g k * (1 + sc k) + sh k

theorem one_word : (FloatOps.ofBits (F := Ideal) .f32 0x3F800000#32 : EReal) = 1 := by
  pointwise

theorem zero_word : (FloatOps.ofBits (F := Ideal) .f32 0x00000000#32 : EReal) = 0 := by
  pointwise

end Cert.Pre

end
-- ==== Proof.Last.lean ====
module

public import proofs.«01_k».proof.Defs
public import proofs.«01_k».proof.Proof.PreMath
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.StableHlo.RunRead
public import Idealize.ShloMosaic.Lib.Claim

/-! The norm after the last layer: the kernel and the reference have one result. -/

@[expose] public section

set_option maxRecDepth 16384

noncomputable section

namespace Cert.Last

open Idealize.ShloMosaic Idealize.ShloMosaic.TcCoe Idealize.SL.Sem Idealize.ShloMosaic.Tactic Cert.Pre

section Kernel

open Cert.Kernel7Ideal Cert.Kernel7Ideal.Gen

variable (m : (ℓ : Loc nD τ sig) → Buf (Elt Ideal) ℓ) (c : Dev nD)

/-- The sequence a token belongs to. -/
def grp (R : Fin 16384) : Fin 16 := ⟨R.val / 2048, by omega⟩

/-- The stream's row of a token: the latents come first. -/
def row (R : Fin 16384) : Fin 18432 := ⟨R.val, by omega⟩

/-! ## The arguments at a token, and the results over them -/

def xM (R : Fin 18432) (k : Fin 1024) : EReal := m ((c : Thread nD τ).loc main_arg0) (ix2 R k)

def fM (R : Fin 16384) (k : Fin 1024) : EReal := m ((c : Thread nD τ).loc main_arg1) (ix2 R k)

def aM (R : Fin 16384) (a : Fin 6) (k : Fin 1024) : EReal := m ((c : Thread nD τ).loc main_arg2) (ix3 (grp R) a k)

def gainM (k : Fin 1024) : EReal := m ((c : Thread nD τ).loc main_arg3) (ix1 k)

/-- The stream after the experts, at a token. -/
def x1At (R : Fin 16384) : Fin 1024 → EReal := resid (xM m c (row R)) (aM m c R 5) (fM m c R)

def resY (i : S16384x1024.Idx) : EReal := normed (x1At m c (i 0)) (gainM m c) (i 1)

/-! ## The input blocks at a grid point -/

theorem V_gain {F : FTy → Type} [FloatOps F] (m : (ℓ : Loc nD τ sig) → Buf (Elt F) ℓ) :
    V m c main_v0 = broadcastInDim S1x1024 ![1] bcast_S1024_S1x1024_1 (m ((c : Thread nD τ).loc main_arg3)) := by
  entry_read
  rfl

/-- The token that row `r` of grid point `t` is. -/
def rowOf (t : Fin cfg0.N) (r : Fin 512) : Fin 16384 := ⟨t.val * 512 + r.val, by have : t.val < 32 := t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem grp_rowOf (t : Fin cfg0.N) (r : Fin 512) : (grp (rowOf t r)).val = t.val / 4 := by
  show (t.val * 512 + r.val) / 2048 = _
  omega

theorem xin (t : Fin cfg0.N) (r : Fin 512) (k : Fin 1024) : iblk m c 0 t (ix2 r k) = xM m c (row (rowOf t r)) k := by
  have e : (win0_0.blk t).view.emb (ix2 r k) = ix2 (row (rowOf t r)) k := by
    blk_ext [index0 t, rowOf, row]
  unfold iblk
  rw [V_main_arg0]
  blk_simp [e]
  rfl

theorem ffn (t : Fin cfg0.N) (r : Fin 512) (k : Fin 1024) : iblk m c 1 t (ix2 r k) = fM m c (rowOf t r) k := by
  have e : (win0_1.blk t).view.emb (ix2 r k) = ix2 (rowOf t r) k := by
    blk_ext [index1 t, rowOf]
  unfold iblk
  rw [V_main_arg1]
  blk_simp [e]
  rfl

theorem amod (t : Fin cfg0.N) (r : Fin 512) (a : Fin 6) (k : Fin 1024) : iblk m c 2 t (ix3 0 a k) = aM m c (rowOf t r) a k := by
  have e : (win0_2.blk t).view.emb (ix3 0 a k) = ix3 (grp (rowOf t r)) a k := by
    blk_ext [index2 t, grp_rowOf t r]
  unfold iblk
  rw [V_main_arg2]
  blk_simp [e]
  rfl

theorem gain (t : Fin cfg0.N) (k : Fin 1024) : iblk m c 4 t (ix2 0 k) = gainM m c k := by
  have e : (win0_4.blk t).view.emb (ix2 0 k) = ix2 0 k := by
    blk_ext [index4 t]
  unfold iblk
  rw [V_gain]
  blk_simp [e]
  pointwise
  rfl

/-! ## One block -/

theorem ldm5 (x : Vec Ideal S1x6x1024 .f32) (k : Fin 1024) : View.ld x r0_1 (ix3 0 0 k) = x (ix3 0 5 k) :=
  congrArg x (funext fun a => Fin.ext (by
    match a with
    | ⟨0, _⟩ => rfl
    | ⟨1, _⟩ => rfl
    | ⟨2, _⟩ => show 0 + 1 * k.val = k.val; omega))

theorem ldx (x : Vec Ideal S512x1024 .f32) (r : Fin 512) (k : Fin 1024) : View.ld x r0_0 (ix2 r k) = x (ix2 r k) := by
  pointwise

theorem ldg (x : Vec Ideal S1x1024 .f32) (k : Fin 1024) : View.ld x r0_2 (ix2 0 k) = x (ix2 0 k) := by
  pointwise

theorem pay_apply (x : Vec Ideal S512x1024 .f32) (a : Vec Ideal S1x1x1024 .f32) (f : Vec Ideal S512x1024 .f32)
    (g : Vec Ideal S1x1024 .f32) (r : Fin 512) (k : Fin 1024) :
    k0_pay1 x a f g (ix2 r k)
      = normed (resid (fun k => x (ix2 r k)) (fun k => a (ix3 0 0 k)) (fun k => f (ix2 r k))) (fun k => g (ix2 0 k)) k := by
  pointwise [k0_pay1]
  rfl

/-! ## What a grid point leaves -/

theorem x1_pt (t : Fin cfg0.N) (r : Fin 512) :
    resid (fun k => View.ld (iblk m c 0 t) r0_0 (ix2 r k)) (fun k => View.ld (iblk m c 2 t) r0_1 (ix3 0 0 k))
      (fun k => View.ld (iblk m c 1 t) r0_0 (ix2 r k)) = x1At m c (rowOf t r) :=
  congr (congrArg₂ resid (funext fun k => (ldx _ r k).trans (xin m c t r k)) (funext fun k => (ldm5 _ k).trans (amod m c t r 5 k)))
    (funext fun k => (ldx _ r k).trans (ffn m c t r k))

theorem final_y : (dats m 0 c).arrAt 5 cfg0.N = resY m c := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  have e : (win0_5.blk t).view.emb (ix2 r k) = ix2 (rowOf t r) k := by
    blk_ext [index5 t, rowOf]
  rw [e]
  unfold out0_5
  rw [View.canon_cons_unit_lit (S := S512x1024) _ _ _ (by decide)]
  exact (pay_apply _ _ _ _ r k).trans (congrFun (congrArg₂ normed (x1_pt m c t r) (funext fun k => (ldg _ k).trans (gain m c t k))) k)

end Kernel

section Reference

open Cert.Reference7Ideal Cert.Reference7Ideal.Gen Cert.Reference7Ideal.Read

variable (x0 : (⟨S18432x1024, .f32⟩ : BufTy).Contents (Elt Ideal)) (x1 : (⟨S16384x1024, .f32⟩ : BufTy).Contents (Elt Ideal))
  (x2 : (⟨S16x6x1024, .f32⟩ : BufTy).Contents (Elt Ideal)) (x3 : (⟨S1024, .f32⟩ : BufTy).Contents (Elt Ideal))

def x1X (R : Fin 16384) : Fin 1024 → EReal :=
  resid (fun k => x0 (ix2 (row R) k)) (fun k => x2 (ix3 (grp R) 5 k)) (fun k => x1 (ix2 R k))

theorem ref_x1 (R : Fin 16384) (k : Fin 1024) : val_main_v6 (F := Ideal) x0 x1 x2 (ix2 R k) = x1X x0 x1 x2 R k := by
  rw [val_main_v6_apply, val_main_v5_apply, val_main_v4_apply, val_main_v3_apply, val_main_v2_apply, val_main_v1_apply, val_main_v0_apply]
  refine congrArg₂ (fun a b : EReal => a + b) ?_ (congrArg₂ (fun a b : EReal => a * b) ?_ rfl)
  · exact congrArg x0 (funext fun b => Fin.ext (by match b with | ⟨0, _⟩ => rfl | ⟨1, _⟩ => rfl))
  · exact congrArg x2 (funext fun b => Fin.ext (by
      match b with
      | ⟨0, _⟩ => show ((R.val * 1024 + k.val) / 2097152 * 1024 + (R.val * 1024 + k.val) % 1024) / 1024 = R.val / 2048; omega
      | ⟨1, _⟩ => rfl
      | ⟨2, _⟩ => show ((R.val * 1024 + k.val) / 2097152 * 1024 + (R.val * 1024 + k.val) % 1024) % 1024 = k.val; omega))

theorem ref_scale (R : Fin 16384) (k : Fin 1024) : val_main_v15 (F := Ideal) x0 x1 x2 (ix2 R k) = scale (x1X x0 x1 x2 R) := by
  rw [val_main_v15_apply, val_main_v14_apply, val_main_v13_apply, val_main_v11_apply, val_main_v9_apply, val_main_v8_apply,
    val_main_v10_apply, val_main_cst_0_apply, val_main_v12_apply, val_main_cst_1_apply, val_main_cst_apply]
  have e : (∑ l : Fin 1024, val_main_v7 (F := Ideal) x0 x1 x2 (idx_main_v8 (idx_main_v9 (idx_main_v15 (ix2 R k))) l) : EReal)
      = ∑ l, x1X x0 x1 x2 R l * x1X x0 x1 x2 R l := by
    refine Finset.sum_congr rfl fun l _ => ?_
    rw [val_main_v7_apply]
    have i : val_main_v6 (F := Ideal) x0 x1 x2 (idx_main_v8 (idx_main_v9 (idx_main_v15 (ix2 R k))) l) = x1X x0 x1 x2 R l :=
      (congrArg (val_main_v6 (F := Ideal) x0 x1 x2) (funext fun b => Fin.ext (by
        match b with | ⟨0, _⟩ => rfl | ⟨1, _⟩ => rfl))).trans (ref_x1 x0 x1 x2 R l)
    rw [i]
    rfl
  rw [e, zero_word, zero_add]
  rfl

theorem ref_y (R : Fin 16384) (k : Fin 1024) :
    val_main_v19 (F := Ideal) x0 x1 x2 x3 (ix2 R k) = normed (x1X x0 x1 x2 R) (fun k => x3 (ix1 k)) k := by
  rw [val_main_v19_apply, val_main_v16_apply, ref_x1, ref_scale, val_main_v18_apply, val_main_v17_apply]
  refine congrArg₂ (fun a b : EReal => a * b) rfl ?_
  exact congrArg x3 (funext fun b => Fin.ext (by match b with | ⟨0, _⟩ => rfl))

/-- The reference runs, keeps its arguments, and has no counter that could be left standing. -/
theorem ref_frame : Cert.quiescent_Reference7Ideal := fun m ρ _ =>
  (θ_run _ _ _).mono (fun r h => ⟨fun c => (h c).2, sem_eq_zero_of_no_sems (by decide) r.2⟩) (Cert.Reference7Ideal.Value.run m ρ)

theorem algebraic : Cert.algebraic_Kernel7Ideal_Reference7Ideal := by
  intro m g m' g' _ hargs
  refine ⟨fun c => resY m c, ?_, ?_⟩
  · refine (θ_run _ _ _).mono (fun r h c => ?_) (Cert.Kernel7Ideal.Value.run_blocks m g)
    exact ⟨(h c).1.trans (final_y m c), (h c).2⟩
  · refine (θ_run _ _ _).mono (fun r h c => ?_) (Cert.Reference7Ideal.Value.run m' g')
    obtain ⟨h0, h1, h2, h3⟩ := hargs c
    refine ⟨(h c).1.trans ((val_main_v19_eq _ _ _ _).trans ?_), (h c).2⟩
    rw [h0, h1, h2, h3]
    funext i
    obtain ⟨R, k, rfl⟩ : ∃ (R : Fin 16384) (k : Fin 1024), i = ix2 R k := ⟨i 0, i 1, eq_ix2 i⟩
    exact ref_y _ _ _ _ R k

end Reference

end Cert.Last

end
-- ==== Proof.Start.lean ====
module

public import proofs.«01_k».proof.Defs
public import proofs.«01_k».proof.Proof.PreMath
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.StableHlo.RunRead
public import Idealize.ShloMosaic.Lib.Claim

/-! The norm that starts a layer: the kernel and the reference have the same two results. -/

@[expose] public section

set_option maxRecDepth 16384

noncomputable section

namespace Cert.Start

open Idealize.ShloMosaic Idealize.ShloMosaic.TcCoe Idealize.SL.Sem Idealize.ShloMosaic.Tactic Cert.Pre

section Kernel

open Cert.Kernel8Ideal Cert.Kernel8Ideal.Gen

variable (m : (ℓ : Loc nD τ sig) → Buf (Elt Ideal) ℓ) (c : Dev nD)

/-- The row of the modulation that a token takes: its sequence's, or the contexts' common one. -/
def grp (R : Fin 18432) : Fin 16 := ⟨if R.val < 16384 then R.val / 2048 else 8, by split <;> omega⟩

/-! ## The arguments at a token, and the results over them -/

def xM (R : Fin 18432) (k : Fin 1024) : EReal := m ((c : Thread nD τ).loc main_arg0) (ix2 R k)

def fM (R : Fin 18432) (k : Fin 1024) : EReal := m ((c : Thread nD τ).loc main_arg1) (ix2 R k)

def aM (R : Fin 18432) (a : Fin 6) (k : Fin 1024) : EReal := m ((c : Thread nD τ).loc main_arg2) (ix3 (grp R) a k)

def bM (R : Fin 18432) (a : Fin 6) (k : Fin 1024) : EReal := m ((c : Thread nD τ).loc main_arg3) (ix3 (grp R) a k)

def gainM (k : Fin 1024) : EReal := m ((c : Thread nD τ).loc main_arg4) (ix1 k)

/-- The stream after the experts, at a token. -/
def x1At (R : Fin 18432) : Fin 1024 → EReal := resid (xM m c R) (aM m c R 5) (fM m c R)

def resX (i : S18432x1024.Idx) : EReal := x1At m c (i 0) (i 1)

def resH (i : S18432x1024.Idx) : EReal := modNormed (x1At m c (i 0)) (gainM m c) (bM m c (i 0) 1) (bM m c (i 0) 0) (i 1)

/-! ## The input blocks at a grid point -/

theorem V_gain {F : FTy → Type} [FloatOps F] (m : (ℓ : Loc nD τ sig) → Buf (Elt F) ℓ) :
    V m c main_v0 = broadcastInDim S1x1024 ![1] bcast_S1024_S1x1024_1 (m ((c : Thread nD τ).loc main_arg4)) := by
  entry_read
  rfl

/-- The token that row `r` of grid point `t` is. -/
def rowOf (t : Fin cfg0.N) (r : Fin 512) : Fin 18432 := ⟨t.val * 512 + r.val, by have : t.val < 36 := t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = (if t.val < 32 then t.val / 4 else 8) ∧ win0_2.index t 1 = 0 ∧ win0_2.index t 2 = 0 :=
  (by decide +kernel : ∀ t : Fin grid0.N, win0_2.index t 0 = (if t.val < 32 then t.val / 4 else 8) ∧ win0_2.index t 1 = 0 ∧ win0_2.index t 2 = 0)
theorem index3 : ∀ t : Fin cfg0.N, win0_3.index t 0 = (if t.val < 32 then t.val / 4 else 8) ∧ win0_3.index t 1 = 0 ∧ win0_3.index t 2 = 0 :=
  (by decide +kernel : ∀ t : Fin grid0.N, win0_3.index t 0 = (if t.val < 32 then t.val / 4 else 8) ∧ win0_3.index t 1 = 0 ∧ win0_3.index t 2 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)

theorem grp_rowOf (t : Fin cfg0.N) (r : Fin 512) : (grp (rowOf t r)).val = if t.val < 32 then t.val / 4 else 8 := by
  show (if t.val * 512 + r.val < 16384 then (t.val * 512 + r.val) / 2048 else 8) = _
  split <;> split <;> omega

theorem xin (t : Fin cfg0.N) (r : Fin 512) (k : Fin 1024) : iblk m c 0 t (ix2 r k) = xM m c (rowOf t r) k := by
  have e : (win0_0.blk t).view.emb (ix2 r k) = ix2 (rowOf t r) k := by
    blk_ext [index0 t, rowOf]
  unfold iblk
  rw [V_main_arg0]
  blk_simp [e]
  rfl

theorem ffn (t : Fin cfg0.N) (r : Fin 512) (k : Fin 1024) : iblk m c 1 t (ix2 r k) = fM m c (rowOf t r) k := by
  have e : (win0_1.blk t).view.emb (ix2 r k) = ix2 (rowOf t r) k := by
    blk_ext [index1 t, rowOf]
  unfold iblk
  rw [V_main_arg1]
  blk_simp [e]
  rfl

theorem amod (t : Fin cfg0.N) (r : Fin 512) (a : Fin 6) (k : Fin 1024) : iblk m c 2 t (ix3 0 a k) = aM m c (rowOf t r) a k := by
  have e : (win0_2.blk t).view.emb (ix3 0 a k) = ix3 (grp (rowOf t r)) a k := by
    blk_ext [index2 t, grp_rowOf t r]
  unfold iblk
  rw [V_main_arg2]
  blk_simp [e]
  rfl

theorem bmod (t : Fin cfg0.N) (r : Fin 512) (a : Fin 6) (k : Fin 1024) : iblk m c 3 t (ix3 0 a k) = bM m c (rowOf t r) a k := by
  have e : (win0_3.blk t).view.emb (ix3 0 a k) = ix3 (grp (rowOf t r)) a k := by
    blk_ext [index3 t, grp_rowOf t r]
  unfold iblk
  rw [V_main_arg3]
  blk_simp [e]
  rfl

theorem gain (t : Fin cfg0.N) (k : Fin 1024) : iblk m c 4 t (ix2 0 k) = gainM m c k := by
  have e : (win0_4.blk t).view.emb (ix2 0 k) = ix2 0 k := by
    blk_ext [index4 t]
  unfold iblk
  rw [V_gain]
  blk_simp [e]
  pointwise
  rfl

/-! ## One block -/

theorem ldm5 (x : Vec Ideal S1x6x1024 .f32) (k : Fin 1024) : View.ld x r0_1 (ix3 0 0 k) = x (ix3 0 5 k) :=
  congrArg x (funext fun a => Fin.ext (by
    match a with
    | ⟨0, _⟩ => rfl
    | ⟨1, _⟩ => rfl
    | ⟨2, _⟩ => show 0 + 1 * k.val = k.val; omega))

theorem ldm1 (x : Vec Ideal S1x6x1024 .f32) (k : Fin 1024) : View.ld x r0_3 (ix3 0 0 k) = x (ix3 0 1 k) :=
  congrArg x (funext fun a => Fin.ext (by
    match a with
    | ⟨0, _⟩ => rfl
    | ⟨1, _⟩ => rfl
    | ⟨2, _⟩ => show 0 + 1 * k.val = k.val; omega))

theorem ldm0 (x : Vec Ideal S1x6x1024 .f32) (k : Fin 1024) : View.ld x r0_4 (ix3 0 0 k) = x (ix3 0 0 k) :=
  congrArg x (funext fun a => Fin.ext (by
    match a with
    | ⟨0, _⟩ => rfl
    | ⟨1, _⟩ => rfl
    | ⟨2, _⟩ => show 0 + 1 * k.val = k.val; omega))

theorem ldx (x : Vec Ideal S512x1024 .f32) (r : Fin 512) (k : Fin 1024) : View.ld x r0_0 (ix2 r k) = x (ix2 r k) := by
  pointwise

theorem ldg (x : Vec Ideal S1x1024 .f32) (k : Fin 1024) : View.ld x r0_2 (ix2 0 k) = x (ix2 0 k) := by
  pointwise

theorem pay1_apply (x : Vec Ideal S512x1024 .f32) (a : Vec Ideal S1x1x1024 .f32) (f : Vec Ideal S512x1024 .f32)
    (r : Fin 512) (k : Fin 1024) :
    k0_pay1 x a f (ix2 r k) = resid (fun k => x (ix2 r k)) (fun k => a (ix3 0 0 k)) (fun k => f (ix2 r k)) k := by
  pointwise [k0_pay1]
  rfl

theorem pay2_apply (x : Vec Ideal S512x1024 .f32) (a : Vec Ideal S1x1x1024 .f32) (f : Vec Ideal S512x1024 .f32)
    (g : Vec Ideal S1x1024 .f32) (sc sh : Vec Ideal S1x1x1024 .f32) (r : Fin 512) (k : Fin 1024) :
    k0_pay2 x a f g sc sh (ix2 r k)
      = modNormed (fun k => k0_pay1 x a f (ix2 r k)) (fun k => g (ix2 0 k)) (fun k => sc (ix3 0 0 k)) (fun k => sh (ix3 0 0 k)) k := by
  unfold k0_pay2
  generalize k0_pay1 x a f = P
  pointwise
  rfl

/-! ## What a grid point leaves -/

theorem x1_pt (t : Fin cfg0.N) (r : Fin 512) :
    resid (fun k => View.ld (iblk m c 0 t) r0_0 (ix2 r k)) (fun k => View.ld (iblk m c 2 t) r0_1 (ix3 0 0 k))
      (fun k => View.ld (iblk m c 1 t) r0_0 (ix2 r k)) = x1At m c (rowOf t r) :=
  congr (congrArg₂ resid (funext fun k => (ldx _ r k).trans (xin m c t r k)) (funext fun k => (ldm5 _ k).trans (amod m c t r 5 k)))
    (funext fun k => (ldx _ r k).trans (ffn m c t r k))

theorem final_x : (dats m 0 c).arrAt 5 cfg0.N = resX m c := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, eq_ix2 y⟩
  have e : (win0_5.blk t).view.emb (ix2 r k) = ix2 (rowOf t r) k := by
    blk_ext [index5 t, rowOf]
  rw [e]
  unfold out0_5
  rw [View.canon_cons_unit_lit (S := S512x1024) _ _ _ (by decide)]
  exact (pay1_apply _ _ _ r k).trans (congrFun (x1_pt m c t r) k)

theorem final_h : (dats m 0 c).arrAt 6 cfg0.N = resH m c := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, eq_ix2 y⟩
  have e : (win0_6.blk t).view.emb (ix2 r k) = ix2 (rowOf t r) k := by
    blk_ext [index6 t, rowOf]
  rw [e]
  unfold out0_6
  rw [View.canon_cons_unit_lit (S := S512x1024) _ _ _ (by decide)]
  refine (pay2_apply _ _ _ _ _ _ r k).trans (congrFun (congr (congr (congrArg₂ modNormed ?_ (funext fun k => (ldg _ k).trans (gain m c t k))) ?_) ?_) k)
  · exact (funext fun k => pay1_apply _ _ _ r k).trans (x1_pt m c t r)
  · exact funext fun k => (ldm1 _ k).trans (bmod m c t r 1 k)
  · exact funext fun k => (ldm0 _ k).trans (bmod m c t r 0 k)

end Kernel

section Reference

open Cert.Reference8Ideal Cert.Reference8Ideal.Gen Cert.Reference8Ideal.Read

variable (x0 x1 : (⟨S18432x1024, .f32⟩ : BufTy).Contents (Elt Ideal))
  (x2 x3 : (⟨S16x6x1024, .f32⟩ : BufTy).Contents (Elt Ideal)) (x4 : (⟨S1024, .f32⟩ : BufTy).Contents (Elt Ideal))

def x1X (R : Fin 18432) : Fin 1024 → EReal :=
  resid (fun k => x0 (ix2 R k)) (fun k => x2 (ix3 (grp R) 5 k)) (fun k => x1 (ix2 R k))

theorem cat2 (A : FVec Ideal S16384x6x1024 .f32) (B : FVec Ideal S2048x6x1024 .f32) (R : Fin 18432) (a : Fin 6) (k : Fin 1024) :
    concatenate S18432x6x1024 0 [⟨S16384x6x1024, A⟩, ⟨S2048x6x1024, B⟩] concatenates_S16384x6x1024_S2048x6x1024_S18432x6x1024_d0 (ix3 R a k)
      = if h : R.val < 16384 then A (ix3 ⟨R.val, h⟩ a k) else B (ix3 ⟨R.val - 16384, by omega⟩ a k) := by
  pointwise

theorem ref_mod2 (R : Fin 18432) (a : Fin 6) (k : Fin 1024) : val_main_v6 (F := Ideal) x2 (ix3 R a k) = x2 (ix3 (grp R) a k) := by
  refine (cat2 _ _ R a k).trans ?_
  by_cases h : R.val < 16384
  · rw [dif_pos h, val_main_v2_apply, val_main_v1_apply, val_main_v0_apply]
    exact congrArg x2 (funext fun b => Fin.ext (by
      match b with
      | ⟨0, _⟩ => show ((R.val * 6 + a.val) * 1024 + k.val) / 12582912 = if R.val < 16384 then R.val / 2048 else 8; rw [if_pos h]; omega
      | ⟨1, _⟩ => show ((R.val * 6 + a.val) * 1024 + k.val) / 1024 % 6 = a.val; omega
      | ⟨2, _⟩ => show ((R.val * 6 + a.val) * 1024 + k.val) % 1024 = k.val; omega))
  · rw [dif_neg h, val_main_v5_apply, val_main_v4_apply, val_main_v3_apply]
    exact congrArg x2 (funext fun b => Fin.ext (by
      match b with
      | ⟨0, _⟩ => show 8 + 0 = if R.val < 16384 then R.val / 2048 else 8; rw [if_neg h]
      | ⟨1, _⟩ => show (((R.val - 16384) * 6 + a.val) * 1024 + k.val) / 1024 % 6 = a.val; omega
      | ⟨2, _⟩ => show (((R.val - 16384) * 6 + a.val) * 1024 + k.val) % 1024 = k.val; omega))

theorem ref_mod3 (R : Fin 18432) (a : Fin 6) (k : Fin 1024) : val_main_v13 (F := Ideal) x3 (ix3 R a k) = x3 (ix3 (grp R) a k) := by
  refine (cat2 _ _ R a k).trans ?_
  by_cases h : R.val < 16384
  · rw [dif_pos h, val_main_v9_apply, val_main_v8_apply, val_main_v7_apply]
    exact congrArg x3 (funext fun b => Fin.ext (by
      match b with
      | ⟨0, _⟩ => show ((R.val * 6 + a.val) * 1024 + k.val) / 12582912 = if R.val < 16384 then R.val / 2048 else 8; rw [if_pos h]; omega
      | ⟨1, _⟩ => show ((R.val * 6 + a.val) * 1024 + k.val) / 1024 % 6 = a.val; omega
      | ⟨2, _⟩ => show ((R.val * 6 + a.val) * 1024 + k.val) % 1024 = k.val; omega))
  · rw [dif_neg h, val_main_v12_apply, val_main_v11_apply, val_main_v10_apply]
    exact congrArg x3 (funext fun b => Fin.ext (by
      match b with
      | ⟨0, _⟩ => show 8 + 0 = if R.val < 16384 then R.val / 2048 else 8; rw [if_neg h]
      | ⟨1, _⟩ => show (((R.val - 16384) * 6 + a.val) * 1024 + k.val) / 1024 % 6 = a.val; omega
      | ⟨2, _⟩ => show (((R.val - 16384) * 6 + a.val) * 1024 + k.val) % 1024 = k.val; omega))

theorem ref_g2 (R : Fin 18432) (k : Fin 1024) : val_main_v15 (F := Ideal) x2 (ix2 R k) = x2 (ix3 (grp R) 5 k) := by
  rw [val_main_v15_apply, val_main_v14_apply]
  refine Eq.trans (congrArg (val_main_v6 (F := Ideal) x2) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod2 x2 R 5 k)

theorem ref_sh (R : Fin 18432) (k : Fin 1024) : val_main_v17 (F := Ideal) x3 (ix2 R k) = x3 (ix3 (grp R) 0 k) := by
  rw [val_main_v17_apply, val_main_v16_apply]
  refine Eq.trans (congrArg (val_main_v13 (F := Ideal) x3) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod3 x3 R 0 k)

theorem ref_sc (R : Fin 18432) (k : Fin 1024) : val_main_v19 (F := Ideal) x3 (ix2 R k) = x3 (ix3 (grp R) 1 k) := by
  rw [val_main_v19_apply, val_main_v18_apply]
  refine Eq.trans (congrArg (val_main_v13 (F := Ideal) x3) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod3 x3 R 1 k)

theorem ref_x1 (R : Fin 18432) (k : Fin 1024) : val_main_v21 (F := Ideal) x0 x1 x2 (ix2 R k) = x1X x0 x1 x2 R k := by
  rw [val_main_v21_apply, val_main_v20_apply, ref_g2]
  rfl

theorem ref_scale (R : Fin 18432) (k : Fin 1024) : val_main_v30 (F := Ideal) x0 x1 x2 (ix2 R k) = scale (x1X x0 x1 x2 R) := by
  rw [val_main_v30_apply, val_main_v29_apply, val_main_v28_apply, val_main_v26_apply, val_main_v24_apply, val_main_v23_apply,
    val_main_v25_apply, val_main_cst_0_apply, val_main_v27_apply, val_main_cst_1_apply, val_main_cst_apply]
  have e : (∑ l : Fin 1024, val_main_v22 (F := Ideal) x0 x1 x2 (idx_main_v23 (idx_main_v24 (idx_main_v30 (ix2 R k))) l) : EReal)
      = ∑ l, x1X x0 x1 x2 R l * x1X x0 x1 x2 R l := by
    refine Finset.sum_congr rfl fun l _ => ?_
    rw [val_main_v22_apply]
    have i : val_main_v21 (F := Ideal) x0 x1 x2 (idx_main_v23 (idx_main_v24 (idx_main_v30 (ix2 R k))) l) = x1X x0 x1 x2 R l :=
      (congrArg (val_main_v21 (F := Ideal) x0 x1 x2) (funext fun b => Fin.ext (by
        match b with | ⟨0, _⟩ => rfl | ⟨1, _⟩ => rfl))).trans (ref_x1 x0 x1 x2 R l)
    rw [i]
    rfl
  rw [e, zero_word, zero_add]
  rfl

theorem ref_h (R : Fin 18432) (k : Fin 1024) : val_main_v39 (F := Ideal) x0 x1 x2 x3 x4 (ix2 R k)
    = modNormed (x1X x0 x1 x2 R) (fun k => x4 (ix1 k)) (fun k => x3 (ix3 (grp R) 1 k)) (fun k => x3 (ix3 (grp R) 0 k)) k := by
  rw [val_main_v39_apply, val_main_v38_apply, val_main_v37_apply, val_main_v36_apply, val_main_v34_apply, val_main_v31_apply, ref_x1,
    ref_scale, val_main_v33_apply, val_main_v32_apply, val_main_v35_apply, val_main_cst_2_apply, ref_sc, ref_sh, one_word]
  refine congrArg₂ (fun a b : EReal => a + b) (congrArg₂ (fun a b : EReal => a * b) (congrArg₂ (fun a b : EReal => a * b) rfl ?_) rfl) rfl
  exact congrArg x4 (funext fun b => Fin.ext (by match b with | ⟨0, _⟩ => rfl))

/-- The reference runs, keeps its arguments, and has no counter that could be left standing. -/
theorem ref_frame : Cert.quiescent_Reference8Ideal := fun m ρ _ =>
  (θ_run _ _ _).mono (fun r h => ⟨fun c => (h c).2.2, sem_eq_zero_of_no_sems (by decide) r.2⟩) (Cert.Reference8Ideal.Value.run m ρ)

theorem algebraic : Cert.algebraic_Kernel8Ideal_Reference8Ideal := by
  intro m g m' g' _ hargs
  refine ⟨fun c => resX m c, fun c => resH m c, ?_, ?_⟩
  · refine (θ_run _ _ _).mono (fun r h c => ?_) (Cert.Kernel8Ideal.Value.run_blocks m g)
    exact ⟨(h c).1.trans (final_x m c), (h c).2.1.trans (final_h m c), (h c).2.2⟩
  · refine (θ_run _ _ _).mono (fun r h c => ?_) (Cert.Reference8Ideal.Value.run m' g')
    obtain ⟨h0, h1, h2, h3, h4⟩ := hargs c
    refine ⟨(h c).1.trans ((val_main_v21_eq _ _ _).trans ?_), (h c).2.1.trans ?_, (h c).2.2⟩
    · rw [h0, h1, h2]
      funext i
      obtain ⟨R, k, rfl⟩ : ∃ (R : Fin 18432) (k : Fin 1024), i = ix2 R k := ⟨i 0, i 1, eq_ix2 i⟩
      exact ref_x1 _ _ _ R k
    · rw [val_main_v39_eq, h0, h1, h2, h3, h4]
      funext i
      obtain ⟨R, k, rfl⟩ : ∃ (R : Fin 18432) (k : Fin 1024), i = ix2 R k := ⟨i 0, i 1, eq_ix2 i⟩
      exact ref_h _ _ _ _ _ R k

end Reference

end Cert.Start

end
-- ==== Proof.Mods.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.StableHlo.RunRead
public import Idealize.ShloMosaic.Lib.Claim

/-! The modulation vectors: the kernel and the reference have one result. -/

@[expose] public section

set_option maxRecDepth 16384

noncomputable section

namespace Cert.Mods

open Idealize.ShloMosaic Idealize.ShloMosaic.TcCoe Idealize.SL.Sem Idealize.ShloMosaic.Tactic

section Kernel

open Cert.Kernel9Ideal Cert.Kernel9Ideal.Gen

variable (m : (ℓ : Loc nD τ sig) → Buf (Elt Ideal) ℓ) (c : Dev nD)

/-- The vector's logistic gate of itself. -/
def silu (a : EReal) : EReal := a * Ideal.logistic a

/-- One modulation number: a sum over the width of the gated vector, and a bias. -/
def mods (v w : Fin 1024 → EReal) (b : EReal) : EReal := (∑ j, silu (v j) * w j) + b

theorem pay_apply (C : Vec Ideal S16x1024 .f32) (W : Vec Ideal S1024x512 .f32) (B : Vec Ideal S1x512 .f32) (r : Fin 16) (k : Fin 512) :
    k0_pay1 C W B (ix2 r k) = mods (fun j => C (ix2 r j)) (fun j => W (ix2 j k)) (B (ix2 0 k)) := by
  pointwise [k0_pay1]
  rfl

def cM (r : Fin 16) (j : Fin 1024) : EReal := m ((c : Thread nD τ).loc main_arg0) (ix2 r j)

def wM (j : Fin 1024) (q : Fin 6144) : EReal := m ((c : Thread nD τ).loc main_arg1) (ix2 j q)

def bM (q : Fin 6144) : EReal := m ((c : Thread nD τ).loc main_arg2) (ix1 q)

def res (i : S16x6144.Idx) : EReal := mods (cM m c (i 0)) (fun j => wM m c j (i 1)) (bM m c (i 1))

theorem V_b {F : FTy → Type} [FloatOps F] (m : (ℓ : Loc nD τ sig) → Buf (Elt F) ℓ) :
    V m c main_v0 = shapeCast S1x6144 (m ((c : Thread nD τ).loc main_arg2)) shapeCasts_S6144_S1x6144 := by
  entry_read
  rfl

theorem b_at (A : Vec Ideal S6144 .f32) (q : Fin 6144) : shapeCast S1x6144 A shapeCasts_S6144_S1x6144 (ix2 0 q) = A (ix1 q) := by
  refine shapeCast_apply A shapeCasts_S6144_S1x6144 (ix2 0 q) (ix1 q) ?_
  rewrite [Shape.rowMajor_val_one, Shape.rowMajor_val_two]
  show q.val = 0 * 6144 + q.val
  omega

/-- The column that column `k` of grid point `t` is. -/
def colOf (t : Fin cfg0.N) (k : Fin 512) : Fin 6144 := ⟨t.val * 512 + k.val, by have : t.val < 12 := t.isLt; omega⟩

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem index3 : ∀ t : Fin cfg0.N, win0_3.index t 0 = 0 ∧ win0_3.index t 1 = t.val :=
  (by decide +kernel : ∀ t : Fin grid0.N, win0_3.index t 0 = 0 ∧ win0_3.index t 1 = t.val)

theorem vec (t : Fin cfg0.N) (r : Fin 16) (j : Fin 1024) : iblk m c 0 t (ix2 r j) = cM m c r j := by
  have e : (win0_0.blk t).view.emb (ix2 r j) = ix2 r j := by
    blk_ext [index0 t]
  unfold iblk
  rw [V_main_arg0]
  blk_simp [e]
  rfl

theorem wt (t : Fin cfg0.N) (j : Fin 1024) (k : Fin 512) : iblk m c 1 t (ix2 j k) = wM m c j (colOf t k) := by
  have e : (win0_1.blk t).view.emb (ix2 j k) = ix2 j (colOf t k) := by
    blk_ext [index1 t, colOf]
  unfold iblk
  rw [V_main_arg1]
  blk_simp [e]
  rfl

theorem bias (t : Fin cfg0.N) (k : Fin 512) : iblk m c 2 t (ix2 0 k) = bM m c (colOf t k) := by
  have e : (win0_2.blk t).view.emb (ix2 0 k) = ix2 0 (colOf t k) := by
    blk_ext [index2 t, colOf]
  unfold iblk
  rw [V_b]
  blk_simp [e]
  exact b_at _ _

theorem final_eq : (dats m 0 c).arrAt 3 cfg0.N = res m c := by
  refine (dats m 0 c).arrAt_eq_of_covers 3 _ (by decide +kernel) fun t hf y => ?_
  blk_simp
  rw [after0_3]
  obtain ⟨r, k, rfl⟩ : ∃ (r : Fin 16) (k : Fin 512), y = ix2 r k := ⟨y 0, y 1, eq_ix2 y⟩
  have e : (win0_3.blk t).view.emb (ix2 r k) = ix2 r (colOf t k) := by
    blk_ext [index3 t, colOf]
  rw [e]
  frame_out
  refine (pay_apply _ _ _ r k).trans (congr (congrArg₂ mods (funext fun j => ?_) (funext fun j => ?_)) ?_)
  · pointwise
    exact vec m c t r j
  · pointwise
    exact wt m c t j k
  · pointwise
    exact bias m c t k

end Kernel

section Reference

open Cert.Reference9Ideal Cert.Reference9Ideal.Gen Cert.Reference9Ideal.Read

variable (x0 : (⟨S16x1024, .f32⟩ : BufTy).Contents (Elt Ideal)) (x1 : (⟨S1024x6144, .f32⟩ : BufTy).Contents (Elt Ideal))
  (x2 : (⟨S6144, .f32⟩ : BufTy).Contents (Elt Ideal))

theorem silu_of (a : EReal) :
    (FloatOps.mulf (F := Ideal) (φ := .f32) a (FloatOps.hostDivf (FloatOps.ofBits (F := Ideal) .f32 0x3F800000#32)
      (FloatOps.addf (FloatOps.ofBits (F := Ideal) .f32 0x3F800000#32)
        (FloatOps.hostUnary .exp (FloatOps.hostNegf (F := Ideal) (φ := .f32) a))))) = silu a := by
  unfold silu
  pointwise
  rfl

theorem ref_silu (r : Fin 16) (j : Fin 1024) : val_main_v0 (F := Ideal) x0 (ix2 r j) = silu (x0 (ix2 r j)) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  exact silu_of _

theorem ref_at (r : Fin 16) (q : Fin 6144) :
    val_main_v4 (F := Ideal) x0 x1 x2 (ix2 r q) = mods (fun j => x0 (ix2 r j)) (fun j => x1 (ix2 j q)) (x2 (ix1 q)) := by
  rw [val_main_v4_apply, val_main_v1_apply, val_main_v3_apply, val_main_v2_apply]
  refine congrArg₂ (fun a b : EReal => a + b) (Finset.sum_congr rfl fun j _ => congrArg₂ (fun a b : EReal => a * b) ?_ ?_) ?_
  · exact (congrArg (val_main_v0 (F := Ideal) x0) (funext fun b => Fin.ext (by match b with | ⟨0, _⟩ => rfl | ⟨1, _⟩ => rfl))).trans
      (ref_silu x0 r j)
  · exact congrArg x1 (funext fun b => Fin.ext (by match b with | ⟨0, _⟩ => rfl | ⟨1, _⟩ => rfl))
  · exact congrArg x2 (funext fun b => Fin.ext (by match b with | ⟨0, _⟩ => rfl))

/-- The reference runs, keeps its arguments, and has no counter that could be left standing. -/
theorem ref_frame : Cert.quiescent_Reference9Ideal := fun m ρ _ =>
  (θ_run _ _ _).mono (fun r h => ⟨fun c => (h c).2, sem_eq_zero_of_no_sems (by decide) r.2⟩) (Cert.Reference9Ideal.Value.run m ρ)

theorem algebraic : Cert.algebraic_Kernel9Ideal_Reference9Ideal := by
  intro m g m' g' _ hargs
  refine ⟨fun c => res m c, ?_, ?_⟩
  · refine (θ_run _ _ _).mono (fun r h c => ?_) (Cert.Kernel9Ideal.Value.run_blocks m g)
    exact ⟨(h c).1.trans (final_eq m c), (h c).2⟩
  · refine (θ_run _ _ _).mono (fun r h c => ?_) (Cert.Reference9Ideal.Value.run m' g')
    obtain ⟨h0, h1, h2⟩ := hargs c
    refine ⟨(h c).1.trans ((val_main_v4_eq _ _ _).trans ?_), (h c).2⟩
    rw [h0, h1, h2]
    funext i
    obtain ⟨r, q, rfl⟩ : ∃ (r : Fin 16) (q : Fin 6144), i = ix2 r q := ⟨i 0, i 1, eq_ix2 i⟩
    exact ref_at _ _ _ r q

end Reference

end Cert.Mods

end
-- ==== Proof.WinMath.lean ====
/- One row of the window attention over the extended reals, with no program in it: scores against a band of the latents'
   keys and against the context's, a sink that takes part in the softmax and has no value. Two facts: the 384 keys of
   three blocks, masked, are the 2048 latents' keys, masked (`rowOut_band`); the weighted sum divided by the row's
   denominator is the sum weighted by a softmax with the sink as its last column (`rowOut_softmax`). -/
module

public import proofs.«01_k».proof.Proof.RowMath

@[expose] public section

noncomputable section

namespace Cert.Win

open Idealize.ShloMosaic Cert.Diff

/-- The largest score of a row, the sink among them. -/
def rowTop {n m : ℕ} (s : Fin n → EReal) (s' : Fin m → EReal) (σ : EReal) : EReal := max (max (rowMax s) (rowMax s')) σ

/-- The sum of a row's exponentials, the sink's among them. -/
def rowDen {n m : ℕ} (s : Fin n → EReal) (s' : Fin m → EReal) (σ : EReal) : EReal :=
  ∑ j, Ideal.exp (s j - rowTop s s' σ) + ∑ j, Ideal.exp (s' j - rowTop s s' σ) + Ideal.exp (σ - rowTop s s' σ)

/-- The values of a row against its exponentials, over the sum of them. -/
def rowOut {n m : ℕ} (s : Fin n → EReal) (s' : Fin m → EReal) (σ : EReal) (v : Fin n → EReal) (v' : Fin m → EReal) : EReal :=
  Ideal.div (∑ j, Ideal.exp (s j - rowTop s s' σ) * v j + ∑ j, Ideal.exp (s' j - rowTop s s' σ) * v' j) (rowDen s s' σ)

theorem exp_bot_sub (x : EReal) : Ideal.exp (⊥ - x) = 0 := by
  rw [sub_eq_add_neg, EReal.bot_add]
  rfl

theorem le_rowMax {n : ℕ} (s : Fin n → EReal) (j : Fin n) : s j ≤ rowMax s :=
  (Finset.le_fold_max (s j)).mpr (.inr ⟨j, Finset.mem_univ j, le_rfl⟩)

theorem rowMax_le {n : ℕ} (s : Fin n → EReal) (x : EReal) (h : ∀ j, s j ≤ x) : rowMax s ≤ x :=
  (Finset.fold_max_le x).mpr ⟨by rw [ninf_eq_bot]; exact bot_le, fun j _ => h j⟩

/-- Key `J` is within 128 of query `i`. -/
def Near (i : ℕ) (J : Fin 2048) : Prop := J.val ≤ i + 128 ∧ i ≤ J.val + 128

instance (i : ℕ) (J : Fin 2048) : Decidable (Near i J) := inferInstanceAs (Decidable (_ ∧ _))

/-- Key `k` of the three blocks around block `n` is a latent's, within 128 of query `r` of the block. -/
def Valid (n r : ℕ) (k : Fin 384) : Prop := r ≤ k.val ∧ k.val ≤ 256 + r ∧ 128 ≤ 128 * n + k.val ∧ 128 * n + k.val < 2176

/-- A sum over the three blocks' keys that is zero off the band is the same sum over all latents' keys. -/
theorem sum_band (n r : ℕ) (hn : n < 16) (hr : r < 128) (f : Fin 2048 → EReal) (g : Fin 384 → EReal)
    (hf : ∀ J, ¬Near (128 * n + r) J → f J = 0) (hg : ∀ k, ¬Valid n r k → g k = 0)
    (h : ∀ (k : Fin 384) (J : Fin 2048), Valid n r k → J.val + 128 = 128 * n + k.val → g k = f J) : ∑ k, g k = ∑ J, f J := by
  have hv : ∀ k, g k ≠ 0 → Valid n r k := fun k hk => by_contra fun h' => hk (hg k h')
  have hN : ∀ J, f J ≠ 0 → Near (128 * n + r) J := fun J hJ => by_contra fun h' => hJ (hf J h')
  refine Finset.sum_bij_ne_zero (fun k _ hk => (⟨128 * n + k.val - 128, ?_⟩ : Fin 2048)) ?_ ?_ ?_ ?_
  · obtain ⟨_, _, _, _⟩ := hv k hk
    omega
  · exact fun _ _ _ => Finset.mem_univ _
  · intro k _ hk k' _ hk' e
    obtain ⟨_, _, _, _⟩ := hv k hk
    obtain ⟨_, _, _, _⟩ := hv k' hk'
    have e' : 128 * n + k.val - 128 = 128 * n + k'.val - 128 := congrArg Fin.val e
    exact Fin.ext (by omega)
  · intro J _ hJ
    obtain ⟨h1, h2⟩ := hN J hJ
    have hJ' := J.isLt
    have hV : Valid n r ⟨J.val + 128 - 128 * n, by omega⟩ := by
      unfold Valid
      dsimp only
      omega
    refine ⟨⟨J.val + 128 - 128 * n, by omega⟩, Finset.mem_univ _, ?_, Fin.ext ?_⟩
    · rw [h _ J hV (by dsimp only; omega)]
      exact hJ
    · dsimp only
      omega
  · intro k _ hk
    obtain ⟨_, _, h3, h4⟩ := hv k hk
    exact h k _ (hv k hk) (by dsimp only; omega)

/-- The three blocks' keys, masked, are the latents' keys, masked: the largest score, the denominator and the weighted sum
    are the same. -/
theorem rowOut_band {m : ℕ} (n r : ℕ) (hn : n < 16) (hr : r < 128) (z : Fin 2048 → EReal) (s : Fin 384 → EReal) (V : Fin 384 → EReal)
    (v : Fin 2048 → EReal) (s' : Fin m → EReal) (σ : EReal) (v' : Fin m → EReal) (hs : ∀ k, ¬Valid n r k → s k = ⊥)
    (hz : ∀ (k : Fin 384) (J : Fin 2048), Valid n r k → J.val + 128 = 128 * n + k.val → s k = z J)
    (hV : ∀ (k : Fin 384) (J : Fin 2048), Valid n r k → J.val + 128 = 128 * n + k.val → V k = v J) :
    rowOut s s' σ V v' = rowOut (fun J => if Near (128 * n + r) J then z J else ⊥) s' σ v v' := by
  have near_of : ∀ (k : Fin 384) (J : Fin 2048), Valid n r k → J.val + 128 = 128 * n + k.val → Near (128 * n + r) J := by
    rintro k J ⟨_, _, _, _⟩ e
    unfold Near
    omega
  have hm : rowMax s = rowMax (fun J => if Near (128 * n + r) J then z J else ⊥) := by
    apply le_antisymm
    · refine rowMax_le _ _ fun k => ?_
      by_cases hk : Valid n r k
      · obtain ⟨_, _, h3, h4⟩ := id hk
        have e : (⟨128 * n + k.val - 128, by omega⟩ : Fin 2048).val + 128 = 128 * n + k.val := by dsimp only; omega
        refine le_trans (le_of_eq ?_) (le_rowMax _ ⟨128 * n + k.val - 128, by omega⟩)
        rw [if_pos (near_of k _ hk e)]
        exact hz k _ hk e
      · rw [hs k hk]
        exact bot_le
    · refine rowMax_le _ _ fun J => ?_
      by_cases hJ : Near (128 * n + r) J
      · obtain ⟨h1, h2⟩ := id hJ
        have hJ' := J.isLt
        have hV' : Valid n r ⟨J.val + 128 - 128 * n, by omega⟩ := by
          unfold Valid
          dsimp only
          omega
        rw [if_pos hJ, ← hz _ J hV' (by dsimp only; omega)]
        exact le_rowMax _ _
      · rw [if_neg hJ]
        exact bot_le
  have ht : rowTop s s' σ = rowTop (fun J => if Near (128 * n + r) J then z J else ⊥) s' σ := by
    rw [rowTop, rowTop, hm]
  rw [rowOut, rowOut, rowDen, rowDen, ht]
  generalize rowTop (fun J => if Near (128 * n + r) J then z J else ⊥) s' σ = M
  rw [sum_band n r hn hr (fun J => Ideal.exp ((if Near (128 * n + r) J then z J else ⊥) - M)) (fun k => Ideal.exp (s k - M))
      (fun J hJ => by rw [if_neg hJ, exp_bot_sub]) (fun k hk => by rw [hs k hk, exp_bot_sub])
      (fun k J hk e => by rw [if_pos (near_of k J hk e), hz k J hk e]),
    sum_band n r hn hr (fun J => Ideal.exp ((if Near (128 * n + r) J then z J else ⊥) - M) * v J) (fun k => Ideal.exp (s k - M) * V k)
      (fun J hJ => by rw [if_neg hJ, exp_bot_sub, zero_mul]) (fun k hk => by rw [hs k hk, exp_bot_sub, zero_mul])
      (fun k J hk e => by rw [if_pos (near_of k J hk e), hz k J hk e, hV k J hk e])]

/-- Keys that are all masked are no keys. -/
theorem rowOut_none {n m : ℕ} (s : Fin n → EReal) (s' : Fin m → EReal) (σ : EReal) (v : Fin n → EReal) (v' : Fin m → EReal)
    (hs : ∀ k, s k = ⊥) : rowOut s s' σ v v' = rowOut (n := 0) (fun k => k.elim0) s' σ (fun k => k.elim0) v' := by
  have hm : rowMax s = rowMax (n := 0) (fun k => k.elim0) :=
    le_antisymm (rowMax_le _ _ fun k => by rw [hs k]; exact bot_le) (rowMax_le _ _ fun k => k.elim0)
  have ht : rowTop s s' σ = rowTop (n := 0) (fun k => k.elim0) s' σ := by rw [rowTop, rowTop, hm]
  rw [rowOut, rowOut, rowDen, rowDen, ht]
  simp only [hs, exp_bot_sub, zero_mul, Finset.sum_const_zero, Finset.univ_eq_empty, Finset.sum_empty]

/-- A sum times a nonnegative number is the sum of the products. -/
theorem sum_mul_coe {n : ℕ} (f : Fin n → EReal) (x : ℝ) (hx : 0 ≤ x) : (∑ j, f j) * (x : EReal) = ∑ j, f j * (x : EReal) := by
  induction n with
  | zero => simp
  | succ n ih =>
    rw [Fin.sum_univ_succ, Fin.sum_univ_succ,
      EReal.right_distrib_of_nonneg_of_ne_top (EReal.coe_nonneg.mpr hx) (EReal.coe_ne_top x), ih]

/-- A row's largest score is a number, and so is the sum of its exponentials, a positive one, if no score is plus infinity
    and one is a number. -/
theorem rowSum_pos {n : ℕ} (s : Fin n → EReal) (hs : ∀ j, s j ≠ ⊤) (i : Fin n) (hi : IsNum (s i)) :
    ∃ d : ℝ, 0 < d ∧ rowSum s = d := by
  have hmem : ∃ j, rowMax s = s j := by
    rcases fold_max_mem (Ideal.ofBits FTy.f32 0xFF800000#32) s Finset.univ with h | ⟨j, -, h⟩
    · have hle := le_rowMax s i
      unfold rowMax at hle; rw [h, ninf_eq_bot] at hle
      obtain ⟨x, hx⟩ := hi
      rw [hx, le_bot_iff] at hle; exact absurd hle (EReal.coe_ne_bot x)
    · exact ⟨j, h⟩
  obtain ⟨j, hj⟩ := hmem
  obtain ⟨x, hx⟩ := hi
  obtain ⟨M, hM⟩ : IsNum (rowMax s) := by
    have h1 : rowMax s ≠ ⊤ := hj ▸ hs j
    have h2 : rowMax s ≠ ⊥ := fun h => by
      have := le_rowMax s i
      rw [h, hx, le_bot_iff] at this
      exact EReal.coe_ne_bot x this
    exact ⟨(rowMax s).toReal, (EReal.coe_toReal h1 h2).symm⟩
  have hexp : ∀ k, ∃ y : ℝ, 0 ≤ y ∧ Ideal.exp (s k - rowMax s) = y := by
    intro k
    rw [hM]
    have hk := hs k
    generalize s k = x at hk ⊢
    induction x using EReal.rec with
    | bot => exact ⟨0, le_rfl, exp_bot_sub _⟩
    | top => exact absurd rfl hk
    | coe y => exact ⟨Real.exp (y - M), (Real.exp_pos _).le, by rw [← EReal.coe_sub, Ideal.exp_coe]⟩
  choose y hy0 hy using hexp
  have hsum : rowSum s = ((∑ k, y k : ℝ) : EReal) := by
    unfold rowSum
    simp only [hy]
    exact (map_sum (⟨⟨Real.toEReal, EReal.coe_zero⟩, EReal.coe_add⟩ : ℝ →+ EReal) y Finset.univ).symm
  refine ⟨∑ k, y k, lt_of_le_of_ne (Finset.sum_nonneg fun k _ => hy0 k) fun h => ?_, hsum⟩
  have h0 := (Finset.sum_eq_zero_iff_of_nonneg fun k _ => hy0 k).mp h.symm j (Finset.mem_univ j)
  have h1 := hy j
  rw [hj] at h1
  obtain ⟨w, hw⟩ : IsNum (s j) := ⟨M, by rw [← hj, hM]⟩
  rw [hw, ← EReal.coe_sub, sub_self, Ideal.exp_coe, Real.exp_zero, h0] at h1
  exact one_ne_zero (EReal.coe_injective h1)

/-- The weighted sum over the denominator is the sum weighted by the softmax whose last column is the sink. -/
theorem rowOut_softmax {n m : ℕ} (s : Fin n → EReal) (s' : Fin m → EReal) (σ : EReal) (v : Fin n → EReal) (v' : Fin m → EReal)
    (S : Fin (n + m + 1) → EReal) (V : Fin (n + m) → EReal) (h1 : ∀ j : Fin n, S ⟨j.val, by omega⟩ = s j)
    (h2 : ∀ j : Fin m, S ⟨n + j.val, by omega⟩ = s' j) (h3 : S ⟨n + m, by omega⟩ = σ)
    (hv : ∀ j : Fin n, V ⟨j.val, by omega⟩ = v j) (hv' : ∀ j : Fin m, V ⟨n + j.val, by omega⟩ = v' j)
    (hs : ∀ j, S j ≠ ⊤) (i : Fin (n + m + 1)) (hi : IsNum (S i)) :
    rowOut s s' σ v v' = ∑ j : Fin (n + m), prob S ⟨j.val, by omega⟩ * V j := by
  obtain ⟨d, hd, hS⟩ := rowSum_pos S hs i hi
  have ht : rowTop s s' σ = rowMax S := by
    apply le_antisymm
    · refine max_le (max_le (rowMax_le _ _ fun j => ?_) (rowMax_le _ _ fun j => ?_)) ?_
      · rw [← h1]; exact le_rowMax _ _
      · rw [← h2]; exact le_rowMax _ _
      · rw [← h3]; exact le_rowMax _ _
    · refine rowMax_le _ _ fun j => ?_
      have hj := j.isLt
      by_cases a : j.val < n
      · rw [show S j = s ⟨j.val, a⟩ from h1 ⟨j.val, a⟩]
        exact le_trans (le_rowMax s _) (le_trans (le_max_left _ _) (le_max_left _ _))
      · by_cases b : j.val < n + m
        · have e : j = ⟨n + (⟨j.val - n, by omega⟩ : Fin m).val, by dsimp only; omega⟩ := Fin.ext (by dsimp only; omega)
          rw [e, h2]
          exact le_trans (le_rowMax s' _) (le_trans (le_max_right _ _) (le_max_left _ _))
        · have e : j = ⟨n + m, by omega⟩ := Fin.ext (by dsimp only; omega)
          rw [e, h3]
          exact le_max_right _ _
  have hden : rowDen s s' σ = rowSum S := by
    unfold rowDen rowSum
    rw [ht, Fin.sum_univ_castSucc, Fin.sum_univ_add]
    refine congrArg₂ (· + ·) (congrArg₂ (· + ·) (Finset.sum_congr rfl fun j _ => ?_) (Finset.sum_congr rfl fun j _ => ?_)) ?_
    · rw [← h1]; rfl
    · rw [← h2]; rfl
    · rw [← h3]; rfl
  have hne : (d : EReal) ≠ 0 := fun h => hd.ne' (EReal.coe_injective h)
  have hdiv : ∀ x : EReal, Ideal.div x (d : EReal) = x * ((d⁻¹ : ℝ) : EReal) := fun x => by
    rw [Ideal.div, if_neg hne, EReal.coe_inv]
  rw [rowOut, hden, ht, hS, hdiv, Fin.sum_univ_add,
    EReal.right_distrib_of_nonneg_of_ne_top (EReal.coe_nonneg.mpr (inv_pos.mpr hd).le) (EReal.coe_ne_top _),
    sum_mul_coe _ _ (inv_pos.mpr hd).le, sum_mul_coe _ _ (inv_pos.mpr hd).le]
  refine congrArg₂ (· + ·) (Finset.sum_congr rfl fun j _ => ?_) (Finset.sum_congr rfl fun j _ => ?_)
  · rw [mul_right_comm, ← hdiv, ← h1, ← hv, prob, hS]
    rfl
  · rw [mul_right_comm, ← hdiv, ← h2, ← hv', prob, hS]
    rfl

/-- One row of one head for a latent's query: its own queries `Q`, the latents' columns `X` and the context's `Y` (512 of
    queries, 128 of keys, 128 of values), a key of the latents masked if it is farther than 128 from query `i`. -/
def latOut (Q : Fin 768 → EReal) (X : Fin 2048 → Fin 768 → EReal) (Y : Fin 256 → Fin 768 → EReal) (σ : Fin 8 → EReal) (i : ℕ)
    (h : Fin 8) (e : Fin 64) : EReal :=
  rowOut (fun J => if Near i J then score (fun d : Fin 64 => Q ⟨h.val * 64 + d.val, by omega⟩)
      (fun J (d : Fin 64) => X J ⟨512 + h.val / 4 * 64 + d.val, by omega⟩) J else ⊥)
    (score (fun d : Fin 64 => Q ⟨h.val * 64 + d.val, by omega⟩) fun j (d : Fin 64) => Y j ⟨512 + h.val / 4 * 64 + d.val, by omega⟩)
    (σ h) (fun J => X J ⟨640 + h.val / 4 * 64 + e.val, by omega⟩) fun j => Y j ⟨640 + h.val / 4 * 64 + e.val, by omega⟩

/-- One row of one head for a context query: the context's keys and the sink alone. -/
def ctxOut (Q : Fin 768 → EReal) (Y : Fin 256 → Fin 768 → EReal) (σ : Fin 8 → EReal) (h : Fin 8) (e : Fin 64) : EReal :=
  rowOut (n := 0) (fun k => k.elim0)
    (score (fun d : Fin 64 => Q ⟨h.val * 64 + d.val, by omega⟩) fun j (d : Fin 64) => Y j ⟨512 + h.val / 4 * 64 + d.val, by omega⟩)
    (σ h) (fun k => k.elim0) fun j => Y j ⟨640 + h.val / 4 * 64 + e.val, by omega⟩

end Cert.Win

end
-- ==== Proof.WinHead.lean ====
/- The window attention's eight heads as one function of what a head reads (`k0_pay5`, the first head's), equal at an
   index to one row of `Cert.Win.rowOut`; the band's bits. -/
module

public import proofs.«01_k».proof.Proof.Gen.Kernel10Ideal.Skeleton
public import proofs.«01_k».proof.Proof.WinMath

@[expose] public section

set_option maxRecDepth 16384

noncomputable section

namespace Cert.Win

open Idealize.ShloMosaic Cert.Kernel10Ideal Cert.Kernel10Ideal.Gen Cert.Diff

/-- The mask denotes minus infinity. -/
theorem mask_bot : Named.named (F := Ideal) Cert.Kernel10Ideal.κ "mask" (φ := .f32) 0xF149F2CA#32 = (⊥ : EReal) :=
  IdealRules.named_const.ideal_named_scalar _ _ _ _ rfl

variable (b : IVec S128x384 1) (kl vl : FVec Ideal S384x64 .bf16) (kc vc : Vec Ideal S256x64 .bf16) (q : Vec Ideal S128x64 .bf16)
  (σ : Elt Ideal .f32)

/-- A head at row `r`, column `e`. -/
theorem head_apply (r : Fin 128) (e : Fin 64) :
    k0_pay5 b kl vl kc vc q (constant S128x384 .f32 0x00000000#32) σ (ix2 r e)
      = rowOut (fun k => if b (ix2 r k) = 1#1 then score (fun d : Fin 64 => q (ix2 r d)) (fun k (d : Fin 64) => kl (ix2 k d)) k else ⊥)
          (score (fun d : Fin 64 => q (ix2 r d)) fun j (d : Fin 64) => kc (ix2 j d)) σ (fun k => vl (ix2 k e)) fun j => vc (ix2 j e) := by
  pointwise [k0_pay5]
  simp only [mask_bot]
  rfl

variable {F : FTy → Type} [FloatOps F] [Named F] (b : IVec S128x384 1) (kl vl : FVec F S384x64 .bf16) (kc vc : Vec F S256x64 .bf16)
  (q : Vec F S128x64 .bf16) (σ : Elt F .f32)

theorem head1 : k0_pay7 b vl kc vc q (k0_pay6 kl q) (Scalar.ofBits .f32 0x3E000000#32) σ
    = k0_pay5 b kl vl kc vc q (constant S128x384 .f32 0x00000000#32) σ := rfl

theorem head2 : k0_pay9 b vl kc vc q (k0_pay8 kl q) σ = k0_pay5 b kl vl kc vc q (constant S128x384 .f32 0x00000000#32) σ := rfl

theorem head3 : k0_pay12 b vl kc vc q (k0_pay10 kl q) (k0_pay11 (F := F)) σ
    = k0_pay5 b kl vl kc vc q (constant S128x384 .f32 0x00000000#32) σ := rfl

theorem head4 : k0_pay22 vl vc (k0_pay19 b kl kc q σ) (k0_pay20 b kl kc q σ) (k0_pay21 b kl kc q σ) (constant S128x64 .f32 0x00000000#32)
    = k0_pay5 b kl vl kc vc q (constant S128x384 .f32 0x00000000#32) σ := rfl

theorem head5 : k0_pay31 vc (k0_pay28 b kl kc q σ) (k0_pay29 b kl vl kc q σ) (k0_pay30 b kl kc q σ)
    = k0_pay5 b kl vl kc vc q (constant S128x384 .f32 0x00000000#32) σ := rfl

theorem head6 : k0_pay40 (k0_pay37 b kl kc q σ) (k0_pay38 b kl vl kc q σ) (k0_pay39 b kl kc vc q σ)
    = k0_pay5 b kl vl kc vc q (constant S128x384 .f32 0x00000000#32) σ := rfl

theorem head7 : k0_pay1 (k0_pay46 b kl vl kc vc q σ) (k0_pay47 b kl kc q σ)
    = k0_pay5 b kl vl kc vc q (constant S128x384 .f32 0x00000000#32) σ := rfl

/-! The band's bits. -/

theorem abs_bits : ∀ d : Fin 4096,
    (IntOp.cmpi .sle (IntOp.absi (BitVec.ofNat 32 d.val)) 128#32 = 1#1 ↔ d.val ≤ 128)
      ∧ (IntOp.cmpi .sle (IntOp.absi (-BitVec.ofNat 32 d.val)) 128#32 = 1#1 ↔ d.val ≤ 128) := by decide +kernel

/-- Two positions are within 128 of each other, as the program tests it. -/
theorem near_bits (a b : ℕ) (ha : a < 4096) (hb : b < 4096) :
    IntOp.cmpi .sle (IntOp.absi (IntOp.subi (BitVec.ofNat 32 a) (BitVec.ofNat 32 b))) 128#32 = 1#1 ↔ a ≤ b + 128 ∧ b ≤ a + 128 := by
  rw [IntOp.subi]
  by_cases h : b ≤ a
  · have e : BitVec.ofNat 32 a - BitVec.ofNat 32 b = BitVec.ofNat 32 (a - b) := by
      apply BitVec.eq_of_toNat_eq
      simp only [BitVec.toNat_sub, BitVec.toNat_ofNat]
      omega
    rw [e]
    exact (abs_bits ⟨a - b, by omega⟩).1.trans (by dsimp only; omega)
  · have e : BitVec.ofNat 32 a - BitVec.ofNat 32 b = -BitVec.ofNat 32 (b - a) := by
      apply BitVec.eq_of_toNat_eq
      simp only [BitVec.toNat_sub, BitVec.toNat_neg, BitVec.toNat_ofNat]
      omega
    rw [e]
    exact (abs_bits ⟨b - a, by omega⟩).2.trans (by dsimp only; omega)

/-- The three blocks' key is a latent's and the block is the latents'. -/
theorem edge_bits : ∀ (n : Fin 18) (k : Fin 384),
    (IntOp.cmpi .sge (IntOp.addi (Scalar.muli (Scalar.subi (BitVec.ofNat 32 n.val) 1#32) 128#32) (BitVec.ofNat 32 k.val)) 0#32 = 1#1
      ∧ IntOp.cmpi .slt (IntOp.addi (Scalar.muli (Scalar.subi (BitVec.ofNat 32 n.val) 1#32) 128#32) (BitVec.ofNat 32 k.val)) 2048#32 = 1#1
      ∧ Scalar.cmpi .slt (BitVec.ofNat 32 n.val) 16#32 = 1#1)
    ↔ (128 ≤ 128 * n.val + k.val ∧ 128 * n.val + k.val < 2176 ∧ n.val < 16) := by decide +kernel

theorem band_iff (i : grid0.Coords) (r : Fin 128) (k : Fin 384) :
    k0_pay2 i (ix2 r k) = 1#1 ↔ (i 1).val < 16 ∧ Valid (i 1).val r.val k := by
  pointwise [k0_pay2]
  have hi : (i 1).val < 18 := (i 1).isLt
  have e : IntOp.subi (IntOp.subi (BitVec.ofNat 32 k.val) 128#32) (BitVec.ofNat 32 r.val)
      = IntOp.subi (BitVec.ofNat 32 k.val) (BitVec.ofNat 32 (128 + r.val)) := by
    simp only [IntOp.subi]
    apply BitVec.eq_of_toNat_eq
    simp only [BitVec.toNat_sub, BitVec.toNat_ofNat]
    omega
  have hb := edge_bits ⟨(i 1).val, hi⟩ k
  dsimp only at hb
  rw [e, IntOp.andi_eq_one, IntOp.andi_eq_one, IntOp.andi_eq_one, near_bits _ _ (by omega) (by omega), and_assoc, and_assoc, hb]
  unfold Valid
  omega

/-- A stored column of a block's row, from what the head reads: `n` is the block's number in its batch. -/
theorem pieceW (n : ℕ) (h : Fin 8) {b : IVec S128x384 1} {kl vl : FVec Ideal S384x64 .bf16} {kc vc : Vec Ideal S256x64 .bf16}
    {q : Vec Ideal S128x64 .bf16} {σ : Elt Ideal .f32} (x : S128x64.Idx) (Q : Fin 128 → Fin 768 → EReal)
    (X : Fin 2048 → Fin 768 → EReal) (Y : Fin 256 → Fin 768 → EReal) (S : Fin 8 → EReal) (col : Fin 512)
    (hc : col.val = h.val * 64 + (x 1).val) (hb : ∀ (r : Fin 128) k, b (ix2 r k) = 1#1 ↔ n < 16 ∧ Valid n r.val k)
    (hq : ∀ r (d : Fin 64), q (ix2 r d) = Q r ⟨h.val * 64 + d.val, by omega⟩)
    (hkl : ∀ (k : Fin 384) (J : Fin 2048) (d : Fin 64), n < 16 → J.val + 128 = 128 * n + k.val →
      kl (ix2 k d) = X J ⟨512 + h.val / 4 * 64 + d.val, by omega⟩)
    (hvl : ∀ (k : Fin 384) (J : Fin 2048) (d : Fin 64), n < 16 → J.val + 128 = 128 * n + k.val →
      vl (ix2 k d) = X J ⟨640 + h.val / 4 * 64 + d.val, by omega⟩)
    (hkc : ∀ (j : Fin 256) (d : Fin 64), kc (ix2 j d) = Y j ⟨512 + h.val / 4 * 64 + d.val, by omega⟩)
    (hvc : ∀ (j : Fin 256) (d : Fin 64), vc (ix2 j d) = Y j ⟨640 + h.val / 4 * 64 + d.val, by omega⟩) (hσ : σ = S h) :
    k0_pay5 b kl vl kc vc q (constant S128x384 .f32 0x00000000#32) σ x
      = if n < 16 then latOut (Q (x 0)) X Y S (128 * n + (x 0).val) ⟨col.val / 64, by omega⟩ ⟨col.val % 64, by omega⟩
        else ctxOut (Q (x 0)) Y S ⟨col.val / 64, by omega⟩ ⟨col.val % 64, by omega⟩ := by
  obtain ⟨r, e, rfl⟩ : ∃ (r : Fin 128) (e : Fin 64), x = ix2 r e := ⟨x 0, x 1, eq_ix2 x⟩
  have hc : col.val = h.val * 64 + e.val := hc
  have e1 : (⟨col.val / 64, by omega⟩ : Fin 8) = h := Fin.ext (by show col.val / 64 = h.val; omega)
  have e2 : (⟨col.val % 64, by omega⟩ : Fin 64) = e := Fin.ext (by show col.val % 64 = e.val; omega)
  rw [head_apply, e1, e2]
  show _ = if n < 16 then latOut (Q r) X Y S (128 * n + r.val) h e else ctxOut (Q r) Y S h e
  simp only [hq, hkc, hvc, hσ]
  by_cases hn : n < 16
  · rw [if_pos hn]
    refine rowOut_band n r.val hn r.isLt _ _ _ _ _ _ _ (fun k hk => ?_) (fun k J hk e => ?_) (fun k J hk e => ?_)
    · exact if_neg fun h => hk ((hb r k).mp h).2
    · rw [if_pos ((hb r k).mpr ⟨hn, hk⟩)]
      unfold score
      refine congrArg (· * _) (Finset.sum_congr rfl fun d _ => ?_)
      exact congrArg (Q r _ * ·) (hkl k J d hn e)
    · exact hvl k J _ hn e
  · rw [if_neg hn]
    exact rowOut_none _ _ _ _ _ fun k => if_neg fun h => hn ((hb r k).mp h).1

end Cert.Win

end
-- ==== Proof.WinOut.lean ====
module

public import proofs.«01_k».proof.Proof.Gen.Kernel10Ideal.Value
public import Idealize.ShloMosaic.Lib.Pipeline.ValueKit
public import Idealize.ShloMosaic.Lib.StableHlo.RunRead
public import proofs.«01_k».proof.Proof.WinHead

/-! The window attention's blocks: which tokens a point's four blocks are, what a point stores, the whole result. -/

@[expose] public section

set_option maxRecDepth 16384

noncomputable section

namespace Cert.Win

open Idealize.ShloMosaic Idealize.ShloMosaic.TcCoe Cert.Kernel10Ideal Cert.Kernel10Ideal.Gen Idealize.ShloMosaic.Tactic Cert.Diff
open Idealize.ShloMosaic.Pipeline (Dat Cfg Window)

variable (m : (ℓ : Loc nD τ sig) → Buf (Elt Ideal) ℓ) (c : Dev nD)

/-- The latents' columns of one batch, the context's, and the sinks. -/
def latX (b : Fin 8) (J : Fin 2048) (k : Fin 768) : EReal := m ((c : Thread nD τ).loc main_arg0) (ix2 ⟨2048 * b.val + J.val, by omega⟩ k)
def ctxY (b : Fin 8) (j : Fin 256) (k : Fin 768) : EReal :=
  m ((c : Thread nD τ).loc main_arg0) (ix2 ⟨16384 + (256 * b.val + j.val), by omega⟩ k)
def sinkS (h : Fin 8) : EReal := m ((c : Thread nD τ).loc main_arg1) (ix1 h)

/-- The batch of a grid point. -/
def bat (t : Fin cfg0.N) : Fin 8 := ⟨t.val / 18, by have : t.val < 144 := t.isLt; omega⟩

theorem coord1 : ∀ t : Fin cfg0.N, (grid0.coords t 1).val = t.val % 18 :=
  (by decide +kernel : ∀ t : Fin grid0.N, (grid0.coords t 1).val = t.val % 18)

theorem index0 : ∀ t : Fin cfg0.N, win0_0.index t 0 = 0 :=
  (by decide +kernel : ∀ t : Fin grid0.N, win0_0.index t 0 = 0)

/-- The block of `cur`. -/
def curIx (t : ℕ) : ℕ := if t % 18 < 16 then 16 * (t / 18) + t % 18 else 128 + 2 * (t / 18) + (t % 18 - 16)

theorem index1 : ∀ t : Fin cfg0.N, win0_1.index t 0 = curIx t.val ∧ win0_1.index t 1 = 0 :=
  (by decide +kernel : ∀ t : Fin grid0.N, win0_1.index t 0 = curIx t.val ∧ win0_1.index t 1 = 0)

theorem index2 : ∀ t : Fin cfg0.N, (t.val % 18 < 16 → win0_2.index t 0 = 16 * (t.val / 18) + (t.val % 18 - 1)) ∧ win0_2.index t 1 = 0 :=
  (by decide +kernel : ∀ t : Fin grid0.N, (t.val % 18 < 16 → win0_2.index t 0 = 16 * (t.val / 18) + (t.val % 18 - 1)) ∧ win0_2.index t 1 = 0)

theorem index3 : ∀ t : Fin cfg0.N, (t.val % 18 < 16 → win0_3.index t 0 = 16 * (t.val / 18) + min (t.val % 18 + 1) 15) ∧ win0_3.index t 1 = 0 :=
  (by decide +kernel : ∀ t : Fin grid0.N, (t.val % 18 < 16 → win0_3.index t 0 = 16 * (t.val / 18) + min (t.val % 18 + 1) 15) ∧ win0_3.index t 1 = 0)

theorem index4 : ∀ t : Fin cfg0.N, win0_4.index t 0 = 64 + t.val / 18 ∧ win0_4.index t 1 = 0 :=
  (by decide +kernel : ∀ t : Fin grid0.N, win0_4.index t 0 = 64 + t.val / 18 ∧ win0_4.index t 1 = 0)

theorem index5 : ∀ t : Fin cfg0.N, win0_5.index t 0 = curIx t.val ∧ win0_5.index t 1 = 0 :=
  (by decide +kernel : ∀ t : Fin grid0.N, win0_5.index t 0 = curIx t.val ∧ win0_5.index t 1 = 0)

theorem iblk0_apply (t : Fin cfg0.N) (k : Fin 8) : iblk m c 0 t (ix1 k) = sinkS m c k := by
  have e : (win0_0.blk t).view.emb (ix1 k) = ix1 k := by blk_ext [index0 t]
  unfold iblk
  blk_simp [e]
  exact congrFun (V_main_arg1 m c) _

/-- A row of the block of queries. -/
theorem iblk1_apply (t : Fin cfg0.N) (r : Fin 128) (k : Fin 768) (R : Fin 18432) (hR : R.val = curIx t.val * 128 + r.val) :
    iblk m c 1 t (ix2 r k) = m ((c : Thread nD τ).loc main_arg0) (ix2 R k) := by
  have e : (win0_1.blk t).view.emb (ix2 r k) = ix2 R k := by blk_ext [index1 t]
  unfold iblk
  blk_simp [e]

theorem iblk2_apply (t : Fin cfg0.N) (hn : t.val % 18 < 16) (r : Fin 128) (k : Fin 768) (R : Fin 18432)
    (hR : R.val = (16 * (t.val / 18) + (t.val % 18 - 1)) * 128 + r.val) :
    iblk m c 2 t (ix2 r k) = m ((c : Thread nD τ).loc main_arg0) (ix2 R k) := by
  have e : (win0_2.blk t).view.emb (ix2 r k) = ix2 R k := by blk_ext [(index2 t).1 hn, (index2 t).2]
  unfold iblk
  blk_simp [e]

theorem iblk3_apply (t : Fin cfg0.N) (hn : t.val % 18 < 16) (r : Fin 128) (k : Fin 768) (R : Fin 18432)
    (hR : R.val = (16 * (t.val / 18) + min (t.val % 18 + 1) 15) * 128 + r.val) :
    iblk m c 3 t (ix2 r k) = m ((c : Thread nD τ).loc main_arg0) (ix2 R k) := by
  have e : (win0_3.blk t).view.emb (ix2 r k) = ix2 R k := by blk_ext [(index3 t).1 hn, (index3 t).2]
  unfold iblk
  blk_simp [e]

theorem iblk4_apply (t : Fin cfg0.N) (r : Fin 256) (k : Fin 768) : iblk m c 4 t (ix2 r k) = ctxY m c (bat t) r k := by
  have ht : t.val < 144 := t.isLt
  have e : (win0_4.blk t).view.emb (ix2 r k) = ix2 ⟨16384 + (256 * (t.val / 18) + r.val), by omega⟩ k := by blk_ext [index4 t]
  unfold iblk
  blk_simp [e]
  exact congrFun (V_main_arg0 m c) _

/-- 64 columns of a block, from column `o` on. -/
theorem ldW {n : ℕ} (A : Vec Ideal ⟨2, ![n, 768]⟩ .bf16) (o : ℕ) (ho : o + 64 ≤ 768) (inb) (r : Fin n) (d : Fin 64) :
    View.ld A (Rect.unit (s := ⟨2, ![n, 768]⟩) ![0, o] ![n, 64] inb) (ix2 r d) = A (ix2 r ⟨o + d.val, by omega⟩) :=
  View.ld_unit_apply_of A ![0, o] ![n, 64] inb (ix2 r d) (ix2 r ⟨o + d.val, by omega⟩) (fun a => by
    fin_cases a
    · show r.val = 0 + r.val
      omega
    · rfl)

/-- A head's sink. -/
theorem ldS (t : Fin cfg0.N) (h : Fin 8) (o : ℕ) (ho : o = h.val) (inb) (p) :
    View.ld (iblk m c 0 t) (Rect.unit (s := S8) ![o] ![1] inb) (Shape.Idx.first p) = sinkS m c h :=
  (View.ld_unit_apply_of (iblk m c 0 t) ![o] ![1] inb (Shape.Idx.first p) (ix1 h) (fun a => by
    fin_cases a
    · show h.val = o + 0
      omega)).trans (iblk0_apply m c t h)

/-- Three blocks' columns, one after another. -/
theorem cat3_apply (p u w : Vec Ideal S128x64 .bf16) (k : Fin 384) (d : Fin 64) :
    k0_pay3 p u w (ix2 k d) = if h : k.val < 128 then p (ix2 ⟨k.val, h⟩ d)
      else if h' : k.val < 256 then u (ix2 ⟨k.val - 128, by omega⟩ d) else w (ix2 ⟨k.val - 256, by omega⟩ d) := by
  pointwise [k0_pay3]
  by_cases h : k.val < 128
  · rw [dif_pos h, dif_pos h]
  · rw [dif_neg h, dif_neg h]
    by_cases h' : k.val < 256
    · rw [dif_pos h', dif_pos (by omega)]
    · rw [dif_neg h', dif_neg (by omega)]
      exact congrArg (fun k => w (ix2 k d)) (Fin.ext (by show k.val - 128 - 128 = k.val - 256; omega))

/-- The three blocks' columns at a latent's key. -/
theorem keysW (t : Fin cfg0.N) (o : ℕ) (ho : o + 64 ≤ 768) (i1 i2 i3) (k : Fin 384) (J : Fin 2048) (d : Fin 64) (hn : t.val % 18 < 16)
    (hJ : J.val + 128 = 128 * (t.val % 18) + k.val) :
    k0_pay3 (View.ld (iblk m c 2 t) (Rect.unit (s := S128x768) ![0, o] ![128, 64] i2))
      (View.ld (iblk m c 1 t) (Rect.unit (s := S128x768) ![0, o] ![128, 64] i1))
      (View.ld (iblk m c 3 t) (Rect.unit (s := S128x768) ![0, o] ![128, 64] i3)) (ix2 k d)
      = latX m c (bat t) J ⟨o + d.val, by omega⟩ := by
  have ht : t.val < 144 := t.isLt
  rw [cat3_apply]
  by_cases h : k.val < 128
  · rw [dif_pos h]
    exact (ldW (iblk m c 2 t) o ho i2 _ d).trans (iblk2_apply m c t hn _ _ ⟨2048 * (t.val / 18) + J.val, by omega⟩ (by dsimp only; omega))
  · rw [dif_neg h]
    by_cases h' : k.val < 256
    · rw [dif_pos h']
      exact (ldW (iblk m c 1 t) o ho i1 _ d).trans (iblk1_apply m c t _ _ ⟨2048 * (t.val / 18) + J.val, by omega⟩
        (by unfold curIx; rw [if_pos hn]; dsimp only; omega))
    · rw [dif_neg h']
      exact (ldW (iblk m c 3 t) o ho i3 _ d).trans (iblk3_apply m c t hn _ _ ⟨2048 * (t.val / 18) + J.val, by omega⟩ (by dsimp only; omega))

/-- The context's columns. -/
theorem ctxW (t : Fin cfg0.N) (o : ℕ) (ho : o + 64 ≤ 768) (i4) (j : Fin 256) (d : Fin 64) :
    View.ld (iblk m c 4 t) (Rect.unit (s := S256x768) ![0, o] ![256, 64] i4) (ix2 j d) = ctxY m c (bat t) j ⟨o + d.val, by omega⟩ :=
  (ldW (iblk m c 4 t) o ho i4 j d).trans (iblk4_apply m c t j _)

/-- What a grid point computes at a row and a column. -/
def wres (t : Fin cfg0.N) (r : Fin 128) (col : Fin 512) : EReal :=
  if t.val % 18 < 16 then
    latOut (fun k => iblk m c 1 t (ix2 r k)) (latX m c (bat t)) (ctxY m c (bat t)) (sinkS m c) (128 * (t.val % 18) + r.val)
      ⟨col.val / 64, by omega⟩ ⟨col.val % 64, by omega⟩
  else ctxOut (fun k => iblk m c 1 t (ix2 r k)) (ctxY m c (bat t)) (sinkS m c) ⟨col.val / 64, by omega⟩ ⟨col.val % 64, by omega⟩

/-- One head's stored columns. -/
theorem headW (t : Fin cfg0.N) (h : Fin 8) (o ok ov : ℕ) (ho : o = h.val * 64) (hk : ok = 512 + h.val / 4 * 64) (hv : ov = 640 + h.val / 4 * 64)
    (os : ℕ) (hs : os = h.val) (iq k1 k2 k3 k4 v1 v2 v3 v4 is p) (x : S128x64.Idx) (y : S128x512.Idx) (h0 : (y 0).val = (x 0).val)
    (h1 : (y 1).val = o + (x 1).val) :
    k0_pay5 (k0_pay2 (grid0.coords t))
      (k0_pay3 (View.ld (iblk m c 2 t) (Rect.unit (s := S128x768) ![0, ok] ![128, 64] k2))
        (View.ld (iblk m c 1 t) (Rect.unit (s := S128x768) ![0, ok] ![128, 64] k1))
        (View.ld (iblk m c 3 t) (Rect.unit (s := S128x768) ![0, ok] ![128, 64] k3)))
      (k0_pay3 (View.ld (iblk m c 2 t) (Rect.unit (s := S128x768) ![0, ov] ![128, 64] v2))
        (View.ld (iblk m c 1 t) (Rect.unit (s := S128x768) ![0, ov] ![128, 64] v1))
        (View.ld (iblk m c 3 t) (Rect.unit (s := S128x768) ![0, ov] ![128, 64] v3)))
      (View.ld (iblk m c 4 t) (Rect.unit (s := S256x768) ![0, ok] ![256, 64] k4))
      (View.ld (iblk m c 4 t) (Rect.unit (s := S256x768) ![0, ov] ![256, 64] v4))
      (View.ld (iblk m c 1 t) (Rect.unit (s := S128x768) ![0, o] ![128, 64] iq)) (constant S128x384 .f32 0x00000000#32)
      (View.ld (iblk m c 0 t) (Rect.unit (s := S8) ![os] ![1] is) (Shape.Idx.first p)) x
      = wres m c t (y 0) (y 1) := by
  subst ho hk hv
  have e : (y 0 : Fin 128) = x 0 := Fin.ext h0
  rw [e]
  refine pieceW (t.val % 18) h x (fun r k => iblk m c 1 t (ix2 r k)) (latX m c (bat t)) (ctxY m c (bat t)) (sinkS m c) (y 1) h1
    (fun r k => ?_) (fun r d => ldW (iblk m c 1 t) _ (by omega) _ r d) (fun k J d hn e => keysW m c t _ (by omega) _ _ _ k J d hn e)
    (fun k J d hn e => keysW m c t _ (by omega) _ _ _ k J d hn e) (fun j d => ctxW m c t _ (by omega) _ j d)
    (fun j d => ctxW m c t _ (by omega) _ j d) (ldS m c t h os hs _ _)
  rw [band_iff, coord1]

theorem outs_eq (t : Fin cfg0.N) (y : S128x512.Idx) : outsAt0 m c t y = wres m c t (y 0) (y 1) := by
  unfold outsAt0
  frame_out
  canon_tiles x h
  · exact (congrFun (head7 ..) x).trans (headW m c t 7 448 576 704 rfl rfl rfl 7 rfl _ _ _ _ _ _ _ _ _ _ _ x y h0 h1)
  · exact (congrFun (head6 ..) x).trans (headW m c t 6 384 576 704 rfl rfl rfl 6 rfl _ _ _ _ _ _ _ _ _ _ _ x y h0 h1)
  · exact (congrFun (head5 ..) x).trans (headW m c t 5 320 576 704 rfl rfl rfl 5 rfl _ _ _ _ _ _ _ _ _ _ _ x y h0 h1)
  · exact (congrFun (head4 ..) x).trans (headW m c t 4 256 576 704 rfl rfl rfl 4 rfl _ _ _ _ _ _ _ _ _ _ _ x y h0 h1)
  · exact (congrFun (head3 ..) x).trans (headW m c t 3 192 512 640 rfl rfl rfl 3 rfl _ _ _ _ _ _ _ _ _ _ _ x y h0 h1)
  · exact (congrFun (head2 ..) x).trans (headW m c t 2 128 512 640 rfl rfl rfl 2 rfl _ _ _ _ _ _ _ _ _ _ _ x y h0 h1)
  · exact (congrFun (head1 ..) x).trans (headW m c t 1 64 512 640 rfl rfl rfl 1 rfl _ _ _ _ _ _ _ _ _ _ _ x y h0 h1)
  · exact (headW m c t 0 0 512 640 rfl rfl rfl 0 rfl _ _ _ _ _ _ _ _ _ _ _ x y h0 (h1.trans (Nat.zero_add _).symm))

/-- The window attention's result at a row and a column. -/
def res (i : S18432x512.Idx) : EReal :=
  if h : (i 0).val < 16384 then
    latOut (latX m c ⟨(i 0).val / 2048, by omega⟩ ⟨(i 0).val % 2048, by omega⟩) (latX m c ⟨(i 0).val / 2048, by omega⟩)
      (ctxY m c ⟨(i 0).val / 2048, by omega⟩) (sinkS m c) ((i 0).val % 2048)
      ⟨(i 1).val / 64, by have : (i 1).val < 512 := (i 1).isLt; omega⟩ ⟨(i 1).val % 64, by omega⟩
  else
    ctxOut (ctxY m c ⟨((i 0).val - 16384) / 256, by have : (i 0).val < 18432 := (i 0).isLt; omega⟩ ⟨((i 0).val - 16384) % 256, by omega⟩)
      (ctxY m c ⟨((i 0).val - 16384) / 256, by have : (i 0).val < 18432 := (i 0).isLt; omega⟩) (sinkS m c)
      ⟨(i 1).val / 64, by have : (i 1).val < 512 := (i 1).isLt; omega⟩ ⟨(i 1).val % 64, by omega⟩

theorem res_latent (b : Fin 8) (r : Fin 2048) (R : Fin 18432) (hR : R.val = 2048 * b.val + r.val) (k : Fin 512) :
    res m c (ix2 R k) = latOut (latX m c b r) (latX m c b) (ctxY m c b) (sinkS m c) r.val ⟨k.val / 64, by omega⟩ ⟨k.val % 64, by omega⟩ := by
  have h2 : R.val / 2048 = b.val := by omega
  have h3 : R.val % 2048 = r.val := by omega
  refine (dif_pos (show R.val < 16384 by omega)).trans ?_
  show latOut (latX m c ⟨R.val / 2048, _⟩ ⟨R.val % 2048, _⟩) (latX m c ⟨R.val / 2048, _⟩) (ctxY m c ⟨R.val / 2048, _⟩) (sinkS m c)
    (R.val % 2048) ⟨k.val / 64, _⟩ ⟨k.val % 64, _⟩ = _
  simp only [h2, h3]

theorem res_context (b : Fin 8) (r : Fin 256) (R : Fin 18432) (hR : R.val = 16384 + (256 * b.val + r.val)) (k : Fin 512) :
    res m c (ix2 R k) = ctxOut (ctxY m c b r) (ctxY m c b) (sinkS m c) ⟨k.val / 64, by omega⟩ ⟨k.val % 64, by omega⟩ := by
  have h2 : (R.val - 16384) / 256 = b.val := by omega
  have h3 : (R.val - 16384) % 256 = r.val := by omega
  refine (dif_neg (show ¬R.val < 16384 by omega)).trans ?_
  show ctxOut (ctxY m c ⟨(R.val - 16384) / 256, _⟩ ⟨(R.val - 16384) % 256, _⟩) (ctxY m c ⟨(R.val - 16384) / 256, _⟩) (sinkS m c)
    ⟨k.val / 64, _⟩ ⟨k.val % 64, _⟩ = _
  simp only [h2, h3]

theorem final_eq : (dats m 0 c).arrAt 5 cfg0.N = res m c := by
  refine (dats m 0 c).arrAt_eq_of_covers 5 _ (by decide +kernel) fun t hf y => ?_
  blk_simp
  rw [after0_5]
  have ht : t.val < 144 := t.isLt
  have hy : (y 0).val < 128 := (y 0).isLt
  have hi := (index5 t).1
  unfold curIx at hi
  have hlt : win0_5.index t 0 * 128 + (y 0).val < 18432 := by
    rw [hi]
    split <;> omega
  have e : (win0_5.blk t).view.emb y = ix2 ⟨win0_5.index t 0 * 128 + (y 0).val, hlt⟩ (y 1) := by
    blk_ext [index5 t]
  rw [e]
  refine (outs_eq m c t y).trans ?_
  unfold wres
  by_cases h1 : t.val % 18 < 16
  · rw [if_pos h1] at hi
    rw [if_pos h1]
    have hR : win0_5.index t 0 * 128 + (y 0).val = 2048 * (t.val / 18) + (128 * (t.val % 18) + (y 0).val) := by omega
    have hq : (fun k => iblk m c 1 t (ix2 (y 0) k)) = latX m c (bat t) ⟨128 * (t.val % 18) + (y 0).val, by omega⟩ :=
      funext fun k => iblk1_apply m c t (y 0) k _ (by unfold curIx; rw [if_pos h1]; show 2048 * (t.val / 18) + (128 * (t.val % 18) + (y 0).val) = _; omega)
    rw [hq]
    exact (res_latent m c (bat t) ⟨128 * (t.val % 18) + (y 0).val, by omega⟩ _ hR (y 1)).symm
  · rw [if_neg h1] at hi
    rw [if_neg h1]
    have hR : win0_5.index t 0 * 128 + (y 0).val = 16384 + (256 * (t.val / 18) + (128 * (t.val % 18 - 16) + (y 0).val)) := by omega
    have hq : (fun k => iblk m c 1 t (ix2 (y 0) k)) = ctxY m c (bat t) ⟨128 * (t.val % 18 - 16) + (y 0).val, by omega⟩ :=
      funext fun k => iblk1_apply m c t (y 0) k _ (by
        unfold curIx
        rw [if_neg h1]
        show 16384 + (256 * (t.val / 18) + (128 * (t.val % 18 - 16) + (y 0).val)) = _
        omega)
    rw [hq]
    exact (res_context m c (bat t) ⟨128 * (t.val % 18 - 16) + (y 0).val, by omega⟩ _ hR (y 1)).symm

end Cert.Win

end
-- ==== Proof.WinRef.lean ====
module

public import proofs.«01_k».proof.Proof.Gen.Reference10Ideal.Read
public import proofs.«01_k».proof.Proof.Pieces
public import proofs.«01_k».proof.Proof.WinHead
public import Idealize.ShloMosaic.Lib.Pipeline.ValueKit

/-! The reference's window attention at a row: one softmax over the latents, the context and the sink. -/

@[expose] public section

set_option maxRecDepth 16384

noncomputable section

namespace Cert.Win

open Idealize.ShloMosaic Idealize.ShloMosaic.TcCoe Cert.Reference10Ideal Cert.Reference10Ideal.Gen Cert.Reference10Ideal.Read Cert.Diff

variable (x0 : Vec Ideal S18432x768 .bf16) (x1 : Vec Ideal S8 .f32)

/-- The latents' and the context's columns of one batch, as the reference reads them. -/
def refX (b : Fin 8) (J : Fin 2048) (k : Fin 768) : EReal := x0 (ix2 ⟨2048 * b.val + J.val, by omega⟩ k)
def refY (b : Fin 8) (j : Fin 256) (k : Fin 768) : EReal := x0 (ix2 ⟨16384 + (256 * b.val + j.val), by omega⟩ k)

/-- The queries, keys and values of one head, among the columns. -/
theorem ref_q (b : Fin 8) (r : Fin 2048) (g : Fin 2) (u : Fin 4) (d : Fin 64) :
    val_main_v5 (F := Ideal) x0 (ix5 b r g u d) = refX x0 b r ⟨(g.val * 4 + u.val) * 64 + d.val, by omega⟩ := by
  pointwise [val_main_v5, val_main_v4, val_main_v3, val_main_v2, val_main_v1, val_main_v0]
  unfold refX
  refine congrArg x0 (congrArg₂ ix2 (Fin.ext ?_) (Fin.ext ?_)) <;> dsimp only <;> omega

theorem ref_k (b : Fin 8) (r : Fin 2048) (g : Fin 2) (d : Fin 64) :
    val_main_v6 (F := Ideal) x0 (ix4 b r g d) = refX x0 b r ⟨512 + g.val * 64 + d.val, by omega⟩ := by
  pointwise [val_main_v6, val_main_v4, val_main_v3, val_main_v2, val_main_v1, val_main_v0]
  unfold refX
  refine congrArg x0 (congrArg₂ ix2 (Fin.ext ?_) (Fin.ext ?_)) <;> dsimp only <;> omega

theorem ref_v (b : Fin 8) (r : Fin 2048) (g : Fin 2) (d : Fin 64) :
    val_main_v7 (F := Ideal) x0 (ix4 b r g d) = refX x0 b r ⟨640 + g.val * 64 + d.val, by omega⟩ := by
  pointwise [val_main_v7, val_main_v4, val_main_v3, val_main_v2, val_main_v1, val_main_v0]
  unfold refX
  refine congrArg x0 (congrArg₂ ix2 (Fin.ext ?_) (Fin.ext ?_)) <;> dsimp only <;> omega

theorem ref_qC (b : Fin 8) (r : Fin 256) (g : Fin 2) (u : Fin 4) (d : Fin 64) :
    val_main_v13 (F := Ideal) x0 (ix5 b r g u d) = refY x0 b r ⟨(g.val * 4 + u.val) * 64 + d.val, by omega⟩ := by
  pointwise [val_main_v13, val_main_v12, val_main_v11, val_main_v10, val_main_v9, val_main_v8]
  unfold refY
  refine congrArg x0 (congrArg₂ ix2 (Fin.ext ?_) (Fin.ext ?_)) <;> dsimp only <;> omega

theorem ref_kC (b : Fin 8) (r : Fin 256) (g : Fin 2) (d : Fin 64) :
    val_main_v14 (F := Ideal) x0 (ix4 b r g d) = refY x0 b r ⟨512 + g.val * 64 + d.val, by omega⟩ := by
  pointwise [val_main_v14, val_main_v12, val_main_v11, val_main_v10, val_main_v9, val_main_v8]
  unfold refY
  refine congrArg x0 (congrArg₂ ix2 (Fin.ext ?_) (Fin.ext ?_)) <;> dsimp only <;> omega

theorem ref_vC (b : Fin 8) (r : Fin 256) (g : Fin 2) (d : Fin 64) :
    val_main_v15 (F := Ideal) x0 (ix4 b r g d) = refY x0 b r ⟨640 + g.val * 64 + d.val, by omega⟩ := by
  pointwise [val_main_v15, val_main_v12, val_main_v11, val_main_v10, val_main_v9, val_main_v8]
  unfold refY
  refine congrArg x0 (congrArg₂ ix2 (Fin.ext ?_) (Fin.ext ?_)) <;> dsimp only <;> omega

/-- The band of a latent's query. -/
theorem ref_band (r J : Fin 2048) : val_main_v24 (F := Ideal) (ix2 r J) = 1#1 ↔ Near r.val J := by
  pointwise [val_main_v24, val_main_v23, val_main_v22, val_main_v21, val_main_v20, val_main_v19, val_main_v18, val_main_v17, val_main_v16,
    val_main_c]
  rw [near_bits _ _ (by omega) (by omega)]
  unfold Near
  omega

theorem ref_mask (r : Fin 2048) (j : Fin 2304) :
    val_main_v26 (F := Ideal) (ix2 r j) = if h : j.val < 2048 then val_main_v24 (F := Ideal) (ix2 r ⟨j.val, h⟩) else 1#1 := by
  generalize hA : val_main_v24 (F := Ideal) = A
  pointwise [val_main_v26, val_main_v25, val_main_c_0, hA]

theorem ref_keys (b : Fin 8) (j : Fin 2304) (g : Fin 2) (d : Fin 64) :
    val_main_v27 (F := Ideal) x0 (ix4 b j g d) = if h : j.val < 2048 then val_main_v6 (F := Ideal) x0 (ix4 b ⟨j.val, h⟩ g d)
      else val_main_v14 (F := Ideal) x0 (ix4 b ⟨j.val - 2048, by omega⟩ g d) := by
  generalize hA : val_main_v6 (F := Ideal) x0 = A
  generalize hB : val_main_v14 (F := Ideal) x0 = B
  pointwise [val_main_v27, hA, hB]

theorem ref_vals (b : Fin 8) (j : Fin 2304) (g : Fin 2) (d : Fin 64) :
    val_main_v28 (F := Ideal) x0 (ix4 b j g d) = if h : j.val < 2048 then val_main_v7 (F := Ideal) x0 (ix4 b ⟨j.val, h⟩ g d)
      else val_main_v15 (F := Ideal) x0 (ix4 b ⟨j.val - 2048, by omega⟩ g d) := by
  generalize hA : val_main_v7 (F := Ideal) x0 = A
  generalize hB : val_main_v15 (F := Ideal) x0 = B
  pointwise [val_main_v28, hA, hB]

/-- The scores before the band. -/
theorem ref_score (b : Fin 8) (g : Fin 2) (u : Fin 4) (r : Fin 2048) (j : Fin 2304) :
    val_main_v32 (F := Ideal) x0 (ix5 b g u r j)
      = (∑ d : Fin 64, val_main_v27 (F := Ideal) x0 (ix4 b j g d) * val_main_v5 (F := Ideal) x0 (ix5 b r g u d)) * Ideal.ofBits FTy.f32 0x3E000000#32 := by
  generalize hA : val_main_v27 (F := Ideal) x0 = A
  generalize hB : val_main_v5 (F := Ideal) x0 = B
  pointwise [val_main_v32, val_main_v31, val_main_v30, val_main_v29, val_main_cst, hA, hB]

theorem ref_scoreC (b : Fin 8) (g : Fin 2) (u : Fin 4) (r : Fin 256) (j : Fin 256) :
    val_main_v54 (F := Ideal) x0 (ix5 b g u r j)
      = (∑ d : Fin 64, val_main_v14 (F := Ideal) x0 (ix4 b j g d) * val_main_v13 (F := Ideal) x0 (ix5 b r g u d)) * Ideal.ofBits FTy.f32 0x3E000000#32 := by
  generalize hA : val_main_v14 (F := Ideal) x0 = A
  generalize hB : val_main_v13 (F := Ideal) x0 = B
  pointwise [val_main_v54, val_main_v53, val_main_v52, val_main_v51, val_main_cst_5, hA, hB]

theorem ref_masked (b : Fin 8) (g : Fin 2) (u : Fin 4) (r : Fin 2048) (j : Fin 2304) :
    val_main_v33 (F := Ideal) x0 (ix5 b g u r j)
      = if val_main_v26 (F := Ideal) (ix2 r j) = 1#1 then val_main_v32 (F := Ideal) x0 (ix5 b g u r j) else ⊥ := by
  rw [← ninf_eq_bot]
  generalize hA : val_main_v26 (F := Ideal) = A
  generalize hB : val_main_v32 (F := Ideal) x0 = B
  pointwise [val_main_v33, val_main_call0_v2, val_main_call0_v1, val_main_call0_v0, val_main_cst_1, hA, hB]
  rfl

theorem ref_row (b : Fin 8) (g : Fin 2) (u : Fin 4) (r : Fin 2048) (j : Fin 2305) :
    val_main_v36 (F := Ideal) x0 x1 (ix5 b g u r j)
      = if h : j.val < 2304 then val_main_v33 (F := Ideal) x0 (ix5 b g u r ⟨j.val, h⟩) else x1 (ix1 ⟨g.val * 4 + u.val, by omega⟩) := by
  generalize hA : val_main_v33 (F := Ideal) x0 = A
  pointwise [val_main_v36, val_main_v35, val_main_v34, hA]

theorem ref_rowC (b : Fin 8) (g : Fin 2) (u : Fin 4) (r : Fin 256) (j : Fin 257) :
    val_main_v57 (F := Ideal) x0 x1 (ix5 b g u r j)
      = if h : j.val < 256 then val_main_v54 (F := Ideal) x0 (ix5 b g u r ⟨j.val, h⟩) else x1 (ix1 ⟨g.val * 4 + u.val, by omega⟩) := by
  generalize hA : val_main_v54 (F := Ideal) x0 = A
  pointwise [val_main_v57, val_main_v56, val_main_v55, hA]

/-- The largest of a row, the fold over its keys and the sink. -/
theorem ref_max (b : Fin 8) (g : Fin 2) (u : Fin 4) (r : Fin 2048) :
    val_main_v39 (F := Ideal) x0 x1 (ix4 b g u r) = rowMax (fun j => val_main_v36 (F := Ideal) x0 x1 (ix5 b g u r j)) := by
  rw [val_main_v39_apply]
  unfold val_main_v37
  generalize val_main_v36 (F := Ideal) x0 x1 = S
  rw [val_main_v38_apply, val_main_cst_3_apply]
  change max (Ideal.ofBits FTy.f32 0xFF800000#32) (Host.reduce (max : EReal → EReal → EReal) S _ _ _ _) = _
  rw [Host.reduce_eq_fold_single _ _ _ reducesTo_S8x2x4x2048x2305_S8x2x4x2048_d4 (by decide), ninf_eq_bot, max_eq_right bot_le]
  unfold rowMax
  refine Finset.fold_congr fun k _ => ?_
  exact congrArg S (funext fun a => Fin.ext (by match a with | ⟨0, _⟩ => rfl | ⟨1, _⟩ => rfl | ⟨2, _⟩ => rfl | ⟨3, _⟩ => rfl | ⟨4, _⟩ => rfl))

theorem ref_maxC (b : Fin 8) (g : Fin 2) (u : Fin 4) (r : Fin 256) :
    val_main_v60 (F := Ideal) x0 x1 (ix4 b g u r) = rowMax (fun j => val_main_v57 (F := Ideal) x0 x1 (ix5 b g u r j)) := by
  rw [val_main_v60_apply]
  unfold val_main_v58
  generalize val_main_v57 (F := Ideal) x0 x1 = S
  rw [val_main_v59_apply, val_main_cst_7_apply]
  change max (Ideal.ofBits FTy.f32 0xFF800000#32) (Host.reduce (max : EReal → EReal → EReal) S _ _ _ _) = _
  rw [Host.reduce_eq_fold_single _ _ _ reducesTo_S8x2x4x256x257_S8x2x4x256_d4 (by decide), ninf_eq_bot, max_eq_right bot_le]
  unfold rowMax
  refine Finset.fold_congr fun k _ => ?_
  exact congrArg S (funext fun a => Fin.ext (by match a with | ⟨0, _⟩ => rfl | ⟨1, _⟩ => rfl | ⟨2, _⟩ => rfl | ⟨3, _⟩ => rfl | ⟨4, _⟩ => rfl))

/-- A row's softmax. -/
theorem ref_prob (b : Fin 8) (g : Fin 2) (u : Fin 4) (r : Fin 2048) (j : Fin 2305) :
    val_main_v47 (F := Ideal) x0 x1 (ix5 b g u r j) = prob (fun j => val_main_v36 (F := Ideal) x0 x1 (ix5 b g u r j)) j := by
  unfold prob rowSum
  rw [← ref_max]
  generalize hS : val_main_v36 (F := Ideal) x0 x1 = S
  pointwise [val_main_v47, val_main_v46, val_main_v45, val_main_v44, val_main_v43, val_main_v42, val_main_v41, val_main_v40, val_main_cst_4, hS]

theorem ref_probC (b : Fin 8) (g : Fin 2) (u : Fin 4) (r : Fin 256) (j : Fin 257) :
    val_main_v68 (F := Ideal) x0 x1 (ix5 b g u r j) = prob (fun j => val_main_v57 (F := Ideal) x0 x1 (ix5 b g u r j)) j := by
  unfold prob rowSum
  rw [← ref_maxC]
  generalize hS : val_main_v57 (F := Ideal) x0 x1 = S
  pointwise [val_main_v68, val_main_v67, val_main_v66, val_main_v65, val_main_v64, val_main_v63, val_main_v62, val_main_v61, val_main_cst_8, hS]

/-- A row's softmax against the values, the sink's part left out. -/
theorem ref_out (b : Fin 8) (r : Fin 2048) (g : Fin 2) (u : Fin 4) (e : Fin 64) :
    val_main_v50 (F := Ideal) x0 x1 (ix5 b r g u e)
      = ∑ j : Fin 2304, val_main_v28 (F := Ideal) x0 (ix4 b j g e) * val_main_v47 (F := Ideal) x0 x1 (ix5 b g u r ⟨j.val, by omega⟩) := by
  generalize hA : val_main_v28 (F := Ideal) x0 = A
  generalize hB : val_main_v47 (F := Ideal) x0 x1 = B
  pointwise [val_main_v50, val_main_v49, val_main_v48, hA, hB]

theorem ref_outC (b : Fin 8) (r : Fin 256) (g : Fin 2) (u : Fin 4) (e : Fin 64) :
    val_main_v71 (F := Ideal) x0 x1 (ix5 b r g u e)
      = ∑ j : Fin 256, val_main_v15 (F := Ideal) x0 (ix4 b j g e) * val_main_v68 (F := Ideal) x0 x1 (ix5 b g u r ⟨j.val, by omega⟩) := by
  generalize hA : val_main_v15 (F := Ideal) x0 = A
  generalize hB : val_main_v68 (F := Ideal) x0 x1 = B
  pointwise [val_main_v71, val_main_v70, val_main_v69, hA, hB]

theorem ref_cat (R : Fin 18432) (k : Fin 512) :
    val_main_v75 (F := Ideal) x0 x1 (ix2 R k)
      = if hR : R.val < 16384 then val_main_v72 (F := Ideal) x0 x1 (ix2 ⟨R.val, hR⟩ k)
        else val_main_v73 (F := Ideal) x0 x1 (ix2 ⟨R.val - 16384, by omega⟩ k) := by
  generalize hA : val_main_v72 (F := Ideal) x0 x1 = A
  generalize hB : val_main_v73 (F := Ideal) x0 x1 = B
  pointwise [val_main_v75, val_main_v74, hA, hB]

theorem ref_flat (b : Fin 8) (r : Fin 2048) (R : Fin 16384) (k : Fin 512) (hR : R.val = 2048 * b.val + r.val) :
    val_main_v72 (F := Ideal) x0 x1 (ix2 R k)
      = val_main_v50 (F := Ideal) x0 x1 (ix5 b r ⟨k.val / 256, by omega⟩ ⟨k.val / 64 % 4, by omega⟩ ⟨k.val % 64, by omega⟩) := by
  rw [val_main_v72_apply]
  refine congrArg _ (funext fun a => Fin.ext ?_)
  match a with
  | ⟨0, _⟩ => show (R.val * 512 + k.val) / 1048576 = b.val; omega
  | ⟨1, _⟩ => show (R.val * 512 + k.val) / 512 % 2048 = r.val; omega
  | ⟨2, _⟩ => show (R.val * 512 + k.val) / 256 % 2 = k.val / 256; omega
  | ⟨3, _⟩ => show (R.val * 512 + k.val) / 64 % 4 = k.val / 64 % 4; omega
  | ⟨4, _⟩ => show (R.val * 512 + k.val) % 64 = k.val % 64; omega

theorem ref_flatC (b : Fin 8) (r : Fin 256) (R : Fin 2048) (k : Fin 512) (hR : R.val = 256 * b.val + r.val) :
    val_main_v73 (F := Ideal) x0 x1 (ix2 R k)
      = val_main_v71 (F := Ideal) x0 x1 (ix5 b r ⟨k.val / 256, by omega⟩ ⟨k.val / 64 % 4, by omega⟩ ⟨k.val % 64, by omega⟩) := by
  rw [val_main_v73_apply]
  refine congrArg _ (funext fun a => Fin.ext ?_)
  match a with
  | ⟨0, _⟩ => show (R.val * 512 + k.val) / 131072 = b.val; omega
  | ⟨1, _⟩ => show (R.val * 512 + k.val) / 512 % 256 = r.val; omega
  | ⟨2, _⟩ => show (R.val * 512 + k.val) / 256 % 2 = k.val / 256; omega
  | ⟨3, _⟩ => show (R.val * 512 + k.val) / 64 % 4 = k.val / 64 % 4; omega
  | ⟨4, _⟩ => show (R.val * 512 + k.val) % 64 = k.val % 64; omega

end Cert.Win

end
-- ==== Proof.WinRefAt.lean ====
module

public import proofs.«01_k».proof.Proof.WinRef

/-! The reference's window attention at a latent's and at a context token's row. -/

@[expose] public section

set_option maxRecDepth 16384

noncomputable section

namespace Cert.Win

open Idealize.ShloMosaic Idealize.ShloMosaic.TcCoe Cert.Reference10Ideal Cert.Reference10Ideal.Gen Cert.Reference10Ideal.Read Cert.Diff

variable (x0 : Vec Ideal S18432x768 .bf16) (x1 : Vec Ideal S8 .f32)

/-- A latent's row of scores: the latents' within the band, the context's, the sink. -/
theorem row_lat (b : Fin 8) (g : Fin 2) (u : Fin 4) (r J : Fin 2048) :
    val_main_v36 (F := Ideal) x0 x1 (ix5 b g u r ⟨J.val, by omega⟩)
      = if Near r.val J then score (fun d : Fin 64 => refX x0 b r ⟨(g.val * 4 + u.val) * 64 + d.val, by omega⟩)
          (fun J (d : Fin 64) => refX x0 b J ⟨512 + g.val * 64 + d.val, by omega⟩) J else ⊥ := by
  rw [ref_row, dif_pos (by dsimp only; omega), ref_masked, ref_mask, dif_pos (by dsimp only; omega)]
  refine ite_congr (propext (ref_band r J)) (fun _ => ?_) fun _ => rfl
  rw [ref_score]
  unfold score
  refine congrArg (· * _) (Finset.sum_congr rfl fun d _ => ?_)
  rw [ref_keys, dif_pos (by dsimp only; omega), ref_k, ref_q]
  exact mul_comm _ _

theorem row_ctx (b : Fin 8) (g : Fin 2) (u : Fin 4) (r : Fin 2048) (j : Fin 256) :
    val_main_v36 (F := Ideal) x0 x1 (ix5 b g u r ⟨2048 + j.val, by omega⟩)
      = score (fun d : Fin 64 => refX x0 b r ⟨(g.val * 4 + u.val) * 64 + d.val, by omega⟩)
          (fun j (d : Fin 64) => refY x0 b j ⟨512 + g.val * 64 + d.val, by omega⟩) j := by
  have e : (⟨2048 + j.val - 2048, by omega⟩ : Fin 256) = j := Fin.ext (by dsimp only; omega)
  rw [ref_row, dif_pos (by dsimp only; omega), ref_masked, ref_mask, dif_neg (by dsimp only; omega), if_pos rfl, ref_score]
  unfold score
  refine congrArg (· * _) (Finset.sum_congr rfl fun d _ => ?_)
  rw [ref_keys, dif_neg (by dsimp only; omega), ref_kC, ref_q, e]
  exact mul_comm _ _

theorem row_sink (b : Fin 8) (g : Fin 2) (u : Fin 4) (r : Fin 2048) :
    val_main_v36 (F := Ideal) x0 x1 (ix5 b g u r ⟨2304, by omega⟩) = x1 (ix1 ⟨g.val * 4 + u.val, by omega⟩) := by
  rw [ref_row, dif_neg (by dsimp only; omega)]

theorem rowC_ctx (b : Fin 8) (g : Fin 2) (u : Fin 4) (r : Fin 256) (j : Fin 256) :
    val_main_v57 (F := Ideal) x0 x1 (ix5 b g u r ⟨j.val, by omega⟩)
      = score (fun d : Fin 64 => refY x0 b r ⟨(g.val * 4 + u.val) * 64 + d.val, by omega⟩)
          (fun j (d : Fin 64) => refY x0 b j ⟨512 + g.val * 64 + d.val, by omega⟩) j := by
  rw [ref_rowC, dif_pos (by dsimp only; omega), ref_scoreC]
  unfold score
  refine congrArg (· * _) (Finset.sum_congr rfl fun d _ => ?_)
  rw [ref_kC, ref_qC]
  exact mul_comm _ _

theorem rowC_sink (b : Fin 8) (g : Fin 2) (u : Fin 4) (r : Fin 256) :
    val_main_v57 (F := Ideal) x0 x1 (ix5 b g u r ⟨256, by omega⟩) = x1 (ix1 ⟨g.val * 4 + u.val, by omega⟩) := by
  rw [ref_rowC, dif_neg (by dsimp only; omega)]

theorem ne_top_of_isNum {x : EReal} (h : IsNum x) : x ≠ ⊤ := by
  obtain ⟨r, rfl⟩ := h
  exact EReal.coe_ne_top r

variable (hn : ∀ (R : Fin 18432) (k : Fin 768), k.val < 640 → IsNum (x0 (ix2 R k))) (hσ : ∀ h : Fin 8, x1 (ix1 h) ≠ ⊤)

include hn hσ

/-- One head of a latent's row. -/
theorem ref_head (b : Fin 8) (r : Fin 2048) (g : Fin 2) (u : Fin 4) (e : Fin 64) (h : Fin 8) (hh : h.val = g.val * 4 + u.val) :
    val_main_v50 (F := Ideal) x0 x1 (ix5 b r g u e) = latOut (refX x0 b r) (refX x0 b) (refY x0 b) (fun h => x1 (ix1 h)) r.val h e := by
  have hlt : g.val * 4 + u.val < 8 := by omega
  obtain rfl : h = ⟨g.val * 4 + u.val, hlt⟩ := Fin.ext hh
  have hg : (g.val * 4 + u.val) / 4 = g.val := by omega
  have hc (j : Fin 256) : IsNum (score (fun d : Fin 64 => refX x0 b r ⟨(g.val * 4 + u.val) * 64 + d.val, by omega⟩)
      (fun j (d : Fin 64) => refY x0 b j ⟨512 + g.val * 64 + d.val, by omega⟩) j) :=
    isNum_score _ _ (fun d => hn _ _ (by dsimp only; omega)) (fun _ d => hn _ _ (by dsimp only; omega)) _
  rw [ref_out]
  unfold latOut
  simp only [hg]
  symm
  refine (rowOut_softmax (n := 2048) (m := 256) _ _ _ _ _ (fun j => val_main_v36 (F := Ideal) x0 x1 (ix5 b g u r j))
    (fun j => val_main_v28 (F := Ideal) x0 (ix4 b j g e)) (fun J => row_lat x0 x1 b g u r J) (fun j => row_ctx x0 x1 b g u r j)
    (row_sink x0 x1 b g u r) (fun J => ?_) (fun j => ?_) (fun j => ?_) ⟨2048, by omega⟩ ?_).trans
    (Finset.sum_congr rfl fun j _ => ?_)
  · rw [ref_vals, dif_pos (by dsimp only; omega), ref_v]
  · have e : (⟨2048 + j.val - 2048, by omega⟩ : Fin 256) = j := Fin.ext (by dsimp only; omega)
    rw [ref_vals, dif_neg (by dsimp only; omega), ref_vC, e]
  · have hj : j.val < 2305 := j.isLt
    show val_main_v36 (F := Ideal) x0 x1 (ix5 b g u r ⟨j.val, hj⟩) ≠ ⊤
    by_cases h1 : j.val < 2048
    · rw [row_lat x0 x1 b g u r ⟨j.val, h1⟩]
      split
      · exact ne_top_of_isNum (isNum_score _ _ (fun d => hn _ _ (by dsimp only; omega)) (fun _ d => hn _ _ (by dsimp only; omega)) _)
      · exact bot_ne_top
    · by_cases h2 : j.val < 2304
      · have e : (⟨j.val, hj⟩ : Fin 2305) = ⟨2048 + (j.val - 2048), by omega⟩ := Fin.ext (by dsimp only; omega)
        rw [e, row_ctx x0 x1 b g u r ⟨j.val - 2048, by omega⟩]
        exact ne_top_of_isNum (hc _)
      · have e : (⟨j.val, hj⟩ : Fin 2305) = ⟨2304, by omega⟩ := Fin.ext (by dsimp only; omega)
        rw [e, row_sink]
        exact hσ _
  · have := hc 0
    rw [← row_ctx x0 x1 b g u r 0] at this
    exact this
  · rw [ref_prob]
    exact mul_comm _ _

/-- One head of a context token's row. -/
theorem ref_headC (b : Fin 8) (r : Fin 256) (g : Fin 2) (u : Fin 4) (e : Fin 64) (h : Fin 8) (hh : h.val = g.val * 4 + u.val) :
    val_main_v71 (F := Ideal) x0 x1 (ix5 b r g u e) = ctxOut (refY x0 b r) (refY x0 b) (fun h => x1 (ix1 h)) h e := by
  have hlt : g.val * 4 + u.val < 8 := by omega
  obtain rfl : h = ⟨g.val * 4 + u.val, hlt⟩ := Fin.ext hh
  have hg : (g.val * 4 + u.val) / 4 = g.val := by omega
  have hc (j : Fin 256) : IsNum (score (fun d : Fin 64 => refY x0 b r ⟨(g.val * 4 + u.val) * 64 + d.val, by omega⟩)
      (fun j (d : Fin 64) => refY x0 b j ⟨512 + g.val * 64 + d.val, by omega⟩) j) :=
    isNum_score _ _ (fun d => hn _ _ (by dsimp only; omega)) (fun _ d => hn _ _ (by dsimp only; omega)) _
  rw [ref_outC]
  unfold ctxOut
  simp only [hg]
  symm
  have ez {n : ℕ} (j : Fin 256) (p : 0 + j.val < n) : (⟨0 + j.val, p⟩ : Fin n) = ⟨j.val, by omega⟩ := Fin.ext (Nat.zero_add _)
  refine (rowOut_softmax (n := 0) (m := 256) _ _ _ _ _
    (fun j => val_main_v57 (F := Ideal) x0 x1 (ix5 b g u r ⟨j.val, by omega⟩))
    (fun j => val_main_v15 (F := Ideal) x0 (ix4 b ⟨j.val, by omega⟩ g e)) (fun J => J.elim0) (fun j => ?_)
    (rowC_sink x0 x1 b g u r) (fun J => J.elim0) (fun j => ?_) (fun j => ?_) ⟨0, by omega⟩ ?_).trans ?_
  · simp only [ez]
    exact rowC_ctx x0 x1 b g u r j
  · simp only [ez]
    exact ref_vC x0 b j g e
  · by_cases h2 : j.val < 256
    · rw [rowC_ctx x0 x1 b g u r ⟨j.val, h2⟩]
      exact ne_top_of_isNum (hc _)
    · have e : (⟨j.val, by omega⟩ : Fin 257) = ⟨256, by omega⟩ := Fin.ext (by dsimp only; omega)
      rw [e, rowC_sink]
      exact hσ _
  · have := hc 0
    rw [← rowC_ctx x0 x1 b g u r 0] at this
    exact this
  · show ∑ j : Fin 256, prob (fun j : Fin 257 => val_main_v57 (F := Ideal) x0 x1 (ix5 b g u r j)) ⟨j.val, by omega⟩
      * val_main_v15 (F := Ideal) x0 (ix4 b j g e) = _
    refine Finset.sum_congr rfl fun j _ => ?_
    rw [ref_probC]
    exact mul_comm _ _

/-- The reference's result at a latent's row. -/
theorem ref_latent (b : Fin 8) (r : Fin 2048) (R : Fin 18432) (hR : R.val = 2048 * b.val + r.val) (k : Fin 512) :
    val_main_v75 (F := Ideal) x0 x1 (ix2 R k)
      = latOut (refX x0 b r) (refX x0 b) (refY x0 b) (fun h => x1 (ix1 h)) r.val ⟨k.val / 64, by omega⟩ ⟨k.val % 64, by omega⟩ := by
  rw [ref_cat, dif_pos (by omega), ref_flat _ _ b r _ k hR]
  exact ref_head x0 x1 hn hσ b r _ _ _ _ (by dsimp only; omega)

/-- The reference's result at a context token's row. -/
theorem ref_context (b : Fin 8) (r : Fin 256) (R : Fin 18432) (hR : R.val = 16384 + (256 * b.val + r.val)) (k : Fin 512) :
    val_main_v75 (F := Ideal) x0 x1 (ix2 R k)
      = ctxOut (refY x0 b r) (refY x0 b) (fun h => x1 (ix1 h)) ⟨k.val / 64, by omega⟩ ⟨k.val % 64, by omega⟩ := by
  rw [ref_cat, dif_neg (by omega), ref_flatC _ _ b r _ k (by show R.val - 16384 = _; omega)]
  exact ref_headC x0 x1 hn hσ b r _ _ _ _ (by dsimp only; omega)

end Cert.Win

end
-- ==== Proof.WinEqual.lean ====
module

public import proofs.«01_k».proof.Defs
public import proofs.«01_k».proof.Proof.Pre
public import proofs.«01_k».proof.Proof.WinOut
public import proofs.«01_k».proof.Proof.WinRefAt
public import proofs.«01_k».proof.Proof.Gen.Kernel10Ideal.Value
public import proofs.«01_k».proof.Proof.Gen.Reference10Ideal.Run
public import proofs.«01_k».proof.Proof.Gen.Reference10Ideal.Read
public import Idealize.ShloMosaic.Lib.ReduceAll
public import Idealize.ShloMosaic.Lib.Claim

/-! The window attention and its reference end with the same array, the mask being minus infinity. -/

@[expose] public section

set_option maxRecDepth 16384

noncomputable section

namespace Cert.Win

open Idealize.ShloMosaic Idealize.ShloMosaic.TcCoe Idealize.SL.Sem Cert.Diff

section Pre

open Cert.Pre_finite_window

instance preFacts : Cert.Pre_finite_window.Facts where
  slices_S18432x768_S18432x640_0_0 := by decide
  bitsLt_bf16_f32 := by decide
  bcast_S_S18432x640 := by decide
  reducesTo_S18432x640_S_d0_1 := by decide
  h_S_ := by decide
  bcast_S_S8 := by decide
  reducesTo_S8_S_d0 := by decide

/-- An extended real below infinity is not infinity. -/
theorem ne_top_of_lt (x : EReal) (h : Ideal.cmp .olt x (Ideal.ofBits .f32 0x7F800000#32) = 1#1) : x ≠ ⊤ := by
  have e : Ideal.ofBits FTy.f32 0x7F800000#32 = (⊤ : EReal) := by simp [Ideal.ofBits, Ideal.ieee]
  rw [e] at h
  rintro rfl
  simp [Ideal.cmp] at h

/-- The precondition: the queries and keys are numbers, no sink is infinity. -/
theorem pre_window (x0 : Vec Ideal S18432x768 .bf16) (x1 : Vec Ideal S8 .f32)
    (h : Cert.Pre_finite_window.fn (F := Ideal) x0 x1 = fun _ => 1#1) :
    (∀ (R : Fin 18432) (k : Fin 768), k.val < 640 → IsNum (x0 (ix2 R k))) ∧ ∀ h : Fin 8, x1 (ix1 h) ≠ ⊤ := by
  haveI : Subsingleton S_.Idx := ⟨fun i j => funext fun a => a.elim0⟩
  have e := congrFun h ix0
  dsimp only [Cert.Pre_finite_window.fn] at e
  have e' := IntOp.andi_eq_one.1 e
  have e0 := fun i => Host.reduce_andi_all _ _ _ _ _ e'.1 i
  have e1 := fun i => Host.reduce_andi_all _ _ _ _ _ e'.2 i
  refine ⟨fun R k hk => ?_, fun h => ?_⟩
  · refine isNum_of_abs _ ?_
    have := e0 (ix2 R ⟨k.val, hk⟩)
    pointwise at this
    exact this
  · refine ne_top_of_lt _ ?_
    have := e1 (ix1 h)
    pointwise at this
    exact this

end Pre

/-- The reference's result, from arguments equal to the kernel's, is the kernel's. -/
theorem ref_eq (m : (ℓ : Loc Cert.Kernel10Ideal.nD Cert.Kernel10Ideal.τ Cert.Kernel10Ideal.sig) → Buf (Elt Ideal) ℓ) (c : Dev Cert.Kernel10Ideal.nD)
    (hn : ∀ (R : Fin 18432) (k : Fin 768), k.val < 640 → IsNum ((m ((c.tc : Thread Cert.Kernel10Ideal.nD Cert.Kernel10Ideal.τ).loc Cert.Kernel10Ideal.main_arg0)) (ix2 R k)))
    (hσ : ∀ h : Fin 8, (m ((c.tc : Thread Cert.Kernel10Ideal.nD Cert.Kernel10Ideal.τ).loc Cert.Kernel10Ideal.main_arg1)) (ix1 h) ≠ (⊤ : EReal)) :
    Cert.Reference10Ideal.Read.val_main_v75 (F := Ideal) (m ((c.tc : Thread Cert.Kernel10Ideal.nD Cert.Kernel10Ideal.τ).loc Cert.Kernel10Ideal.main_arg0))
        (m ((c.tc : Thread Cert.Kernel10Ideal.nD Cert.Kernel10Ideal.τ).loc Cert.Kernel10Ideal.main_arg1)) = res m c := by
  funext i
  obtain ⟨R, k, rfl⟩ : ∃ (R : Fin 18432) (k : Fin 512), i = ix2 R k := ⟨i 0, i 1, eq_ix2 i⟩
  by_cases hR : R.val < 16384
  · exact (ref_latent _ _ hn hσ ⟨R.val / 2048, by omega⟩ ⟨R.val % 2048, by omega⟩ R (by show R.val = 2048 * (R.val / 2048) + R.val % 2048; omega) k).trans
      (res_latent m c ⟨R.val / 2048, by omega⟩ ⟨R.val % 2048, by omega⟩ R (by show R.val = 2048 * (R.val / 2048) + R.val % 2048; omega) k).symm
  · exact (ref_context _ _ hn hσ ⟨(R.val - 16384) / 256, by omega⟩ ⟨(R.val - 16384) % 256, by omega⟩ R
        (by show R.val = 16384 + (256 * ((R.val - 16384) / 256) + (R.val - 16384) % 256); omega) k).trans
      (res_context m c ⟨(R.val - 16384) / 256, by omega⟩ ⟨(R.val - 16384) % 256, by omega⟩ R
        (by show R.val = 16384 + (256 * ((R.val - 16384) / 256) + (R.val - 16384) % 256); omega) k).symm

/-- The reference runs, keeps its arguments, and has no counter that could be left standing. -/
theorem ref_frame : Cert.quiescent_Reference10Ideal := fun m ρ _ =>
  (θ_run _ _ _).mono (fun r h => ⟨fun c => (h c).2, sem_eq_zero_of_no_sems (by decide) r.2⟩) (Cert.Reference10Ideal.Value.run m ρ)

/-- The mask's literal stands for minus infinity. -/
theorem preserves : Cert.preserves_Kernel10_Kernel10Ideal :=
  IdealRules.named_const.statement Cert.Kernel10Ideal.κ "mask" .f32 0xF149F2CA#32 ⊥ rfl

theorem algebraic : Cert.algebraic_Kernel10Ideal_Reference10Ideal_pre_finite_window := by
  intro m g m' g' hpre hargs
  refine ⟨fun c => res m c, ?_, ?_⟩
  · refine (θ_run _ _ _).mono (fun r h c => ?_) (Cert.Kernel10Ideal.Value.run_blocks m g)
    exact ⟨(h c).1.trans (final_eq m c), (h c).2⟩
  · refine (θ_run _ _ _).mono (fun r h c => ?_) (Cert.Reference10Ideal.Value.run m' g')
    refine ⟨(h c).1.trans ?_, (h c).2⟩
    obtain ⟨h0, h1⟩ := hargs c
    rw [Cert.Reference10Ideal.Read.val_main_v75_eq, h0, h1]
    have hp := pre_window _ _ (hpre c)
    exact ref_eq m c hp.1 hp.2

end Cert.Win

end
-- ==== Proof.First.lean ====
module

public import proofs.«01_k».proof.Defs
public import proofs.«01_k».proof.Proof.PreMath
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.StableHlo.RunRead
public import Idealize.ShloMosaic.Lib.Claim

/-! The norm that starts the first layer, where no residual comes before it: the kernel and the reference have the same result. -/

@[expose] public section

set_option maxRecDepth 16384

noncomputable section

namespace Cert.First

open Idealize.ShloMosaic Idealize.ShloMosaic.TcCoe Idealize.SL.Sem Idealize.ShloMosaic.Tactic Cert.Pre

section Kernel

open Cert.Kernel11Ideal Cert.Kernel11Ideal.Gen

variable (m : (ℓ : Loc nD τ sig) → Buf (Elt Ideal) ℓ) (c : Dev nD)

/-- The row of the modulation that a token takes: its sequence's, or the contexts' common one. -/
def grp (R : Fin 18432) : Fin 16 := ⟨if R.val < 16384 then R.val / 2048 else 8, by split <;> omega⟩

/-! ## The arguments at a token, and the results over them -/

def xM (R : Fin 18432) (k : Fin 1024) : EReal := m ((c : Thread nD τ).loc main_arg0) (ix2 R k)

def bM (R : Fin 18432) (a : Fin 6) (k : Fin 1024) : EReal := m ((c : Thread nD τ).loc main_arg1) (ix3 (grp R) a k)

def gainM (k : Fin 1024) : EReal := m ((c : Thread nD τ).loc main_arg2) (ix1 k)

def resH (i : S18432x1024.Idx) : EReal := modNormed (xM m c (i 0)) (gainM m c) (bM m c (i 0) 1) (bM m c (i 0) 0) (i 1)

/-! ## The input blocks at a grid point -/

theorem V_gain {F : FTy → Type} [FloatOps F] (m : (ℓ : Loc nD τ sig) → Buf (Elt F) ℓ) :
    V m c main_v0 = broadcastInDim S1x1024 ![1] bcast_S1024_S1x1024_1 (m ((c : Thread nD τ).loc main_arg2)) := by
  entry_read
  rfl

/-- The token that row `r` of grid point `t` is. -/
def rowOf (t : Fin cfg0.N) (r : Fin 512) : Fin 18432 := ⟨t.val * 512 + r.val, by have : t.val < 36 := t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = (if t.val < 32 then t.val / 4 else 8) ∧ win0_1.index t 1 = 0 ∧ win0_1.index t 2 = 0 :=
  (by decide +kernel : ∀ t : Fin grid0.N, win0_1.index t 0 = (if t.val < 32 then t.val / 4 else 8) ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

theorem grp_rowOf (t : Fin cfg0.N) (r : Fin 512) : (grp (rowOf t r)).val = if t.val < 32 then t.val / 4 else 8 := by
  show (if t.val * 512 + r.val < 16384 then (t.val * 512 + r.val) / 2048 else 8) = _
  split <;> split <;> omega

theorem xin (t : Fin cfg0.N) (r : Fin 512) (k : Fin 1024) : iblk m c 0 t (ix2 r k) = xM m c (rowOf t r) k := by
  have e : (win0_0.blk t).view.emb (ix2 r k) = ix2 (rowOf t r) k := by
    blk_ext [index0 t, rowOf]
  unfold iblk
  rw [V_main_arg0]
  blk_simp [e]
  rfl

theorem bmod (t : Fin cfg0.N) (r : Fin 512) (a : Fin 6) (k : Fin 1024) : iblk m c 1 t (ix3 0 a k) = bM m c (rowOf t r) a k := by
  have e : (win0_1.blk t).view.emb (ix3 0 a k) = ix3 (grp (rowOf t r)) a k := by
    blk_ext [index1 t, grp_rowOf t r]
  unfold iblk
  rw [V_main_arg1]
  blk_simp [e]
  rfl

theorem gain (t : Fin cfg0.N) (k : Fin 1024) : iblk m c 2 t (ix2 0 k) = gainM m c k := by
  have e : (win0_2.blk t).view.emb (ix2 0 k) = ix2 0 k := by
    blk_ext [index2 t]
  unfold iblk
  rw [V_gain]
  blk_simp [e]
  pointwise
  rfl

/-! ## One block -/

theorem ldm1 (x : Vec Ideal S1x6x1024 .f32) (k : Fin 1024) : View.ld x r0_2 (ix3 0 0 k) = x (ix3 0 1 k) :=
  congrArg x (funext fun a => Fin.ext (by
    match a with
    | ⟨0, _⟩ => rfl
    | ⟨1, _⟩ => rfl
    | ⟨2, _⟩ => show 0 + 1 * k.val = k.val; omega))

theorem ldm0 (x : Vec Ideal S1x6x1024 .f32) (k : Fin 1024) : View.ld x r0_3 (ix3 0 0 k) = x (ix3 0 0 k) :=
  congrArg x (funext fun a => Fin.ext (by
    match a with
    | ⟨0, _⟩ => rfl
    | ⟨1, _⟩ => rfl
    | ⟨2, _⟩ => show 0 + 1 * k.val = k.val; omega))

theorem ldx (x : Vec Ideal S512x1024 .f32) (r : Fin 512) (k : Fin 1024) : View.ld x r0_0 (ix2 r k) = x (ix2 r k) := by
  pointwise

theorem ldg (x : Vec Ideal S1x1024 .f32) (k : Fin 1024) : View.ld x r0_1 (ix2 0 k) = x (ix2 0 k) := by
  pointwise

theorem pay1_apply (x : Vec Ideal S512x1024 .f32) (g : Vec Ideal S1x1024 .f32) (sc sh : Vec Ideal S1x1x1024 .f32)
    (r : Fin 512) (k : Fin 1024) :
    k0_pay1 x g sc sh (ix2 r k)
      = modNormed (fun k => x (ix2 r k)) (fun k => g (ix2 0 k)) (fun k => sc (ix3 0 0 k)) (fun k => sh (ix3 0 0 k)) k := by
  pointwise [k0_pay1]
  rfl

/-! ## What a grid point leaves -/

theorem final_h : (dats m 0 c).arrAt 3 cfg0.N = resH m c := by
  refine (dats m 0 c).arrAt_eq_of_covers 3 _ (by decide +kernel) fun t hf y => ?_
  blk_simp
  rw [after0_3]
  obtain ⟨r, k, rfl⟩ : ∃ (r : Fin 512) (k : Fin 1024), y = ix2 r k := ⟨y 0, y 1, eq_ix2 y⟩
  have e : (win0_3.blk t).view.emb (ix2 r k) = ix2 (rowOf t r) k := by
    blk_ext [index3 t, rowOf]
  rw [e]
  unfold out0_3
  rw [View.canon_cons_unit_lit (S := S512x1024) _ _ _ (by decide)]
  refine (pay1_apply _ _ _ _ r k).trans (congrFun (congr (congr (congrArg₂ modNormed ?_ (funext fun k => (ldg _ k).trans (gain m c t k))) ?_) ?_) k)
  · exact funext fun k => (ldx _ r k).trans (xin m c t r k)
  · exact funext fun k => (ldm1 _ k).trans (bmod m c t r 1 k)
  · exact funext fun k => (ldm0 _ k).trans (bmod m c t r 0 k)

end Kernel

section Reference

open Cert.Reference11Ideal Cert.Reference11Ideal.Gen Cert.Reference11Ideal.Read

variable (x0 : (⟨S18432x1024, .f32⟩ : BufTy).Contents (Elt Ideal)) (x1 : (⟨S16x6x1024, .f32⟩ : BufTy).Contents (Elt Ideal))
  (x2 : (⟨S1024, .f32⟩ : BufTy).Contents (Elt Ideal))

theorem cat2 (A : FVec Ideal S16384x6x1024 .f32) (B : FVec Ideal S2048x6x1024 .f32) (R : Fin 18432) (a : Fin 6) (k : Fin 1024) :
    concatenate S18432x6x1024 0 [⟨S16384x6x1024, A⟩, ⟨S2048x6x1024, B⟩] concatenates_S16384x6x1024_S2048x6x1024_S18432x6x1024_d0 (ix3 R a k)
      = if h : R.val < 16384 then A (ix3 ⟨R.val, h⟩ a k) else B (ix3 ⟨R.val - 16384, by omega⟩ a k) := by
  pointwise

theorem ref_mod (R : Fin 18432) (a : Fin 6) (k : Fin 1024) : val_main_v6 (F := Ideal) x1 (ix3 R a k) = x1 (ix3 (grp R) a k) := by
  refine (cat2 _ _ R a k).trans ?_
  by_cases h : R.val < 16384
  · rw [dif_pos h, val_main_v2_apply, val_main_v1_apply, val_main_v0_apply]
    exact congrArg x1 (funext fun b => Fin.ext (by
      match b with
      | ⟨0, _⟩ => show ((R.val * 6 + a.val) * 1024 + k.val) / 12582912 = if R.val < 16384 then R.val / 2048 else 8; rw [if_pos h]; omega
      | ⟨1, _⟩ => show ((R.val * 6 + a.val) * 1024 + k.val) / 1024 % 6 = a.val; omega
      | ⟨2, _⟩ => show ((R.val * 6 + a.val) * 1024 + k.val) % 1024 = k.val; omega))
  · rw [dif_neg h, val_main_v5_apply, val_main_v4_apply, val_main_v3_apply]
    exact congrArg x1 (funext fun b => Fin.ext (by
      match b with
      | ⟨0, _⟩ => show 8 + 0 = if R.val < 16384 then R.val / 2048 else 8; rw [if_neg h]
      | ⟨1, _⟩ => show (((R.val - 16384) * 6 + a.val) * 1024 + k.val) / 1024 % 6 = a.val; omega
      | ⟨2, _⟩ => show (((R.val - 16384) * 6 + a.val) * 1024 + k.val) % 1024 = k.val; omega))

theorem ref_sh (R : Fin 18432) (k : Fin 1024) : val_main_v8 (F := Ideal) x1 (ix2 R k) = x1 (ix3 (grp R) 0 k) := by
  rw [val_main_v8_apply, val_main_v7_apply]
  refine Eq.trans (congrArg (val_main_v6 (F := Ideal) x1) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod x1 R 0 k)

theorem ref_sc (R : Fin 18432) (k : Fin 1024) : val_main_v10 (F := Ideal) x1 (ix2 R k) = x1 (ix3 (grp R) 1 k) := by
  rw [val_main_v10_apply, val_main_v9_apply]
  refine Eq.trans (congrArg (val_main_v6 (F := Ideal) x1) (funext fun b => Fin.ext (by
      match b with
      | ⟨0, _⟩ => show (R.val * 1024 + k.val) / 1024 = R.val; omega
      | ⟨1, _⟩ => rfl
      | ⟨2, _⟩ => show (R.val * 1024 + k.val) % 1024 = k.val; omega))) (ref_mod x1 R 1 k)

theorem ref_scale (R : Fin 18432) (k : Fin 1024) : val_main_v19 (F := Ideal) x0 (ix2 R k) = scale (fun k => x0 (ix2 R k)) := by
  rw [val_main_v19_apply, val_main_v18_apply, val_main_v17_apply, val_main_v15_apply, val_main_v13_apply, val_main_v12_apply,
    val_main_v14_apply, val_main_cst_0_apply, val_main_v16_apply, val_main_cst_1_apply, val_main_cst_apply]
  have e : (∑ l : Fin 1024, val_main_v11 (F := Ideal) x0 (idx_main_v12 (idx_main_v13 (idx_main_v19 (ix2 R k))) l) : EReal)
      = ∑ l, x0 (ix2 R l) * x0 (ix2 R l) := by
    refine Finset.sum_congr rfl fun l _ => ?_
    rw [val_main_v11_apply]
    have i : idx_main_v12 (idx_main_v13 (idx_main_v19 (ix2 R k))) l = ix2 R l :=
      funext fun b => Fin.ext (by match b with | ⟨0, _⟩ => rfl | ⟨1, _⟩ => rfl)
    rw [i]
    rfl
  rw [e, zero_word, zero_add]
  rfl

theorem ref_h (R : Fin 18432) (k : Fin 1024) : val_main_v28 (F := Ideal) x0 x1 x2 (ix2 R k)
    = modNormed (fun k => x0 (ix2 R k)) (fun k => x2 (ix1 k)) (fun k => x1 (ix3 (grp R) 1 k)) (fun k => x1 (ix3 (grp R) 0 k)) k := by
  rw [val_main_v28_apply, val_main_v27_apply, val_main_v26_apply, val_main_v25_apply, val_main_v23_apply, val_main_v20_apply,
    ref_scale, val_main_v22_apply, val_main_v21_apply, val_main_v24_apply, val_main_cst_2_apply, ref_sc, ref_sh, one_word]
  refine congrArg₂ (fun a b : EReal => a + b) (congrArg₂ (fun a b : EReal => a * b) (congrArg₂ (fun a b : EReal => a * b) rfl ?_) rfl) rfl
  exact congrArg x2 (funext fun b => Fin.ext (by match b with | ⟨0, _⟩ => rfl))

/-- The reference runs, keeps its arguments, and has no counter that could be left standing. -/
theorem ref_frame : Cert.quiescent_Reference11Ideal := fun m ρ _ =>
  (θ_run _ _ _).mono (fun r h => ⟨fun c => (h c).2, sem_eq_zero_of_no_sems (by decide) r.2⟩) (Cert.Reference11Ideal.Value.run m ρ)

theorem algebraic : Cert.algebraic_Kernel11Ideal_Reference11Ideal := by
  intro m g m' g' _ hargs
  refine ⟨fun c => resH m c, ?_, ?_⟩
  · refine (θ_run _ _ _).mono (fun r h c => ?_) (Cert.Kernel11Ideal.Value.run_blocks m g)
    exact ⟨(h c).1.trans (final_h m c), (h c).2⟩
  · refine (θ_run _ _ _).mono (fun r h c => ?_) (Cert.Reference11Ideal.Value.run m' g')
    obtain ⟨h0, h1, h2⟩ := hargs c
    refine ⟨(h c).1.trans ((val_main_v28_eq _ _ _).trans ?_), (h c).2⟩
    rw [h0, h1, h2]
    funext i
    obtain ⟨R, k, rfl⟩ : ∃ (R : Fin 18432) (k : Fin 1024), i = ix2 R k := ⟨i 0, i 1, eq_ix2 i⟩
    exact ref_h _ _ _ R k

end Reference

end Cert.First

end
-- ==== Proof.Act.lean ====
module

public import proofs.«01_k».proof.Defs
public import proofs.«01_k».proof.Proof.PreMath
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.StableHlo.RunRead
public import Idealize.ShloMosaic.Lib.Claim

/-! The experts' activation: the kernel's one plus the error function is the reference's complementary error function of the
    negated argument, because the error function is odd. -/

@[expose] public section

noncomputable section

namespace Cert.Act

open Idealize.ShloMosaic Idealize.ShloMosaic.TcCoe Idealize.SL.Sem Idealize.ShloMosaic.Tactic Cert.Pre

/-- The error function is odd, at the infinities too. -/
theorem erf_neg (x : EReal) : Ideal.erf (-x) = -Ideal.erf x := by
  induction x using EReal.rec with
  | bot =>
    rw [EReal.neg_bot]
    show (1 : EReal) = -(-1)
    rw [neg_neg]
  | top =>
    rw [EReal.neg_top]
    rfl
  | coe r =>
    rw [← EReal.coe_neg]
    show ((2 / √Real.pi * ∫ t in (0 : ℝ)..(-r), Real.exp (-t ^ 2) : ℝ) : EReal)
      = -((2 / √Real.pi * ∫ t in (0 : ℝ)..r, Real.exp (-t ^ 2) : ℝ) : EReal)
    rw [← EReal.coe_neg]
    have h : (∫ t in (0 : ℝ)..(-r), Real.exp (-t ^ 2)) = -∫ t in (0 : ℝ)..r, Real.exp (-t ^ 2) := by
      have e := intervalIntegral.integral_comp_neg (a := 0) (b := r) (fun t : ℝ => Real.exp (-t ^ 2))
      simp only [neg_sq, neg_zero] at e
      rw [e, intervalIntegral.integral_symm]
    rw [h, mul_neg]

/-- The two forms of the factor that an activation is multiplied by. -/
theorem factor (d c : EReal) : 1 - Ideal.erf (-d * c) = 1 + Ideal.erf (d * c) := by
  rw [EReal.neg_mul, erf_neg, sub_eq_add_neg, neg_neg]

section Reference

open Cert.Reference12Ideal Cert.Reference12Ideal.Gen Cert.Reference12Ideal.Read

/-- The reference runs, keeps its arguments, and has no counter that could be left standing. -/
theorem ref_frame : Cert.quiescent_Reference12Ideal := fun m ρ _ =>
  (θ_run _ _ _).mono (fun r h => ⟨fun c => (h c).2, sem_eq_zero_of_no_sems (by decide) r.2⟩) (Cert.Reference12Ideal.Value.run m ρ)

theorem ref_eq (x0 x1 : (⟨S18432x128, .f32⟩ : BufTy).Contents (Elt Ideal)) :
    val_main_v7 (F := Ideal) x0 x1 = Cert.Kernel12Ideal.Value.G2 x1 x0 := by
  funext i
  rw [val_main_v7_apply, val_main_v6_apply, val_main_v1_apply, val_main_v0_apply, val_main_cst_apply, val_main_v5_apply,
    val_main_v4_apply, val_main_v2_apply, val_main_v3_apply, val_main_cst_0_apply]
  refine congrArg₂ (fun a b : EReal => a * b) rfl (congrArg₂ (fun a b : EReal => a * b) rfl ?_)
  refine (factor (x1 i) _).trans ?_
  rw [← one_word]
  rfl

theorem algebraic : Cert.algebraic_Kernel12Ideal_Reference12Ideal := by
  intro m g m' g' _ hargs
  refine ⟨fun c => Cert.Kernel12Ideal.Value.G2 (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg0)), Cert.Kernel12Ideal.Value.run m g, ?_⟩
  refine (θ_run _ _ _).mono (fun r h c => ?_) (Cert.Reference12Ideal.Value.run m' g')
  obtain ⟨h0, h1⟩ := hargs c
  refine ⟨(h c).1.trans ?_, (h c).2⟩
  rw [val_main_v7_eq, h0, h1]
  exact ref_eq _ _

end Reference

end Cert.Act

end
-- ==== Proof.lean ====
/- Each kernel and its idealization run and keep their arguments; the idealized kernel and its reference end with equal
   results (for the two attentions, when the queries and keys are numbers and no sink is infinity). -/
module

public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equal
public import proofs.«01_k».proof.Proof.GatesEqual
public import proofs.«01_k».proof.Proof.MergeEqual
public import proofs.«01_k».proof.Proof.Plain
public import proofs.«01_k».proof.Proof.RopeEqual5
public import proofs.«01_k».proof.Proof.RopeEqual6
public import proofs.«01_k».proof.Proof.Last
public import proofs.«01_k».proof.Proof.Start
public import proofs.«01_k».proof.Proof.Mods
public import proofs.«01_k».proof.Proof.WinEqual
public import proofs.«01_k».proof.Proof.First
public import proofs.«01_k».proof.Proof.Act

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Diff.preFacts, Cert.Win.preFacts,
    fun m ρ _ => Cert.Kernel.Gen.frame m ρ, fun m ρ _ => Cert.KernelIdeal.Gen.frame m ρ,
    fun m ρ _ => Cert.KernelIdeal.Gen.frame m ρ, Cert.Diff.ref_frame,
    fun m ρ _ => Cert.Diff.ref_frame m ρ trivial,
    fun m ρ _ => Cert.Kernel2.Gen.frame m ρ, fun m ρ _ => Cert.Kernel2Ideal.Gen.frame m ρ, Cert.Gates.ref_frame,
    fun m ρ _ => Cert.Kernel3.Gen.frame m ρ, fun m ρ _ => Cert.Kernel3Ideal.Gen.frame m ρ, Cert.Merge.ref_frame,
    fun m ρ _ => Cert.Kernel4.Gen.frame m ρ, fun m ρ _ => Cert.Kernel4Ideal.Gen.frame m ρ, Cert.Plain.ref_frame,
    fun m ρ _ => Cert.Kernel5.Gen.frame m ρ, fun m ρ _ => Cert.Kernel5Ideal.Gen.frame m ρ, Cert.Rope5.ref_frame,
    fun m ρ _ => Cert.Kernel6.Gen.frame m ρ, fun m ρ _ => Cert.Kernel6Ideal.Gen.frame m ρ, Cert.Rope6.ref_frame,
    fun m ρ _ => Cert.Kernel7.Gen.frame m ρ, fun m ρ _ => Cert.Kernel7Ideal.Gen.frame m ρ, Cert.Last.ref_frame,
    fun m ρ _ => Cert.Kernel8.Gen.frame m ρ, fun m ρ _ => Cert.Kernel8Ideal.Gen.frame m ρ, Cert.Start.ref_frame,
    fun m ρ _ => Cert.Kernel9.Gen.frame m ρ, fun m ρ _ => Cert.Kernel9Ideal.Gen.frame m ρ, Cert.Mods.ref_frame,
    fun m ρ _ => Cert.Kernel10.Gen.frame m ρ, fun m ρ _ => Cert.Kernel10Ideal.Gen.frame m ρ,
    fun m ρ _ => Cert.Kernel10Ideal.Gen.frame m ρ, Cert.Win.ref_frame, fun m ρ _ => Cert.Win.ref_frame m ρ trivial,
    fun m ρ _ => Cert.Kernel11.Gen.frame m ρ, fun m ρ _ => Cert.Kernel11Ideal.Gen.frame m ρ, Cert.First.ref_frame,
    fun m ρ _ => Cert.Kernel12.Gen.frame m ρ, fun m ρ _ => Cert.Kernel12Ideal.Gen.frame m ρ, Cert.Act.ref_frame,
    trivial, Cert.Diff.algebraic, trivial, Cert.Gates.algebraic, Cert.Merge.preserves, Cert.Merge.algebraic,
    trivial, Cert.Plain.algebraic, trivial, Cert.Rope5.algebraic, trivial, Cert.Rope6.algebraic,
    trivial, Cert.Last.algebraic, trivial, Cert.Start.algebraic, trivial, Cert.Mods.algebraic, Cert.Win.preserves,
    Cert.Win.algebraic, trivial, Cert.First.algebraic, trivial, Cert.Act.algebraic⟩

end Cert.Proof

end
